-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_scores_inputs [hPre_finite_scores_inputs : Cert.Pre_finite_scores_inputs.Facts] (m : (ℓ : Loc Cert.CrossIdeal.nD Cert.CrossIdeal.τ Cert.CrossIdeal.sig) → Buf (Elt Ideal) ℓ) : Prop :=
  ∀ c : Dev Cert.CrossIdeal.nD,
    (Cert.Pre_finite_scores_inputs.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6))).1 = (fun _ => 1#1)
    ∧ (Cert.Pre_finite_scores_inputs.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6))).2 = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_scores_inputs [hPre_finite_scores_inputs : Cert.Pre_finite_scores_inputs.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_scores_inputs.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6))).1 = (fun _ => 1#1)
    ∧ (Cert.Pre_finite_scores_inputs.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6))).2 = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3)
      ∧ r.2.mem ((c.tc : Thread Cert.Memkv.nD Cert.Memkv.τ).loc Cert.Memkv.main_arg4) = m ((c.tc : Thread Cert.Memkv.nD Cert.Memkv.τ).loc Cert.Memkv.main_arg4))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3)
      ∧ r.2.mem ((c.tc : Thread Cert.MemkvIdeal.nD Cert.MemkvIdeal.τ).loc Cert.MemkvIdeal.main_arg4) = m ((c.tc : Thread Cert.MemkvIdeal.nD Cert.MemkvIdeal.τ).loc Cert.MemkvIdeal.main_arg4))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2)
      ∧ r.2.mem ((c.tc : Thread Cert.MemkvRefIdeal.nD Cert.MemkvRefIdeal.τ).loc Cert.MemkvRefIdeal.main_arg3) = m ((c.tc : Thread Cert.MemkvRefIdeal.nD Cert.MemkvRefIdeal.τ).loc Cert.MemkvRefIdeal.main_arg3)
      ∧ r.2.mem ((c.tc : Thread Cert.MemkvRefIdeal.nD Cert.MemkvRefIdeal.τ).loc Cert.MemkvRefIdeal.main_arg4) = m ((c.tc : Thread Cert.MemkvRefIdeal.nD Cert.MemkvRefIdeal.τ).loc Cert.MemkvRefIdeal.main_arg4))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ r.2.sem = fun _ => 0)

def quiescent_CrossIdeal_pre_finite_scores_inputs [hCrossIdeal : Cert.CrossIdeal.Facts] [hPre_finite_scores_inputs : Cert.Pre_finite_scores_inputs.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_scores_inputs m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6))
      ∧ r.2.sem = fun _ => 0)

def quiescent_CrossRefIdeal_pre_finite_scores_inputs [hCrossRefIdeal : Cert.CrossRefIdeal.Facts] [hPre_finite_scores_inputs : Cert.Pre_finite_scores_inputs.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_scores_inputs m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v18) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Hgrn_HgrnIdeal : Prop :=
  IdealRules.named_const.Statement Cert.HgrnIdeal.κ "log2e" .f32 0x3FB8AA3B#32 (((Real.log 2)⁻¹ : ℝ) : EReal)

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v15) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v5) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)
      ∧ m' ((c.tc : Thread Cert.MemkvRefIdeal.nD Cert.MemkvRefIdeal.τ).loc Cert.MemkvRefIdeal.main_arg3) = m ((c.tc : Thread Cert.MemkvIdeal.nD Cert.MemkvIdeal.τ).loc Cert.MemkvIdeal.main_arg3)
      ∧ m' ((c.tc : Thread Cert.MemkvRefIdeal.nD Cert.MemkvRefIdeal.τ).loc Cert.MemkvRefIdeal.main_arg4) = m ((c.tc : Thread Cert.MemkvIdeal.nD Cert.MemkvIdeal.τ).loc Cert.MemkvIdeal.main_arg4)) →
    ∃ (v0 : (c : Dev Cert.MemkvIdeal.nD) → Buf (Elt Ideal) ((c.tc : Thread Cert.MemkvIdeal.nD Cert.MemkvIdeal.τ).loc Cert.MemkvIdeal.main_v0_0)) (v1 : (c : Dev Cert.MemkvIdeal.nD) → Buf (Elt Ideal) ((c.tc : Thread Cert.MemkvIdeal.nD Cert.MemkvIdeal.τ).loc Cert.MemkvIdeal.main_v0_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v0_0) = v0 c
          ∧ r.2.mem ((c.tc : Thread Cert.MemkvIdeal.nD Cert.MemkvIdeal.τ).loc Cert.MemkvIdeal.main_v0_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3)
          ∧ r.2.mem ((c.tc : Thread Cert.MemkvIdeal.nD Cert.MemkvIdeal.τ).loc Cert.MemkvIdeal.main_arg4) = m ((c.tc : Thread Cert.MemkvIdeal.nD Cert.MemkvIdeal.τ).loc Cert.MemkvIdeal.main_arg4))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v32) = v0 c
          ∧ r.2.mem ((c.tc : Thread Cert.MemkvRefIdeal.nD Cert.MemkvRefIdeal.τ).loc Cert.MemkvRefIdeal.main_v35) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2)
          ∧ r.2.mem ((c.tc : Thread Cert.MemkvRefIdeal.nD Cert.MemkvRefIdeal.τ).loc Cert.MemkvRefIdeal.main_arg3) = m' ((c.tc : Thread Cert.MemkvRefIdeal.nD Cert.MemkvRefIdeal.τ).loc Cert.MemkvRefIdeal.main_arg3)
          ∧ r.2.mem ((c.tc : Thread Cert.MemkvRefIdeal.nD Cert.MemkvRefIdeal.τ).loc Cert.MemkvRefIdeal.main_arg4) = m' ((c.tc : Thread Cert.MemkvRefIdeal.nD Cert.MemkvRefIdeal.τ).loc Cert.MemkvRefIdeal.main_arg4))

def preserves_Cross_CrossIdeal : Prop :=
  True

def algebraic_CrossIdeal_CrossRefIdeal_pre_finite_scores_inputs [hCrossIdeal : Cert.CrossIdeal.Facts] [hCrossRefIdeal : Cert.CrossRefIdeal.Facts] [hPre_finite_scores_inputs : Cert.Pre_finite_scores_inputs.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_scores_inputs m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)) →
    ∃ (v0 : (c : Dev Cert.CrossIdeal.nD) → Buf (Elt Ideal) ((c.tc : Thread Cert.CrossIdeal.nD Cert.CrossIdeal.τ).loc Cert.CrossIdeal.main_v0)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v54) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6))

def Claim : Prop :=
  ∃ (hMlp : Cert.Mlp.Facts) (hMlpIdeal : Cert.MlpIdeal.Facts) (hMlpRefIdeal : Cert.MlpRefIdeal.Facts) (hHgrn : Cert.Hgrn.Facts) (hHgrnIdeal : Cert.HgrnIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hMemkv : Cert.Memkv.Facts) (hMemkvIdeal : Cert.MemkvIdeal.Facts) (hMemkvRefIdeal : Cert.MemkvRefIdeal.Facts) (hCross : Cert.Cross.Facts) (hCrossIdeal : Cert.CrossIdeal.Facts) (hCrossRefIdeal : Cert.CrossRefIdeal.Facts) (hPre_finite_scores_inputs : Cert.Pre_finite_scores_inputs.Facts),
    quiescent_Mlp (hMlp := hMlp)
    ∧ quiescent_MlpIdeal (hMlpIdeal := hMlpIdeal)
    ∧ quiescent_MlpRefIdeal (hMlpRefIdeal := hMlpRefIdeal)
    ∧ quiescent_Hgrn (hHgrn := hHgrn)
    ∧ quiescent_HgrnIdeal (hHgrnIdeal := hHgrnIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Cross (hCross := hCross)
    ∧ quiescent_CrossIdeal (hCrossIdeal := hCrossIdeal)
    ∧ quiescent_CrossIdeal_pre_finite_scores_inputs (hCrossIdeal := hCrossIdeal) (hPre_finite_scores_inputs := hPre_finite_scores_inputs)
    ∧ quiescent_CrossRefIdeal (hCrossRefIdeal := hCrossRefIdeal)
    ∧ quiescent_CrossRefIdeal_pre_finite_scores_inputs (hCrossRefIdeal := hCrossRefIdeal) (hPre_finite_scores_inputs := hPre_finite_scores_inputs)
    ∧ preserves_Mlp_MlpIdeal
    ∧ algebraic_MlpIdeal_MlpRefIdeal (hMlpIdeal := hMlpIdeal) (hMlpRefIdeal := hMlpRefIdeal)
    ∧ preserves_Hgrn_HgrnIdeal
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Memkv_MemkvIdeal
    ∧ algebraic_MemkvIdeal_MemkvRefIdeal (hMemkvIdeal := hMemkvIdeal) (hMemkvRefIdeal := hMemkvRefIdeal)
    ∧ preserves_Cross_CrossIdeal
    ∧ algebraic_CrossIdeal_CrossRefIdeal_pre_finite_scores_inputs (hCrossIdeal := hCrossIdeal) (hCrossRefIdeal := hCrossRefIdeal) (hPre_finite_scores_inputs := hPre_finite_scores_inputs)
-- ==== Pre_finite_scores_inputs.lean ====
abbrev S2x4096x2048 : Shape := ⟨3, ![2, 4096, 2048]⟩
abbrev S1x2048 : Shape := ⟨2, ![1, 2048]⟩
abbrev S1x2048x512 : Shape := ⟨3, ![1, 2048, 512]⟩
abbrev S1x128 : Shape := ⟨2, ![1, 128]⟩
abbrev S2x256x512 : Shape := ⟨3, ![2, 256, 512]⟩
abbrev S1x512x2048 : Shape := ⟨3, ![1, 512, 2048]⟩
abbrev S_ : Shape := ⟨0, ![]⟩

class Facts : Prop where
  bcast_S_S1x128 : S_.BroadcastsInDim S1x128 (![] : Fin 0 → Fin S1x128.rank)
  bcast_S_S2x256x512 : S_.BroadcastsInDim S2x256x512 (![] : Fin 0 → Fin S2x256x512.rank)

variable [Facts]

def fn {F : FTy → Type} [FloatOps F] (main_arg0 : FVec F S2x4096x2048 .f32) (main_arg1 : FVec F S1x2048 .f32) (main_arg2 : FVec F S1x2048x512 .f32) (main_arg3 : FVec F S1x128 .f32) (main_arg4 : FVec F S2x256x512 .bf16) (main_arg5 : FVec F S2x256x512 .bf16) (main_arg6 : FVec F S1x512x2048 .f32) : IVec S1x128 1 × IVec S2x256x512 1 :=
  let main_v0 : FVec F S1x128 .f32 := Host.absf main_arg3
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_v3 : FVec F S2x256x512 .bf16 := Host.absf main_arg4
  let main_cst_0 : FVec F S_ .bf16 := constant S_ .bf16 0x7F80#16
  let main_v4 : FVec F S2x256x512 .bf16 := broadcastInDim S2x256x512 ![] bcast_S_S2x256x512 main_cst_0
  let main_v5 : IVec S2x256x512 1 := cmpf .olt main_v3 main_v4
  (main_v2, main_v5)
-- ==== Mlp.lean ====
abbrev S8192x2048 : Shape := ⟨2, ![8192, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1024x2048, .f32⟩
  | .local _ .vmem, ⟨8, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c4_i32 : BitVec 32 := 4#32
  let v21 : BitVec 32 := Scalar.addi c0_i32_16 c4_i32
  let c1_i32 : BitVec 32 := 1#32
  ⟨c0_i32_16, v21, c1_i32⟩
def k0_mult1 (k0_t1 : Fin k0_t1_loop.trips) : BitVec 32 :=
  let c0_i32_16 : BitVec 32 := 0#32
  let c1_i32 : BitVec 32 := 1#32
  let arg8 : BitVec 32 := Scf.iv c0_i32_16 c1_i32 k0_t1
  let c256_i32 : BitVec 32 := 256#32
  let v24 : BitVec 32 := Scalar.muli arg8 c256_i32
  v24
def k0_off1 (k0_t1 : Fin k0_t1_loop.trips) : Fin 2 → Nat :=
  let c0_i32_16 : BitVec 32 := 0#32
  let c1_i32 : BitVec 32 := 1#32
  let arg8 : BitVec 32 := Scf.iv c0_i32_16 c1_i32 k0_t1
  let c256_i32 : BitVec 32 := 256#32
  let v24 : BitVec 32 := Scalar.muli arg8 c256_i32
  let v25 : BitVec 32 := v24
  let v26 : Index := Scalar.indexCast v25
  let c0_22 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== MlpRefIdeal.lean ====
abbrev S8192x2048 : Shape := ⟨2, ![8192, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩
abbrev S8192x8192 : Shape := ⟨2, ![8192, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S2048x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x2048, .f32⟩
  | .hbm, ⟨26, _⟩ => ⟨S8192x2048, .f32⟩
  | .hbm, ⟨27, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Hgrn.lean ====
abbrev S2x4096x8448 : Shape := ⟨3, ![2, 4096, 8448]⟩
abbrev S2x1024 : Shape := ⟨2, ![2, 1024]⟩
abbrev S1x128 : Shape := ⟨2, ![1, 128]⟩
abbrev S64x64 : Shape := ⟨2, ![64, 64]⟩
abbrev S2x4096x1024 : Shape := ⟨3, ![2, 4096, 1024]⟩
abbrev S1x1024x1024 : Shape := ⟨3, ![1, 1024, 1024]⟩
abbrev S8x128x128 : Shape := ⟨3, ![8, 128, 128]⟩
abbrev S64x1024 : Shape := ⟨2, ![64, 1024]⟩
abbrev S4x64x256 : Shape := ⟨3, ![4, 64, 256]⟩
abbrev S4x1x256 : Shape := ⟨3, ![4, 1, 256]⟩
abbrev S4x6x64x256 : Shape := ⟨4, ![4, 6, 64, 256]⟩
abbrev S4x6x128x256 : Shape := ⟨4, ![4, 6, 128, 256]⟩
abbrev S4x64x128 : Shape := ⟨3, ![4, 64, 128]⟩
abbrev S1024 : Shape := ⟨1, ![1024]⟩
abbrev S1x1024 : Shape := ⟨2, ![1, 1024]⟩
abbrev S64x128 : Shape := ⟨2, ![64, 128]⟩
abbrev S64x256 : Shape := ⟨2, ![64, 256]⟩
abbrev S8x256 : Shape := ⟨2, ![8, 256]⟩
abbrev S128x128 : Shape := ⟨2, ![128, 128]⟩
abbrev S1x64x1024 : Shape := ⟨3, ![1, 64, 1024]⟩
abbrev S1x64x256 : Shape := ⟨3, ![1, 64, 256]⟩
abbrev S1x256 : Shape := ⟨2, ![1, 256]⟩
abbrev S1x1x256 : Shape := ⟨3, ![1, 1, 256]⟩
abbrev S1x1x64x256 : Shape := ⟨4, ![1, 1, 64, 256]⟩
abbrev S1x1x64x128 : Shape := ⟨4, ![1, 1, 64, 128]⟩
abbrev S32x256 : Shape := ⟨2, ![32, 256]⟩
abbrev S16x256 : Shape := ⟨2, ![16, 256]⟩
abbrev S64 : Shape := ⟨1, ![64]⟩
abbrev S64x1 : Shape := ⟨2, ![64, 1]⟩
abbrev S1x64x128 : Shape := ⟨3, ![1, 64, 128]⟩
abbrev S1x1x128x256 : Shape := ⟨4, ![1, 1, 128, 256]⟩
abbrev S128x256 : Shape := ⟨2, ![128, 256]⟩
abbrev S1x128x128 : Shape := ⟨3, ![1, 128, 128]⟩
abbrev S256x256 : Shape := ⟨2, ![256, 256]⟩

abbrev nBuf : Space → Nat
  | .hbm => 5
  | .vmem => 22
  | .smem => 0
  | _ => 0

abbrev bufTy : (tb : Table) → Fin (tcTables nBuf tb) → BufTy
  | .hbm, ⟨0, _⟩ => ⟨S2x4096x8448, .bf16⟩
  | .hbm, ⟨1, _⟩ => ⟨S2x1024, .f32⟩
  | .hbm, ⟨2, _⟩ => ⟨S1x128, .f32⟩
  | .hbm, ⟨3, _⟩ => ⟨S64x64, .bf16⟩
  | .hbm, ⟨4, _⟩ => ⟨S2x4096x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S2x1024, .f32⟩
  | .local _ .vmem, ⟨9, _⟩ => ⟨S1x128, .f32⟩
  | .local _ .vmem, ⟨10, _⟩ => ⟨S64x64, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S8x128x128, .f32⟩
  | .local _ .vmem, ⟨14, _⟩ => ⟨S64x1024, .f32⟩
  | .local _ .vmem, ⟨15, _⟩ => ⟨S4x64x256, .bf16⟩
  | .local _ .vmem, ⟨16, _⟩ => ⟨S4x64x256, .bf16⟩
  | .local _ .vmem, ⟨17, _⟩ => ⟨S4x1x256, .f32⟩
  | .local _ .vmem, ⟨18, _⟩ => ⟨S4x6x64x256, .bf16⟩
  | .local _ .vmem, ⟨19, _⟩ => ⟨S4x6x128x256, .bf16⟩
  | .local _ .vmem, ⟨20, _⟩ => ⟨S4x64x128, .f32⟩
  | .local _ .vmem, ⟨21, _⟩ => ⟨S4x64x128, .bf16⟩
  | _, _ => ⟨S2x4096x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_52 : BitVec 32 := 0#32
  let c16_i32 : BitVec 32 := 16#32
  let v144 : BitVec 32 := Scalar.addi c0_i32_52 c16_i32
  let c1_i32_53 : BitVec 32 := 1#32
  ⟨c0_i32_52, v144, c1_i32_53⟩
def k0_mult1 (k0_t1 : Fin k0_t1_loop.trips) : BitVec 32 :=
  let c0_i32_52 : BitVec 32 := 0#32
  let c1_i32_53 : BitVec 32 := 1#32
  let arg19 : BitVec 32 := Scf.iv c0_i32_52 c1_i32_53 k0_t1
  let c64_i32_55 : BitVec 32 := 64#32
  let v145 : BitVec 32 := Scalar.muli arg19 c64_i32_55
  v145
def k0_off1 (k0_t1 : Fin k0_t1_loop.trips) : Fin 3 → Nat :=
  let c0_56 : Index := 0#32
  let c0_i32_52 : BitVec 32 := 0#32
  let c1_i32_53 : BitVec 32 := 1#32
  let arg19 : BitVec 32 := Scf.iv c0_i32_52 c1_i32_53 k0_t1
  let c64_i32_55 : BitVec 32 := 64#32
  let v145 : BitVec 32 := Scalar.muli arg19 c64_i32_55
  let v146 : BitVec 32 := v145
  let v147 : Index := Scalar.indexCast v146
  let c0_57 : Index := 0#32
  ![0, v147.toNat, 0]
def k0_off2 (k0_t1 : Fin k0_t1_loop.trips) : Fin 3 → Nat :=
  let c0_971 : Index := 0#32
  let c0_i32_52 : BitVec 32 := 0#32
  let c1_i32_53 : BitVec 32 := 1#32
  let arg19 : BitVec 32 := Scf.iv c0_i32_52 c1_i32_53 k0_t1
  let c64_i32_55 : BitVec 32 := 64#32
  let v145 : BitVec 32 := Scalar.muli arg19 c64_i32_55
  let v146 : BitVec 32 := v145
  let v1541 : Index := Scalar.indexCast v146
  let c0_972 : Index := 0#32
  ![0, v1541.toNat, 0]
def k0_off3 (k0_t1 : Fin k0_t1_loop.trips) : Fin 3 → Nat :=
  let c0_1016 : Index := 0#32
  let c0_i32_52 : BitVec 32 := 0#32
  let c1_i32_53 : BitVec 32 := 1#32
  let arg19 : BitVec 32 := Scf.iv c0_i32_52 c1_i32_53 k0_t1
  let c64_i32_55 : BitVec 32 := 64#32
  let v145 : BitVec 32 := Scalar.muli arg19 c64_i32_55
  let v146 : BitVec 32 := v145
  let v1635 : Index := Scalar.indexCast v146
  let c256_1017 : Index := 256#32
  ![0, v1635.toNat, 256]
def k0_off4 (k0_t1 : Fin k0_t1_loop.trips) : Fin 3 → Nat :=
  let c0_1062 : Index := 0#32
  let c0_i32_52 : BitVec 32 := 0#32
  let c1_i32_53 : BitVec 32 := 1#32
  let arg19 : BitVec 32 := Scf.iv c0_i32_52 c1_i32_53 k0_t1
  let c64_i32_55 : BitVec 32 := 64#32
  let v145 : BitVec 32 := Scalar.muli arg19 c64_i32_55
  let v146 : BitVec 32 := v145
  let v1729 : Index := Scalar.indexCast v146
  let c512_1063 : Index := 512#32
  ![0, v1729.toNat, 512]
def k0_off5 (k0_t1 : Fin k0_t1_loop.trips) : Fin 3 → Nat :=
  let c0_1108 : Index := 0#32
  let c0_i32_52 : BitVec 32 := 0#32
  let c1_i32_53 : BitVec 32 := 1#32
  let arg19 : BitVec 32 := Scf.iv c0_i32_52 c1_i32_53 k0_t1
  let c64_i32_55 : BitVec 32 := 64#32
  let v145 : BitVec 32 := Scalar.muli arg19 c64_i32_55
  let v146 : BitVec 32 := v145
  let v1823 : Index := Scalar.indexCast v146
  let c768_1109 : Index := 768#32
  ![0, v1823.toNat, 768]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== HgrnIdeal.lean ====
variable {F : FTy → Type} [FloatOps F] [Named F]
def κ : String → Option EReal := fun
  | "log2e" => some (((Real.log 2)⁻¹ : ℝ) : EReal)
  | _ => none
-- ==== Inproj.lean ====
abbrev S8192x2048 : Shape := ⟨2, ![8192, 2048]⟩
abbrev S1x2048 : Shape := ⟨2, ![1, 2048]⟩
abbrev S1x2048x8272 : Shape := ⟨3, ![1, 2048, 8272]⟩
abbrev S2048x8272 : Shape := ⟨2, ![2048, 8272]⟩
abbrev S8272x2048 : Shape := ⟨2, ![8272, 2048]⟩
abbrev S_ : Shape := ⟨0, ![]⟩
abbrev S8448x2048 : Shape := ⟨2, ![8448, 2048]⟩
abbrev S8192x8448 : Shape := ⟨2, ![8192, 8448]⟩
abbrev S1024x2048 : Shape := ⟨2, ![1024, 2048]⟩
abbrev S768x2048 : Shape := ⟨2, ![768, 2048]⟩
abbrev S2048x768 : Shape := ⟨2, ![2048, 768]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S1x768 : Shape := ⟨2, ![1, 768]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x8272, .f32⟩
  | .hbm, ⟨3, _⟩ => ⟨S2048x8272, .f32⟩
  | .hbm, ⟨4, _⟩ => ⟨S8272x2048, .f32⟩
  | .hbm, ⟨5, _⟩ => ⟨S_, .f32⟩
  | .hbm, ⟨6, _⟩ => ⟨S8448x2048, .f32⟩
  | .hbm, ⟨7, _⟩ => ⟨S8192x8448, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S768x2048, .f32⟩
  | .local _ .vmem, ⟨4, _⟩ => ⟨S768x2048, .f32⟩
  | .local _ .vmem, ⟨5, _⟩ => ⟨S2048x768, .bf16⟩
  | .local _ .vmem, ⟨6, _⟩ => ⟨S2048x768, .bf16⟩
  | .local _ .vmem, ⟨7, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![52], ![false]⟩

def k0_cond1 (i : grid0.Coords) : BitVec 1 :=
  let arg0 : BitVec 32 := BitVec.ofNat 32 (i 0).val
  let c13_i32 : BitVec 32 := 13#32
  let v0 : BitVec 32 := Scalar.remsi arg0 c13_i32
  let c2_i32 : BitVec 32 := 2#32
  let v1 : BitVec 1 := Scalar.cmpi .slt v0 c2_i32
  let v2 : BitVec 32 := Scalar.extui v1
  let c0_i32 : BitVec 32 := 0#32
  let v3 : BitVec 1 := Scalar.cmpi .ne v2 c0_i32
  v3

def k0_mult1 (i : grid0.Coords) : BitVec 32 :=
  let arg0 : BitVec 32 := BitVec.ofNat 32 (i 0).val
  let c13_i32_3 : BitVec 32 := 13#32
  let v8 : BitVec 32 := Scalar.remsi arg0 c13_i32_3
  let c1_i32 : BitVec 32 := 1#32
  let v9 : BitVec 32 := Scalar.minsi v8 c1_i32
  let c1024_i32 : BitVec 32 := 1024#32
  let v10 : BitVec 32 := Scalar.muli v9 c1024_i32
  v10
@[reducible] def k0_t1_loop : Scf.Loop 32 :=
  let c0_i32_5 : BitVec 32 := 0#32
  let c4_i32 : BitVec 32 := 4#32
  let v13 : BitVec 32 := Scalar.addi c0_i32_5 c4_i32
  let c1_i32_6 : BitVec 32 := 1#32
  ⟨c0_i32_5, v13, c1_i32_6⟩
def k0_mult2 (k0_t1 : Fin k0_t1_loop.trips) : BitVec 32 :=
  let c0_i32_5 : BitVec 32 := 0#32
  let c1_i32_6 : BitVec 32 := 1#32
  let arg6 : BitVec 32 := Scf.iv c0_i32_5 c1_i32_6 k0_t1
  let c256_i32 : BitVec 32 := 256#32
  let v14 : BitVec 32 := Scalar.muli arg6 c256_i32
  v14
def k0_off1 (k0_t1 : Fin k0_t1_loop.trips) : Fin 2 → Nat :=
  let c0_i32_5 : BitVec 32 := 0#32
  let c1_i32_6 : BitVec 32 := 1#32
  let arg6 : BitVec 32 := Scf.iv c0_i32_5 c1_i32_6 k0_t1
  let c256_i32 : BitVec 32 := 256#32
  let v14 : BitVec 32 := Scalar.muli arg6 c256_i32
  let v15 : BitVec 32 := v14
  let v16 : Index := Scalar.indexCast v15
  let c0_8 : Index := 0#32
  ![v16.toNat, 0]
def k0_off2 (i : grid0.Coords) : Fin 2 → Nat :=
  let arg0 : BitVec 32 := BitVec.ofNat 32 (i 0).val
  let c13_i32_3 : BitVec 32 := 13#32
  let v8 : BitVec 32 := Scalar.remsi arg0 c13_i32_3
  let c1_i32 : BitVec 32 := 1#32
  let v9 : BitVec 32 := Scalar.minsi v8 c1_i32
  let c1024_i32 : BitVec 32 := 1024#32
  let v10 : BitVec 32 := Scalar.muli v9 c1024_i32
  let v11 : BitVec 32 := v10
  let c0_i32_11 : BitVec 32 := 0#32
  ![v11.toNat, 0]
def k0_off3 (i : grid0.Coords) (k0_t1 : Fin k0_t1_loop.trips) : Fin 2 → Nat :=
  let c0_i32_5 : BitVec 32 := 0#32
  let c1_i32_6 : BitVec 32 := 1#32
  let arg6 : BitVec 32 := Scf.iv c0_i32_5 c1_i32_6 k0_t1
  let c256_i32 : BitVec 32 := 256#32
  let v14 : BitVec 32 := Scalar.muli arg6 c256_i32
  let v15 : BitVec 32 := v14
  let v32 : Index := Scalar.indexCast v15
  let arg0 : BitVec 32 := BitVec.ofNat 32 (i 0).val
  let c13_i32_3 : BitVec 32 := 13#32
  let v8 : BitVec 32 := Scalar.remsi arg0 c13_i32_3
  let c1_i32 : BitVec 32 := 1#32
  let v9 : BitVec 32 := Scalar.minsi v8 c1_i32
  let c1024_i32 : BitVec 32 := 1024#32
  let v10 : BitVec 32 := Scalar.muli v9 c1024_i32
  let v11 : BitVec 32 := v10
  let c0_i32_11 : BitVec 32 := 0#32
  ![Nat.add v32.toNat v11.toNat, 0]
def k0_cond2 (i : grid0.Coords) : BitVec 1 :=
  let arg0 : BitVec 32 := BitVec.ofNat 32 (i 0).val
  let c13_i32_0 : BitVec 32 := 13#32
  let v4 : BitVec 32 := Scalar.remsi arg0 c13_i32_0
  let c2_i32_1 : BitVec 32 := 2#32
  let v5 : BitVec 1 := Scalar.cmpi .sge v4 c2_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c13_i32 : BitVec 32 := 13#32
  let v0 : BitVec 32 := Scalar.divsi arg0 c13_i32
  let c2_i32 : BitVec 32 := 2#32
  let v1 : BitVec 32 := Scalar.muli v0 c2_i32
  let c13_i32_0 : BitVec 32 := 13#32
  let v2 : BitVec 32 := Scalar.remsi arg0 c13_i32_0
  let c1_i32 : BitVec 32 := 1#32
  let v3 : BitVec 32 := Scalar.minsi v2 c1_i32
  let v4 : BitVec 32 := Scalar.addi v1 v3
  let c0_i32 : BitVec 32 := 0#32
  let c0_i32_1 : BitVec 32 := 0#32
  ![v4.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c13_i32 : BitVec 32 := 13#32
  let v0 : BitVec 32 := Scalar.remsi arg0 c13_i32
  let c2_i32 : BitVec 32 := 2#32
  let v1 : BitVec 32 := Scalar.subi v0 c2_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c13_i32 : BitVec 32 := 13#32
  let v0 : BitVec 32 := Scalar.divsi arg0 c13_i32
  let c13_i32_0 : BitVec 32 := 13#32
  let v1 : BitVec 32 := Scalar.remsi arg0 c13_i32_0
  let c2_i32 : BitVec 32 := 2#32
  let v2 : BitVec 32 := Scalar.subi v1 c2_i32
  let c0_i32 : BitVec 32 := 0#32
  let v3 : BitVec 32 := Scalar.maxsi v2 c0_i32
  let c0_i32_1 : BitVec 32 := 0#32
  ![v0.toNat, v3.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InprojRefIdeal.lean ====
abbrev S8192x2048 : Shape := ⟨2, ![8192, 2048]⟩
abbrev S1x2048 : Shape := ⟨2, ![1, 2048]⟩
abbrev S1x2048x8272 : Shape := ⟨3, ![1, 2048, 8272]⟩
abbrev S_ : Shape := ⟨0, ![]⟩
abbrev S8192 : Shape := ⟨1, ![8192]⟩
abbrev S8192x1 : Shape := ⟨2, ![8192, 1]⟩
abbrev S2048x8272 : Shape := ⟨2, ![2048, 8272]⟩
abbrev S8192x8272 : Shape := ⟨2, ![8192, 8272]⟩
abbrev S8192x8448 : Shape := ⟨2, ![8192, 8448]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x8272, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S2048x8272, .f32⟩
  | .hbm, ⟨19, _⟩ => ⟨S8192x8272, .f32⟩
  | .hbm, ⟨20, _⟩ => ⟨S_, .f32⟩
  | .hbm, ⟨21, _⟩ => ⟨S8192x8448, .f32⟩
  | .hbm, ⟨22, _⟩ => ⟨S8192x8448, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Outproj.lean ====
abbrev S8192x1024 : Shape := ⟨2, ![8192, 1024]⟩
abbrev S1x2048x2048 : Shape := ⟨3, ![1, 2048, 2048]⟩
abbrev S8192x2048 : Shape := ⟨2, ![8192, 2048]⟩
abbrev S512x1024 : Shape := ⟨2, ![512, 1024]⟩
abbrev S512x2048 : Shape := ⟨2, ![512, 2048]⟩
abbrev S2048x2048 : Shape := ⟨2, ![2048, 2048]⟩
abbrev S1x256x2048 : Shape := ⟨3, ![1, 256, 2048]⟩
abbrev S256x2048 : Shape := ⟨2, ![256, 2048]⟩
abbrev S1024x2048 : Shape := ⟨2, ![1024, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S8192x2048, .f32⟩
  | .hbm, ⟨4, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S2048x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c8_i32 : BitVec 32 := 8#32
  let v13 : BitVec 32 := Scalar.addi c0_i32_12 c8_i32
  let c1_i32 : BitVec 32 := 1#32
  ⟨c0_i32_12, v13, c1_i32⟩
def k0_mult1 (k0_t1 : Fin k0_t1_loop.trips) : BitVec 32 :=
  let c0_i32_12 : BitVec 32 := 0#32
  let c1_i32 : BitVec 32 := 1#32
  let arg7 : BitVec 32 := Scf.iv c0_i32_12 c1_i32 k0_t1
  let c256_i32 : BitVec 32 := 256#32
  let v14 : BitVec 32 := Scalar.muli arg7 c256_i32
  v14
def k0_off1 (k0_t1 : Fin k0_t1_loop.trips) : Fin 3 → Nat :=
  let c0_14 : Index := 0#32
  let c0_i32_12 : BitVec 32 := 0#32
  let c1_i32 : BitVec 32 := 1#32
  let arg7 : BitVec 32 := Scf.iv c0_i32_12 c1_i32 k0_t1
  let c256_i32 : BitVec 32 := 256#32
  let v14 : BitVec 32 := Scalar.muli arg7 c256_i32
  let v15 : BitVec 32 := v14
  let v16 : Index := Scalar.indexCast v15
  let c0_15 : Index := 0#32
  ![0, v16.toNat, 0]
def k0_off2 (k0_t1 : Fin k0_t1_loop.trips) : Fin 2 → Nat :=
  let c0_i32_12 : BitVec 32 := 0#32
  let c1_i32 : BitVec 32 := 1#32
  let arg7 : BitVec 32 := Scf.iv c0_i32_12 c1_i32 k0_t1
  let c256_i32 : BitVec 32 := 256#32
  let v14 : BitVec 32 := Scalar.muli arg7 c256_i32
  let v15 : BitVec 32 := v14
  let v20 : Index := Scalar.indexCast v15
  let c0_16 : Index := 0#32
  ![v20.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutprojRefIdeal.lean ====
abbrev S8192x1024 : Shape := ⟨2, ![8192, 1024]⟩
abbrev S1x2048x2048 : Shape := ⟨3, ![1, 2048, 2048]⟩
abbrev S8192x2048 : Shape := ⟨2, ![8192, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Memkv.lean ====
abbrev S2x256x2048 : Shape := ⟨3, ![2, 256, 2048]⟩
abbrev S1x2048 : Shape := ⟨2, ![1, 2048]⟩
abbrev S1x2048x512 : Shape := ⟨3, ![1, 2048, 512]⟩
abbrev S1x128 : Shape := ⟨2, ![1, 128]⟩
abbrev S2x256x512 : Shape := ⟨3, ![2, 256, 512]⟩
abbrev S1x256x2048 : Shape := ⟨3, ![1, 256, 2048]⟩
abbrev S1x256x512 : Shape := ⟨3, ![1, 256, 512]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S256x128 : Shape := ⟨2, ![256, 128]⟩
abbrev S1x256x128 : Shape := ⟨3, ![1, 256, 128]⟩

abbrev nBuf : Space → Nat
  | .hbm => 7
  | .vmem => 10
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S1x128, .f32⟩
  | .hbm, ⟨5, _⟩ => ⟨S2x256x512, .bf16⟩
  | .hbm, ⟨6, _⟩ => ⟨S2x256x512, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x128, .f32⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemkvRefIdeal.lean ====
abbrev S2x256x2048 : Shape := ⟨3, ![2, 256, 2048]⟩
abbrev S1x2048 : Shape := ⟨2, ![1, 2048]⟩
abbrev S1x2048x512 : Shape := ⟨3, ![1, 2048, 512]⟩
abbrev S1x128 : Shape := ⟨2, ![1, 128]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2048x512 : Shape := ⟨2, ![2048, 512]⟩
abbrev S2x256x512 : Shape := ⟨3, ![2, 256, 512]⟩
abbrev S2x256x4x128 : Shape := ⟨4, ![2, 256, 4, 128]⟩
abbrev S128 : Shape := ⟨1, ![128]⟩
abbrev S2x256x4 : Shape := ⟨3, ![2, 256, 4]⟩
abbrev S2x256x4x1 : Shape := ⟨4, ![2, 256, 4, 1]⟩
abbrev S1x1x1x128 : Shape := ⟨4, ![1, 1, 1, 128]⟩

abbrev nBuf : Space → Nat
  | .hbm => 47
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S1x128, .f32⟩
  | .hbm, ⟨5, _⟩ => ⟨S2048, .f32⟩
  | .hbm, ⟨6, _⟩ => ⟨S2x256x2048, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x2048, .f32⟩
  | .hbm, ⟨18, _⟩ => ⟨S2x256x2048, .f32⟩
  | .hbm, ⟨19, _⟩ => ⟨S1x1x2048, .f32⟩
  | .hbm, ⟨20, _⟩ => ⟨S2x256x2048, .f32⟩
  | .hbm, ⟨21, _⟩ => ⟨S2x256x2048, .f32⟩
  | .hbm, ⟨22, _⟩ => ⟨S2048x512, .f32⟩
  | .hbm, ⟨23, _⟩ => ⟨S2x256x512, .f32⟩
  | .hbm, ⟨24, _⟩ => ⟨S2x256x4x128, .f32⟩
  | .hbm, ⟨25, _⟩ => ⟨S128, .f32⟩
  | .hbm, ⟨26, _⟩ => ⟨S2x256x4x128, .f32⟩
  | .hbm, ⟨27, _⟩ => ⟨S_, .f32⟩
  | .hbm, ⟨28, _⟩ => ⟨S2x256x4, .f32⟩
  | .hbm, ⟨29, _⟩ => ⟨S2x256x4x1, .f32⟩
  | .hbm, ⟨30, _⟩ => ⟨S_, .f32⟩
  | .hbm, ⟨31, _⟩ => ⟨S2x256x4x1, .f32⟩
  | .hbm, ⟨32, _⟩ => ⟨S2x256x4x1, .f32⟩
  | .hbm, ⟨33, _⟩ => ⟨S_, .f32⟩
  | .hbm, ⟨34, _⟩ => ⟨S2x256x4x1, .f32⟩
  | .hbm, ⟨35, _⟩ => ⟨S2x256x4x1, .f32⟩
  | .hbm, ⟨36, _⟩ => ⟨S2x256x4x1, .f32⟩
  | .hbm, ⟨37, _⟩ => ⟨S2x256x4x128, .f32⟩
  | .hbm, ⟨38, _⟩ => ⟨S2x256x4x128, .f32⟩
  | .hbm, ⟨39, _⟩ => ⟨S1x1x1x128, .f32⟩
  | .hbm, ⟨40, _⟩ => ⟨S2x256x4x128, .f32⟩
  | .hbm, ⟨41, _⟩ => ⟨S2x256x4x128, .f32⟩
  | .hbm, ⟨42, _⟩ => ⟨S2x256x512, .f32⟩
  | .hbm, ⟨43, _⟩ => ⟨S2x256x512, .bf16⟩
  | .hbm, ⟨44, _⟩ => ⟨S2048x512, .f32⟩
  | .hbm, ⟨45, _⟩ => ⟨S2x256x512, .f32⟩
  | .hbm, ⟨46, _⟩ => ⟨S2x256x512, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Cross.lean ====
abbrev S2x4096x2048 : Shape := ⟨3, ![2, 4096, 2048]⟩
abbrev S1x2048 : Shape := ⟨2, ![1, 2048]⟩
abbrev S1x2048x512 : Shape := ⟨3, ![1, 2048, 512]⟩
abbrev S1x128 : Shape := ⟨2, ![1, 128]⟩
abbrev S2x256x512 : Shape := ⟨3, ![2, 256, 512]⟩
abbrev S1x512x2048 : Shape := ⟨3, ![1, 512, 2048]⟩
abbrev S1x1024x2048 : Shape := ⟨3, ![1, 1024, 2048]⟩
abbrev S1x256x512 : Shape := ⟨3, ![1, 256, 512]⟩
abbrev S1024x2048 : Shape := ⟨2, ![1024, 2048]⟩
abbrev S1024x512 : Shape := ⟨2, ![1024, 512]⟩
abbrev S2048x512 : Shape := ⟨2, ![2048, 512]⟩
abbrev S512x2048 : Shape := ⟨2, ![512, 2048]⟩
abbrev S256x512 : Shape := ⟨2, ![256, 512]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S1024x128 : Shape := ⟨2, ![1024, 128]⟩
abbrev S1024 : Shape := ⟨1, ![1024]⟩
abbrev S1024x1 : Shape := ⟨2, ![1024, 1]⟩
abbrev S1x256x128 : Shape := ⟨3, ![1, 256, 128]⟩
abbrev S256x128 : Shape := ⟨2, ![256, 128]⟩
abbrev S1024x256 : Shape := ⟨2, ![1024, 256]⟩

abbrev nBuf : Space → Nat
  | .hbm => 8
  | .vmem => 16
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x512, .f32⟩
  | .hbm, ⟨3, _⟩ => ⟨S1x128, .f32⟩
  | .hbm, ⟨4, _⟩ => ⟨S2x256x512, .bf16⟩
  | .hbm, ⟨5, _⟩ => ⟨S2x256x512, .bf16⟩
  | .hbm, ⟨6, _⟩ => ⟨S1x512x2048, .f32⟩
  | .hbm, ⟨7, _⟩ => ⟨S2x4096x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x512x2048, .f32⟩
  | .local _ .vmem, ⟨10, _⟩ => ⟨S1x1024x2048, .f32⟩
  | .local _ .vmem, ⟨11, _⟩ => ⟨S1x1024x2048, .f32⟩
  | .local _ .vmem, ⟨12, _⟩ => ⟨S1024x2048, .bf16⟩
  | .local _ .vmem, ⟨13, _⟩ => ⟨S1024x512, .bf16⟩
  | .local _ .vmem, ⟨14, _⟩ => ⟨S2048x512, .bf16⟩
  | .local _ .vmem, ⟨15, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_80 : BitVec 32 := 0#32
  let c8_i32 : BitVec 32 := 8#32
  let v158 : BitVec 32 := Scalar.addi c0_i32_80 c8_i32
  let c1_i32_81 : BitVec 32 := 1#32
  ⟨c0_i32_80, v158, c1_i32_81⟩
def k0_mult1 (k0_t1 : Fin k0_t1_loop.trips) : BitVec 32 :=
  let c0_i32_80 : BitVec 32 := 0#32
  let c1_i32_81 : BitVec 32 := 1#32
  let arg14 : BitVec 32 := Scf.iv c0_i32_80 c1_i32_81 k0_t1
  let c256_i32 : BitVec 32 := 256#32
  let v160 : BitVec 32 := Scalar.muli arg14 c256_i32
  v160
def k0_off1 (k0_t1 : Fin k0_t1_loop.trips) : Fin 3 → Nat :=
  let c0_86 : Index := 0#32
  let c0_i32_80 : BitVec 32 := 0#32
  let c1_i32_81 : BitVec 32 := 1#32
  let arg14 : BitVec 32 := Scf.iv c0_i32_80 c1_i32_81 k0_t1
  let c256_i32 : BitVec 32 := 256#32
  let v160 : BitVec 32 := Scalar.muli arg14 c256_i32
  let v161 : BitVec 32 := v160
  let v162 : Index := Scalar.indexCast v161
  let c0_87 : Index := 0#32
  ![0, v162.toNat, 0]
def k0_off2 (k0_t1 : Fin k0_t1_loop.trips) : Fin 2 → Nat :=
  let c0_i32_80 : BitVec 32 := 0#32
  let c1_i32_81 : BitVec 32 := 1#32
  let arg14 : BitVec 32 := Scf.iv c0_i32_80 c1_i32_81 k0_t1
  let c256_i32 : BitVec 32 := 256#32
  let v160 : BitVec 32 := Scalar.muli arg14 c256_i32
  let v161 : BitVec 32 := v160
  let v166 : Index := Scalar.indexCast v161
  let c0_88 : Index := 0#32
  ![v166.toNat, 0]
@[reducible] def k0_t2_loop : Scf.Loop 32 :=
  let c0_i32_83 : BitVec 32 := 0#32
  let c2_i32 : BitVec 32 := 2#32
  let v159 : BitVec 32 := Scalar.addi c0_i32_83 c2_i32
  let c1_i32_84 : BitVec 32 := 1#32
  ⟨c0_i32_83, v159, c1_i32_84⟩
def k0_mult2 (k0_t2 : Fin k0_t2_loop.trips) : BitVec 32 :=
  let c0_i32_83 : BitVec 32 := 0#32
  let c1_i32_84 : BitVec 32 := 1#32
  let arg14 : BitVec 32 := Scf.iv c0_i32_83 c1_i32_84 k0_t2
  let c256_i32 : BitVec 32 := 256#32
  let v160 : BitVec 32 := Scalar.muli arg14 c256_i32
  v160
def k0_off3 (k0_t2 : Fin k0_t2_loop.trips) : Fin 3 → Nat :=
  let c0_86 : Index := 0#32
  let c0_i32_83 : BitVec 32 := 0#32
  let c1_i32_84 : BitVec 32 := 1#32
  let arg14 : BitVec 32 := Scf.iv c0_i32_83 c1_i32_84 k0_t2
  let c256_i32 : BitVec 32 := 256#32
  let v160 : BitVec 32 := Scalar.muli arg14 c256_i32
  let v161 : BitVec 32 := v160
  let v162 : Index := Scalar.indexCast v161
  let c0_87 : Index := 0#32
  ![0, v162.toNat, 0]
def k0_off4 (k0_t2 : Fin k0_t2_loop.trips) : Fin 2 → Nat :=
  let c0_i32_83 : BitVec 32 := 0#32
  let c1_i32_84 : BitVec 32 := 1#32
  let arg14 : BitVec 32 := Scf.iv c0_i32_83 c1_i32_84 k0_t2
  let c256_i32 : BitVec 32 := 256#32
  let v160 : BitVec 32 := Scalar.muli arg14 c256_i32
  let v161 : BitVec 32 := v160
  let v166 : Index := Scalar.indexCast v161
  let c0_88 : Index := 0#32
  ![v166.toNat, 0]
@[reducible] def k0_t3_loop : Scf.Loop 32 :=
  let c0_i32_3 : BitVec 32 := 0#32
  let c4_i32 : BitVec 32 := 4#32
  let v6 : BitVec 32 := Scalar.addi c0_i32_3 c4_i32
  let c1_i32 : BitVec 32 := 1#32
  ⟨c0_i32_3, v6, c1_i32⟩
def k0_mult3 (k0_t3 : Fin k0_t3_loop.trips) : BitVec 32 :=
  let c0_i32_3 : BitVec 32 := 0#32
  let c1_i32 : BitVec 32 := 1#32
  let arg14 : BitVec 32 := Scf.iv c0_i32_3 c1_i32 k0_t3
  let c256_i32 : BitVec 32 := 256#32
  let v158 : BitVec 32 := Scalar.muli arg14 c256_i32
  v158
def k0_off5 (k0_t3 : Fin k0_t3_loop.trips) : Fin 3 → Nat :=
  let c0_80 : Index := 0#32
  let c0_i32_3 : BitVec 32 := 0#32
  let c1_i32 : BitVec 32 := 1#32
  let arg14 : BitVec 32 := Scf.iv c0_i32_3 c1_i32 k0_t3
  let c256_i32 : BitVec 32 := 256#32
  let v158 : BitVec 32 := Scalar.muli arg14 c256_i32
  let v159 : BitVec 32 := v158
  let v160 : Index := Scalar.indexCast v159
  let c0_81 : Index := 0#32
  ![0, v160.toNat, 0]
def k0_off6 (k0_t3 : Fin k0_t3_loop.trips) : Fin 2 → Nat :=
  let c0_i32_3 : BitVec 32 := 0#32
  let c1_i32 : BitVec 32 := 1#32
  let arg14 : BitVec 32 := Scf.iv c0_i32_3 c1_i32 k0_t3
  let c256_i32 : BitVec 32 := 256#32
  let v158 : BitVec 32 := Scalar.muli arg14 c256_i32
  let v159 : BitVec 32 := v158
  let v176 : Index := Scalar.indexCast v159
  let c0_85 : Index := 0#32
  ![v176.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== CrossRefIdeal.lean ====
abbrev S2x4096x2048 : Shape := ⟨3, ![2, 4096, 2048]⟩
abbrev S1x2048 : Shape := ⟨2, ![1, 2048]⟩
abbrev S1x2048x512 : Shape := ⟨3, ![1, 2048, 512]⟩
abbrev S1x128 : Shape := ⟨2, ![1, 128]⟩
abbrev S2x256x512 : Shape := ⟨3, ![2, 256, 512]⟩
abbrev S1x512x2048 : Shape := ⟨3, ![1, 512, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x512 : Shape := ⟨2, ![2048, 512]⟩
abbrev S2x4096x512 : Shape := ⟨3, ![2, 4096, 512]⟩
abbrev S2x4096x4x128 : Shape := ⟨4, ![2, 4096, 4, 128]⟩
abbrev S128 : Shape := ⟨1, ![128]⟩
abbrev S2x4096x4 : Shape := ⟨3, ![2, 4096, 4]⟩
abbrev S2x4096x4x1 : Shape := ⟨4, ![2, 4096, 4, 1]⟩
abbrev S1x1x1x128 : Shape := ⟨4, ![1, 1, 1, 128]⟩
abbrev S2x256x4x128 : Shape := ⟨4, ![2, 256, 4, 128]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S512x2048 : Shape := ⟨2, ![512, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x512, .f32⟩
  | .hbm, ⟨3, _⟩ => ⟨S1x128, .f32⟩
  | .hbm, ⟨4, _⟩ => ⟨S2x256x512, .bf16⟩
  | .hbm, ⟨5, _⟩ => ⟨S2x256x512, .bf16⟩
  | .hbm, ⟨6, _⟩ => ⟨S1x512x2048, .f32⟩
  | .hbm, ⟨7, _⟩ => ⟨S2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S2048x512, .f32⟩
  | .hbm, ⟨25, _⟩ => ⟨S2x4096x512, .f32⟩
  | .hbm, ⟨26, _⟩ => ⟨S2x4096x4x128, .f32⟩
  | .hbm, ⟨27, _⟩ => ⟨S128, .f32⟩
  | .hbm, ⟨28, _⟩ => ⟨S2x4096x4x128, .f32⟩
  | .hbm, ⟨29, _⟩ => ⟨S_, .f32⟩
  | .hbm, ⟨30, _⟩ => ⟨S2x4096x4, .f32⟩
  | .hbm, ⟨31, _⟩ => ⟨S2x4096x4x1, .f32⟩
  | .hbm, ⟨32, _⟩ => ⟨S_, .f32⟩
  | .hbm, ⟨33, _⟩ => ⟨S2x4096x4x1, .f32⟩
  | .hbm, ⟨34, _⟩ => ⟨S2x4096x4x1, .f32⟩
  | .hbm, ⟨35, _⟩ => ⟨S_, .f32⟩
  | .hbm, ⟨36, _⟩ => ⟨S2x4096x4x1, .f32⟩
  | .hbm, ⟨37, _⟩ => ⟨S2x4096x4x1, .f32⟩
  | .hbm, ⟨38, _⟩ => ⟨S2x4096x4x1, .f32⟩
  | .hbm, ⟨39, _⟩ => ⟨S2x4096x4x128, .f32⟩
  | .hbm, ⟨40, _⟩ => ⟨S2x4096x4x128, .f32⟩
  | .hbm, ⟨41, _⟩ => ⟨S1x1x1x128, .f32⟩
  | .hbm, ⟨42, _⟩ => ⟨S2x4096x4x128, .f32⟩
  | .hbm, ⟨43, _⟩ => ⟨S2x4096x4x128, .f32⟩
  | .hbm, ⟨44, _⟩ => ⟨S2x256x512, .f32⟩
  | .hbm, ⟨45, _⟩ => ⟨S2x256x4x128, .f32⟩
  | .hbm, ⟨46, _⟩ => ⟨S2x256x512, .f32⟩
  | .hbm, ⟨47, _⟩ => ⟨S2x256x4x128, .f32⟩
  | .hbm, ⟨48, _⟩ => ⟨S2x4x4096x256, .f32⟩
  | .hbm, ⟨49, _⟩ => ⟨S_, .f32⟩
  | .hbm, ⟨50, _⟩ => ⟨S2x4x4096x256, .f32⟩
  | .hbm, ⟨51, _⟩ => ⟨S2x4x4096x256, .f32⟩
  | .hbm, ⟨52, _⟩ => ⟨S_, .f32⟩
  | .hbm, ⟨53, _⟩ => ⟨S2x4x4096, .f32⟩
  | .hbm, ⟨54, _⟩ => ⟨S_, .f32⟩
  | .hbm, ⟨55, _⟩ => ⟨S2x4x4096, .f32⟩
  | .hbm, ⟨56, _⟩ => ⟨S2x4x4096, .f32⟩
  | .hbm, ⟨57, _⟩ => ⟨S2x4x4096x1, .f32⟩
  | .hbm, ⟨58, _⟩ => ⟨S2x4x4096x256, .f32⟩
  | .hbm, ⟨59, _⟩ => ⟨S2x4x4096x256, .f32⟩
  | .hbm, ⟨60, _⟩ => ⟨S2x4x4096x256, .f32⟩
  | .hbm, ⟨61, _⟩ => ⟨S_, .f32⟩
  | .hbm, ⟨62, _⟩ => ⟨S2x4x4096, .f32⟩
  | .hbm, ⟨63, _⟩ => ⟨S2x4x4096x1, .f32⟩
  | .hbm, ⟨64, _⟩ => ⟨S2x4x4096x256, .f32⟩
  | .hbm, ⟨65, _⟩ => ⟨S2x4x4096x256, .f32⟩
  | .hbm, ⟨66, _⟩ => ⟨S2x4x128x4096, .f32⟩
  | .hbm, ⟨67, _⟩ => ⟨S2x4096x4x128, .f32⟩
  | .hbm, ⟨68, _⟩ => ⟨S2x4096x512, .f32⟩
  | .hbm, ⟨69, _⟩ => ⟨S512x2048, .f32⟩
  | .hbm, ⟨70, _⟩ => ⟨S2x4096x2048, .f32⟩
  | .hbm, ⟨71, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Proof.MlpBlock.lean ====
/- What one grid point of the MLP kernel leaves in its output block and in its scratch, at an index. -/
module

public import proofs.«01_k».proof.Proof.Gen.MlpIdeal.Value
public import Idealize.ShloMosaic.Lib.Pointwise
public import Idealize.ShloMosaic.Lib.ValueIdx

@[expose] public section

noncomputable section

namespace Cert.MlpProof

open Cert.MlpIdeal Cert.MlpIdeal.Gen Idealize.ShloMosaic Idealize.ShloMosaic.TcCoe Idealize.SL.Sem

/-- One entry of a root-mean-square normalised row with its gain. -/
def rmsAt (x g : Fin 2048 → EReal) (k : Fin 2048) : EReal :=
  x k * Ideal.rsqrt (Ideal.div (∑ q : Fin 2048, x q * x q) (Ideal.ofBits .f32 0x45000000#32) + Ideal.ofBits .f32 0x358637BD#32) * g k

theorem pay1_apply (v20 : Vec Ideal S1x2048 .f32) (v27 : Vec Ideal S256x2048 .f32) (r : Fin 256) (k : Fin 2048) :
    k0_pay1 (F := Ideal) v20 v27 (ix2 r k) = rmsAt (fun q => v27 (ix2 r q)) (fun q => v20 (ix2 0 q)) k := by
  unfold k0_pay1 rmsAt
  pointwise! [shapeCast_self]

theorem pay2_apply (v3 : Vec Ideal S1024x2048 .bf16) (v4 : Vec Ideal S1x2048x512 .f32) (v10 : Vec Ideal S1024x2048 .f32) (v14 : Vec Ideal S1x512x2048 .f32) (r : Fin 1024) (d : Fin 2048) :
    k0_pay2 (F := Ideal) v3 v4 v10 v14 (ix2 r d) = v10 (ix2 r d) + ∑ f : Fin 512,
      (max (∑ k : Fin 2048, v3 (ix2 r k) * v4 (ix3 0 k f)) 0 * max (∑ k : Fin 2048, v3 (ix2 r k) * v4 (ix3 0 k f)) 0) * v14 (ix3 0 f d) := by
  unfold k0_pay2
  pointwise! [shapeCast_self]

section Loop
variable (𝒱 : Variants) (c : Dev nD) (bd : Option 𝒱.V) (i : grid0.Coords)
  (arg2 : Memref sig .tc .vmem S1024x2048 .f32) (harg2 : arg2.IsWhole) (arg3 : Memref sig .tc .vmem S1x2048 .f32) (harg3 : arg3.IsWhole)
  (arg4 : Memref sig .tc .vmem S1x2048x512 .f32) (harg4 : arg4.IsWhole) (arg5 : Memref sig .tc .vmem S1x512x2048 .f32) (harg5 : arg5.IsWhole)
  (arg6 : Memref sig .tc .vmem S1024x2048 .f32) (harg6 : arg6.IsWhole) (arg7 : Memref sig .tc .vmem S1024x2048 .bf16) (harg7 : arg7.IsWhole)

theorem trips_eq : k0_t1_loop.trips = 4 := by decide

theorem off1_eq : ∀ k : Fin k0_t1_loop.trips, k0_off1 k = ![256 * k.val, 0] := by decide

/-- One trip of the normalising loop stores one piece: its 256 rows, normalised. -/
theorem tripL_eq (k0_h1 : k0_cond1 i = 1#1) (v20 : Vec Ideal S1x2048 .f32) (X : BufTy.Contents (Elt Ideal) arg2.view.ty) (k : Fin k0_t1_loop.trips) :
    tripL_k0_t1 (F := Ideal) 𝒱 c bd i arg2 harg2 arg3 harg3 arg4 harg4 arg5 harg5 arg6 harg6 arg7 harg7 k0_h1 v20 X k
      = [⟨Rect.unit (s := S1024x2048) (k0_off1 k) S256x2048.size (k0_off1_inb i k k0_h1),
          k0_pay1 v20 (arg2.view.readAt (Elt Ideal) (Rect.unit (s := S1024x2048) (k0_off1 k) S256x2048.size (k0_off1_inb i k k0_h1)).toLoadRect X)⟩] := by
  unfold tripL_k0_t1 trip_k0_t1
  rfl

/-- A trip's payload at an index of its tile is the normalised row at the tile's place in the block. -/
theorem pay1_tile (v20 : Vec Ideal S1x2048 .f32) (x0 : Vec Ideal S1024x2048 .f32) (o : ℕ) (off : Fin 2 → ℕ) (ho : off = ![o, 0])
    (inb : ∀ a, off a + S256x2048.size a ≤ S1024x2048.size a) (x : S256x2048.Idx) :
    k0_pay1 (F := Ideal) v20 (arg2.view.readAt (Elt Ideal) (Rect.unit (s := S1024x2048) off S256x2048.size inb).toLoadRect (harg2.unread x0)) x
      = rmsAt (fun q => x0 (ix2 ((Rect.unit (s := S1024x2048) off S256x2048.size inb).emb x 0) q)) (fun q => v20 (ix2 0 q))
          ((Rect.unit (s := S1024x2048) off S256x2048.size inb).emb x 1) := by
  obtain ⟨r, k, rfl⟩ : ∃ (r : Fin 256) (k : Fin 2048), x = ix2 r k := ⟨x 0, x 1, eq_ix2 x⟩
  subst ho
  rw [pay1_apply, View.readAt_eq_ld, harg2.read_unread]
  have e0 : ∀ q : Fin 2048, View.ld x0 (Rect.unit (s := S1024x2048) ![o, 0] S256x2048.size inb) (ix2 r q)
      = x0 (ix2 ((Rect.unit (s := S1024x2048) ![o, 0] S256x2048.size inb).emb (ix2 r k) 0) q) := by
    intro q
    refine congrArg x0 (funext fun a => Fin.ext ?_)
    match a with
    | ⟨0, _⟩ => rfl
    | ⟨1, _⟩ => show 0 + 1 * q.val = q.val; omega
  have e1 : ((Rect.unit (s := S1024x2048) ![o, 0] S256x2048.size inb).emb (ix2 r k) 1) = k := Fin.ext (by show 0 + 1 * k.val = k.val; omega)
  simp only [e0]
  rw [e1]

/-- Every piece the loop's trips leave is the tile of one function of the block index: the normalised rows. -/
theorem pb_pieces (k0_h1 : k0_cond1 i = 1#1) (v20 : Vec Ideal S1x2048 .f32) (x0 : Vec Ideal S1024x2048 .f32) :
    ∀ n : ℕ, n ≤ k0_t1_loop.trips → ∀ p ∈ pb_k0_t1 (F := Ideal) 𝒱 c bd i arg2 harg2 arg3 harg3 arg4 harg4 arg5 harg5 arg6 harg6 arg7 harg7 k0_h1 v20 (harg2.unread x0) n,
      ∀ x : p.1.shape.Idx, p.2 x = rmsAt (fun q => x0 (ix2 (p.1.emb x 0) q)) (fun q => v20 (ix2 0 q)) (p.1.emb x 1)
  | 0, _, p, hp => by simp [pb_k0_t1] at hp
  | n + 1, hn, p, hp => by
    rw [show n + 1 = (⟨n, hn⟩ : Fin k0_t1_loop.trips).val + 1 from rfl, pb_k0_t1_succ, tripL_eq] at hp
    rcases List.mem_append.mp hp with h | h
    · obtain rfl := List.mem_singleton.mp h
      intro x
      exact pay1_tile arg2 harg2 v20 x0 _ _ (off1_eq ⟨n, hn⟩) _ x
    · exact pb_pieces k0_h1 v20 x0 n (Nat.le_of_lt hn) p h

end Loop

theorem hz2 : (![0, 0] : Fin 2 → Nat) = fun _ => 0 := funext fun a => by fin_cases a <;> rfl
theorem hz3 : (![0, 0, 0] : Fin 3 → Nat) = fun _ => 0 := funext fun a => by fin_cases a <;> rfl

section Points
variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S1x2048x512 .f32) (harg4 : arg4.IsWhole) (arg5 : Memref sig .tc .vmem S1x512x2048 .f32) (harg5 : arg5.IsWhole)
  (arg6 : Memref sig .tc .vmem S1024x2048 .f32) (harg6 : arg6.IsWhole) (arg7 : Memref sig .tc .vmem S1024x2048 .bf16) (harg7 : arg7.IsWhole)
  (x0 : Vec Ideal S1024x2048 .f32) (x1 : Vec Ideal S1x2048 .f32) (x2 : Vec Ideal S1x2048x512 .f32) (x3 : Vec Ideal S1x512x2048 .f32)

/-- The normalised block: what the first point of a row block leaves in the scratch. -/
def hnBlk (x0 : Vec Ideal S1024x2048 .f32) (x1 : Vec Ideal S1x2048 .f32) : Vec Ideal S1024x2048 .bf16 := fun y =>
  rmsAt (fun q => x0 (ix2 (y 0) q)) (fun q => x1 (ix2 0 q)) (y 1)

theorem out_B (hc0 : ¬cond0_0 i) (xo4 : Vec Ideal S1024x2048 .f32) (xs0 : Vec Ideal S1024x2048 .bf16) :
    out0_B_4 (F := Ideal) c i arg2 harg2 arg3 harg3 arg4 harg4 arg5 harg5 arg6 harg6 arg7 harg7 hc0 x0 x1 x2 x3 xo4 xs0 = k0_pay2 xs0 x2 xo4 x3 := by
  unfold out0_B_4
  rw [View.read_writes_eq_canon _ _ _ (cover0_B_4 c i arg2 harg2 arg3 harg3 arg4 harg4 arg5 harg5 arg6 harg6 arg7 harg7 hc0 x0 x1 x2 x3 xo4 xs0)]
  unfold kernelRun0_B
  dsimp only
  sl_unfold_words
  rw [View.canon_unit_zero hz2]
  simp only [View.readAt_eq_ld, harg4.read_unread, harg5.read_unread, harg6.read_unread, harg7.read_unread, View.ld_unit_zero (S := S1024x2048) hz2, View.ld_unit_zero (S := S1x2048x512) hz3, View.ld_unit_zero (S := S1x512x2048) hz3]

theorem sout_A (hc0 : cond0_0 i) :
    sout0_A_0 (F := Ideal) c i arg2 harg2 arg3 harg3 arg4 harg4 arg5 harg5 arg6 harg6 arg7 harg7 hc0 x0 x1 x2 x3 = hnBlk x0 x1 := by
  unfold sout0_A_0
  rw [View.read_writes_eq_canon _ _ _ (scover0_A_0 c i arg2 harg2 arg3 harg3 arg4 harg4 arg5 harg5 arg6 harg6 arg7 harg7 hc0 x0 x1 x2 x3)]
  funext y
  refine View.canon_apply_of_pieces (hnBlk x0 x1) _ ?_ y (scover0_A_0 c i arg2 harg2 arg3 harg3 arg4 harg4 arg5 harg5 arg6 harg6 arg7 harg7 hc0 x0 x1 x2 x3 y)
  unfold kernelRun0_A
  dsimp only
  sl_unfold_words
  simp only [View.readAt_eq_ld, harg3.read_unread, View.ld_unit_zero (S := S1x2048) hz2]
  exact pb_pieces Variants.none c none i arg2 harg2 arg3 harg3 arg4 harg4 arg5 harg5 arg6 harg6 arg7 harg7 hc0 x1 x0 _ le_rfl

include x2 x3 in
/-- The loop's pieces read back are the normalised block. -/
theorem canon_pb (hc0 : cond0_0 i) :
    View.canon (pb_k0_t1 (F := Ideal) Variants.none c none i arg2 harg2 arg3 harg3 arg4 harg4 arg5 harg5 arg6 harg6 arg7 harg7 hc0 x1 (harg2.unread x0) k0_t1_loop.trips) = hnBlk x0 x1 := by
  have h := sout_A c i arg2 harg2 arg3 harg3 arg4 harg4 arg5 harg5 arg6 harg6 arg7 harg7 x0 x1 x2 x3 hc0
  unfold sout0_A_0 at h
  rw [View.read_writes_eq_canon _ _ _ (scover0_A_0 c i arg2 harg2 arg3 harg3 arg4 harg4 arg5 harg5 arg6 harg6 arg7 harg7 hc0 x0 x1 x2 x3)] at h
  unfold kernelRun0_A at h
  dsimp only at h
  simp only [View.readAt_eq_ld, harg3.read_unread, View.ld_unit_zero (S := S1x2048) hz2] at h
  exact h

theorem out_A (hc0 : cond0_0 i) :
    out0_A_4 (F := Ideal) c i arg2 harg2 arg3 harg3 arg4 harg4 arg5 harg5 arg6 harg6 arg7 harg7 hc0 x0 x1 x2 x3 = k0_pay2 (hnBlk x0 x1) x2 x0 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S1024x2048) hz2]
  simp only [View.readAt_eq_ld, harg2.read_unread, harg3.read_unread, harg4.read_unread, harg5.read_unread, View.ld_unit_zero (S := S1x2048) hz2, View.ld_unit_zero (S := S1024x2048) hz2, View.ld_unit_zero (S := S1x2048x512) hz3, View.ld_unit_zero (S := S1x512x2048) hz3]
  have e7 : arg7.view.readCov (pb_k0_t1 (F := Ideal) Variants.none c none i arg2 harg2 arg3 harg3 arg4 harg4 arg5 harg5 arg6 harg6 arg7 harg7 hc0 x1 (harg2.unread x0) k0_t1_loop.trips)
      (Rect.unit (s := S1024x2048) ![0, 0] S1024x2048.size inb_S1024x2048_S1024x2048_0_0).toLoadRect = hnBlk x0 x1 := by
    rw [View.readCov_eq_canon', canon_pb c i arg2 harg2 arg3 harg3 arg4 harg4 arg5 harg5 arg6 harg6 arg7 harg7 x0 x1 x2 x3 hc0]
    exact View.ld_unit_zero (S := S1024x2048) hz2 inb_S1024x2048_S1024x2048_0_0 (hnBlk x0 x1)
  have e6 : arg6.view.readCov [(⟨Rect.unit (s := S1024x2048) ![0, 0] S1024x2048.size inb_S1024x2048_S1024x2048_0_0, x0⟩ : View.Piece (Elt Ideal) S1024x2048 .f32)]
      (Rect.unit (s := S1024x2048) ![0, 0] S1024x2048.size inb_S1024x2048_S1024x2048_0_0).toLoadRect = x0 :=
    View.readCov_unit_zero (S := S1024x2048) _ hz2 inb_S1024x2048_S1024x2048_0_0 x0
  exact congrArg₂ (fun a b => k0_pay2 a x2 b x3) e7 e6

end Points

end Cert.MlpProof
-- ==== Proof.MlpValue.lean ====
/- The MLP kernel's result at an index, and the reference's: both are the input plus the sum over all hidden units. -/
module

public import proofs.«01_k».proof.Proof.MlpBlock
public import proofs.«01_k».proof.Proof.Gen.MlpRefIdeal.Run

@[expose] public section

noncomputable section

namespace Cert.MlpProof

open Cert.MlpIdeal Cert.MlpIdeal.Gen Idealize.ShloMosaic Idealize.ShloMosaic.TcCoe Idealize.SL.Sem
open Cert.MlpIdeal.Value

/-- A sum over `a * b` positions taken block by block. -/
theorem sum_blocks {M : Type} [AddCommMonoid M] (a b : ℕ) [NeZero (a * b)] (f : Fin (a * b) → M) :
    ∑ q : Fin (a * b), f q = ∑ j ∈ Finset.range a, ∑ x : Fin b, f (Fin.ofNat (a * b) (b * j + x.val)) := by
  rw [Finset.sum_range, ← Equiv.sum_comp finProdFinEquiv, Fintype.sum_prod_type]
  refine Finset.sum_congr rfl fun j _ => Finset.sum_congr rfl fun x _ => congrArg f (Fin.ext ?_)
  have h := (finProdFinEquiv (j, x)).isLt
  rw [finProdFinEquiv_apply_val] at h ⊢
  dsimp only at h ⊢
  show x.val + b * j.val = (b * j.val + x.val) % (a * b)
  rw [Nat.mod_eq_of_lt (by omega)]; omega

/-- The hidden unit `f`'s part of the result at row `r`, column `d`. -/
def unitAt (H : Vec Ideal S8192x2048 .f32) (g : Vec Ideal S1x2048 .f32) (wu : Vec Ideal S1x2048x8192 .f32) (wd : Vec Ideal S1x8192x2048 .f32)
    (r : Fin 8192) (d : Fin 2048) (f : Fin 8192) : EReal :=
  (max (∑ k : Fin 2048, rmsAt (fun q => H (ix2 r q)) (fun q => g (ix2 0 q)) k * wu (ix3 0 k f)) 0
    * max (∑ k : Fin 2048, rmsAt (fun q => H (ix2 r q)) (fun q => g (ix2 0 q)) k * wu (ix3 0 k f)) 0) * wd (ix3 0 f d)

variable (m : (ℓ : Loc nD τ sig) → Buf (Elt Ideal) ℓ) (c : Dev nD)

/-- The four arguments as launched. -/
abbrev aH : Vec Ideal S8192x2048 .f32 := m ((c : Thread nD τ).loc main_arg0)
abbrev aG : Vec Ideal S1x2048 .f32 := m ((c : Thread nD τ).loc main_arg1)
abbrev aU : Vec Ideal S1x2048x8192 .f32 := m ((c : Thread nD τ).loc main_arg2)
abbrev aD : Vec Ideal S1x8192x2048 .f32 := m ((c : Thread nD τ).loc main_arg3)

theorem idx0 : ∀ t : Fin cfg0.N, win0_0.index t (0 : Fin 2) = t.val / 16 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = t.val % 16 :=
  (by decide +kernel : ∀ t : Fin grid0.N, _)
theorem idx3 : ∀ t : Fin cfg0.N, win0_3.index t (0 : Fin 3) = 0 ∧ win0_3.index t (1 : Fin 3) = t.val % 16 ∧ win0_3.index t (2 : Fin 3) = 0 :=
  (by decide +kernel : ∀ t : Fin grid0.N, _)

theorem lt128 (t : Fin cfg0.N) : t.val < 128 := lt_of_lt_of_eq t.isLt N_0

theorem blk0 (t : Fin cfg0.N) (r : Fin 1024) (q : Fin 2048) :
    (iblk m c 0 t : Vec Ideal S1024x2048 .f32) (ix2 r q) = aH m c (ix2 (Fin.ofNat 8192 (1024 * (t.val / 16) + r.val)) q) := by
  have ht := lt128 t
  obtain ⟨e0, e1⟩ := idx0 t
  unfold iblk
  rw [View.read_apply]
  show V m c main_arg0 _ = _
  unfold V
  refine congrArg (m _) (funext fun a => Fin.ext ?_)
  match a with
  | ⟨0, _⟩ => show win0_0.index t (0 : Fin 2) * 1024 + 1 * r.val = (1024 * (t.val / 16) + r.val) % 8192; rw [e0]; omega
  | ⟨1, _⟩ => show win0_0.index t (1 : Fin 2) * 2048 + 1 * q.val = q.val; rw [e1]; omega

theorem blk1 (t : Fin cfg0.N) (q : Fin 2048) :
    (iblk m c 1 t : Vec Ideal S1x2048 .f32) (ix2 0 q) = aG m c (ix2 0 q) := by
  obtain ⟨e0, e1⟩ := idx1 t
  unfold iblk
  rw [View.read_apply]
  show V m c main_arg1 _ = _
  unfold V
  refine congrArg (m _) (funext fun a => Fin.ext ?_)
  match a with
  | ⟨0, _⟩ => show win0_1.index t (0 : Fin 2) * 1 + 1 * 0 = 0; rw [e0]
  | ⟨1, _⟩ => show win0_1.index t (1 : Fin 2) * 2048 + 1 * q.val = q.val; rw [e1]; omega

theorem blk2 (t : Fin cfg0.N) (k : Fin 2048) (f : Fin 512) :
    (iblk m c 2 t : Vec Ideal S1x2048x512 .f32) (ix3 0 k f) = aU m c (ix3 0 k (Fin.ofNat 8192 (512 * (t.val % 16) + f.val))) := by
  obtain ⟨e0, e1, e2⟩ := idx2 t
  unfold iblk
  rw [View.read_apply]
  show V m c main_arg2 _ = _
  unfold V
  refine congrArg (m _) (funext fun a => Fin.ext ?_)
  match a with
  | ⟨0, _⟩ => show win0_2.index t (0 : Fin 3) * 1 + 1 * 0 = 0; rw [e0]
  | ⟨1, _⟩ => show win0_2.index t (1 : Fin 3) * 2048 + 1 * k.val = k.val; rw [e1]; omega
  | ⟨2, _⟩ => show win0_2.index t (2 : Fin 3) * 512 + 1 * f.val = (512 * (t.val % 16) + f.val) % 8192; rw [e2]; omega

theorem blk3 (t : Fin cfg0.N) (f : Fin 512) (d : Fin 2048) :
    (iblk m c 3 t : Vec Ideal S1x512x2048 .f32) (ix3 0 f d) = aD m c (ix3 0 (Fin.ofNat 8192 (512 * (t.val % 16) + f.val)) d) := by
  obtain ⟨e0, e1, e2⟩ := idx3 t
  unfold iblk
  rw [View.read_apply]
  show V m c main_arg3 _ = _
  unfold V
  refine congrArg (m _) (funext fun a => Fin.ext ?_)
  match a with
  | ⟨0, _⟩ => show win0_3.index t (0 : Fin 3) * 1 + 1 * 0 = 0; rw [e0]
  | ⟨1, _⟩ => show win0_3.index t (1 : Fin 3) * 512 + 1 * f.val = (512 * (t.val % 16) + f.val) % 8192; rw [e1]; omega
  | ⟨2, _⟩ => show win0_3.index t (2 : Fin 3) * 2048 + 1 * d.val = d.val; rw [e2]; omega

/-- The normalised rows of the block that point `n` works on. -/
def hnAt (n : ℕ) : Vec Ideal S1024x2048 .bf16 := fun y =>
  rmsAt (fun q => aH m c (ix2 (Fin.ofNat 8192 (1024 * (n / 16) + (y 0).val)) q)) (fun q => aG m c (ix2 0 q)) (y 1)

theorem hnBlk_eq (t : Fin cfg0.N) : hnBlk (iblk m c 0 t) (iblk m c 1 t) = hnAt m c t.val := by
  funext y
  obtain ⟨r, k, rfl⟩ : ∃ (r : Fin 1024) (k : Fin 2048), y = ix2 r k := ⟨y 0, y 1, eq_ix2 y⟩
  show rmsAt (fun q => (iblk m c 0 t : Vec Ideal S1024x2048 .f32) (ix2 r q)) (fun q => (iblk m c 1 t : Vec Ideal S1x2048 .f32) (ix2 0 q)) k = _
  simp only [blk0, blk1]
  rfl

/-- One point adds its 512 hidden units to what the block held. -/
theorem step_eq (t : Fin cfg0.N) (acc : Vec Ideal S1024x2048 .f32) (r : Fin 1024) (d : Fin 2048) :
    k0_pay2 (F := Ideal) (hnAt m c t.val) (iblk m c 2 t) acc (iblk m c 3 t) (ix2 r d)
      = acc (ix2 r d) + ∑ f : Fin 512, unitAt (aH m c) (aG m c) (aU m c) (aD m c) (Fin.ofNat 8192 (1024 * (t.val / 16) + r.val)) d (Fin.ofNat 8192 (512 * (t.val % 16) + f.val)) := by
  rw [pay2_apply]
  simp only [blk2, blk3]
  rfl

/-- What the output block and the scratch hold after point `n`. -/
theorem outs_eq : ∀ (n : ℕ) (hn : n < cfg0.N), (outsAt0 m c n hn).2 = hnAt m c n ∧ ∀ (r : Fin 1024) (d : Fin 2048), (outsAt0 m c n hn).1 (ix2 r d)
      = aH m c (ix2 (Fin.ofNat 8192 (1024 * (n / 16) + r.val)) d)
        + ∑ j ∈ Finset.range (n % 16 + 1), ∑ f : Fin 512, unitAt (aH m c) (aG m c) (aU m c) (aD m c) (Fin.ofNat 8192 (1024 * (n / 16) + r.val)) d (Fin.ofNat 8192 (512 * j + f.val)) := by
  intro n
  induction n with
  | zero =>
    intro hn
    have h := outsAt0_A m c ⟨0, hn⟩ (Nat.zero_mod _)
    dsimp only at h
    rw [h]
    refine ⟨(sout_A ..).trans (hnBlk_eq m c ⟨0, hn⟩), fun r d => ?_⟩
    dsimp only
    rw [out_A, hnBlk_eq, step_eq, blk0]
    simp
  | succ n ih =>
    intro hn
    by_cases h0 : (n + 1) % 16 = 0
    · have h := outsAt0_A m c ⟨n + 1, hn⟩ h0
      dsimp only at h
      rw [h]
      refine ⟨(sout_A ..).trans (hnBlk_eq m c ⟨n + 1, hn⟩), fun r d => ?_⟩
      dsimp only
      rw [out_A, hnBlk_eq, step_eq, blk0]
      simp [h0]
    · have h := outsAt0_B m c ⟨n + 1, hn⟩ h0
      dsimp only [Nat.add_sub_cancel] at h
      obtain ⟨i1, i2⟩ := ih (Nat.lt_of_succ_lt hn)
      have eb : (n + 1) / 16 = n / 16 := by omega
      have ej : (n + 1) % 16 = n % 16 + 1 := by omega
      have eh : hnAt m c n = hnAt m c (n + 1) := by unfold hnAt; rw [eb]
      rw [h]
      refine ⟨i1.trans eh, fun r d => ?_⟩
      dsimp only
      rw [out_B]
      refine (congrArg (fun s => k0_pay2 s _ _ _ (ix2 r d)) (i1.trans eh)).trans ?_
      have h2 := step_eq m c ⟨n + 1, hn⟩ (outsAt0 m c n (Nat.lt_of_succ_lt hn)).1 r d
      dsimp only at h2
      refine h2.trans ?_
      rw [i2, eb, ej, Finset.sum_range_succ _ (n % 16 + 1), add_assoc]

/-- The kernel's result at an index. -/
theorem G4_apply (r : Fin 8192) (d : Fin 2048) :
    (G4 m c : Vec Ideal S8192x2048 .f32) (ix2 r d) = aH m c (ix2 r d) + ∑ f : Fin 8192, unitAt (aH m c) (aG m c) (aU m c) (aD m c) r d f := by
  have hr := r.isLt
  have hd := d.isLt
  have hp : pt4Of (ix2 r d) = 16 * (r.val / 1024) + 15 := by
    show 16 * (1 * (r.val / 1024 - 0) + 1 * (d.val / 2048 - 0)) + 15 = _
    omega
  have hlt : pt4Of (ix2 r d) < cfg0.N := lt_of_lt_of_eq (by rw [hp]; omega) N_0.symm
  unfold G4
  rw [dif_pos hlt, ← outsAt0_sweep m c _ hlt]
  have hl : loc4Of (ix2 r d) = ix2 (⟨r.val % 1024, Nat.mod_lt _ (by decide)⟩ : Fin 1024) d := by
    funext a; apply Fin.ext
    match a with
    | ⟨0, _⟩ => rfl
    | ⟨1, _⟩ => show d.val % 2048 = d.val; omega
  rw [hl, (outs_eq m c _ hlt).2, hp]
  have e1 : (16 * (r.val / 1024) + 15) / 16 = r.val / 1024 := by omega
  have e2 : (16 * (r.val / 1024) + 15) % 16 + 1 = 16 := by omega
  have e3 : Fin.ofNat 8192 (1024 * (r.val / 1024) + r.val % 1024) = r := Fin.ext (by show (1024 * (r.val / 1024) + r.val % 1024) % 8192 = r.val; omega)
  rw [e1, e2]
  dsimp only
  rw [e3]
  exact congrArg (aH m c (ix2 r d) + ·) (sum_blocks 16 512 (fun f : Fin 8192 => unitAt (aH m c) (aG m c) (aU m c) (aD m c) r d f)).symm

end Cert.MlpProof
-- ==== Proof.MlpRef.lean ====
/- The MLP reference's result at an index. -/
module

public import proofs.«01_k».proof.Proof.MlpValue

@[expose] public section

noncomputable section

namespace Cert.MlpProof

open Cert.MlpRefIdeal Cert.MlpRefIdeal.Gen Idealize.ShloMosaic Idealize.ShloMosaic.TcCoe Idealize.SL.Sem

theorem ref_apply (a0 : FVec Ideal S8192x2048 .f32) (a1 : FVec Ideal S1x2048 .f32) (a2 : FVec Ideal S1x2048x8192 .f32) (a3 : FVec Ideal S1x8192x2048 .f32)
    (r : Fin 8192) (d : Fin 2048) :
    (addf a0 (Host.dotGeneral dot_S8192x8192_S8192x2048_S8192x2048_1_0_0_1_n_n none (mulf (maximumf (Host.dotGeneral dot_S8192x2048_S2048x8192_S8192x8192_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 a1)) (shapeCast S2048x8192 a2 shapeCasts_S1x2048x8192_S2048x8192)) (broadcastInDim S8192x8192 ![] bcast_S_S8192x8192 (constant S_ .f32 0x00000000#32))) (maximumf (Host.dotGeneral dot_S8192x2048_S2048x8192_S8192x8192_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 a1)) (shapeCast S2048x8192 a2 shapeCasts_S1x2048x8192_S2048x8192)) (broadcastInDim S8192x8192 ![] bcast_S_S8192x8192 (constant S_ .f32 0x00000000#32)))) (shapeCast S8192x2048 a3 shapeCasts_S1x8192x2048_S8192x2048)) : FVec Ideal S8192x2048 .f32) (ix2 r d)
      = a0 (ix2 r d) + ∑ f : Fin 8192, unitAt a0 a1 a2 a3 r d f := by
  unfold unitAt rmsAt
  pointwise!

end Cert.MlpProof
-- ==== Proof.HgrnIdealChunk.lean ====
module

public import proofs.«01_k».proof.Proof.Gen.HgrnIdeal.Loops
public import proofs.«01_k».proof.Proof.Gen.HgrnIdeal.Launch
public import Idealize.ShloMosaic.Lib.Pipeline.FrameBody
public import Idealize.ShloMosaic.Lib.Ring
public import Idealize.ShloMosaic.Lib.Tactic
public import Idealize.ShloMosaic.Lib.WordCmp

/-! One chunk of the recurrence, run at a symbolic trip of the loop, and the loop by its invariant. -/

@[expose] public section

set_option maxRecDepth 16384

noncomputable section

namespace Cert.HgrnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What one chunk reads and writes: the four columns it reads, the output block, the carried state and key tiles at
    given contents, the other scratch at anything. -/
abbrev TripRes (c : Dev nD) (arg2 : Memref sig .tc .vmem S1x1024x1024 .bf16) (arg3 : Memref sig .tc .vmem S1x1024x1024 .bf16) (arg4 : Memref sig .tc .vmem S1x1024x1024 .bf16) (arg5 : Memref sig .tc .vmem S1x1024x1024 .bf16) (arg9 : Memref sig .tc .vmem S1x1024x1024 .bf16) (arg10 : Memref sig .tc .vmem S8x128x128 .f32) (arg11 : Memref sig .tc .vmem S64x1024 .f32) (arg12 : Memref sig .tc .vmem S4x64x256 .bf16) (arg13 : Memref sig .tc .vmem S4x64x256 .bf16) (arg14 : Memref sig .tc .vmem S4x1x256 .f32) (arg15 : Memref sig .tc .vmem S4x6x64x256 .bf16) (arg16 : Memref sig .tc .vmem S4x6x128x256 .bf16) (arg17 : Memref sig .tc .vmem S4x64x128 .f32) (arg18 : Memref sig .tc .vmem S4x64x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f9 : BufTy.Contents (Elt F) arg9.view.ty) (f10 : BufTy.Contents (Elt F) arg10.view.ty) (f16 : BufTy.Contents (Elt F) arg16.view.ty) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg9.view.loc (c : Thread nD τ) ↦[arg9.view.set]{fullShare} f9) ∗ (arg10.view.loc (c : Thread nD τ) ↦[arg10.view.set]{fullShare} f10) ∗ (arg16.view.loc (c : Thread nD τ) ↦[arg16.view.set]{fullShare} f16) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg17.view.loc (c : Thread nD τ) ↦[arg17.view.set]{fullShare} f)) ∗ (∃ f, (arg18.view.loc (c : Thread nD τ) ↦[arg18.view.set]{fullShare} f)))

/-- One chunk's program at a symbolic trip: the pieces it writes into the output block and the contents it leaves in
    the state and in the key tiles are found by the run. -/
@[irreducible] def chunkRun (𝒱 : Variants) (c : Dev nD) (bd : Option 𝒱.V) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S2x1024 .f32) (harg6 : arg6.IsWhole) (arg7 : Memref sig .tc .vmem S1x128 .f32) (harg7 : arg7.IsWhole) (arg8 : Memref sig .tc .vmem S64x64 .bf16) (harg8 : arg8.IsWhole) (arg9 : Memref sig .tc .vmem S1x1024x1024 .bf16) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S4x64x256 .bf16) (harg12 : arg12.IsWhole) (arg13 : Memref sig .tc .vmem S4x64x256 .bf16) (harg13 : arg13.IsWhole) (arg14 : Memref sig .tc .vmem S4x1x256 .f32) (harg14 : arg14.IsWhole) (arg15 : Memref sig .tc .vmem S4x6x64x256 .bf16) (harg15 : arg15.IsWhole) (arg16 : Memref sig .tc .vmem S4x6x128x256 .bf16) (harg16 : arg16.IsWhole) (arg17 : Memref sig .tc .vmem S4x64x128 .f32) (harg17 : arg17.IsWhole) (arg18 : Memref sig .tc .vmem S4x64x128 .bf16) (harg18 : arg18.IsWhole) (v12 : FVec F S1x1024 .f32) (v13 : Vec F S1x128 .f32) (v14 : Vec F S64x64 .bf16) (v15 : IVec S64x128 32) (v18 : IVec S64x128 32) (v20 : IVec S64x128 1) (v21 : IVec S64x128 1) (v40 : IVec S64x128 1) (v59 : IVec S64x128 1) (v78 : IVec S64x128 1) (v97 : IVec S64x128 1) (v116 : IVec S64x128 1) (v121 : IVec S64x128 1) (c0_i32_43 : BitVec 32) (v136 : IVec S64x256 32) (v142 : IVec S8x256 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f10 : BufTy.Contents (Elt F) arg10.view.ty) (f16 : BufTy.Contents (Elt F) arg16.view.ty) (k : Fin k0_t1_loop.trips) :
    Σ' (L9 : List (View.Piece (Elt F) S1x1024x1024 .bf16)) (W10 : List (View.Piece (Elt F) S8x128x128 .f32)), { W16 : List (View.Piece (Elt F) S4x6x128x256 .bf16) //
      ∀ (E : Set ℕ) (f9 : BufTy.Contents (Elt F) arg9.view.ty),
        TripRes (F := F) c arg2 arg3 arg4 arg5 arg9 arg10 arg11 arg12 arg13 arg14 arg15 arg16 arg17 arg18 X_arg2 X_arg3 X_arg4 X_arg5 f9 f10 f16
        ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 k PUnit.unit)
            (fun _ => TripRes (F := F) c arg2 arg3 arg4 arg5 arg9 arg10 arg11 arg12 arg13 arg14 arg15 arg16 arg17 arg18 X_arg2 X_arg3 X_arg4 X_arg5 (arg9.view.writes (Elt F) f9 L9) (arg10.view.writes (Elt F) f10 W10) (arg16.view.writes (Elt F) f16 W16)) } := by
  have hk : k.val < 16 := Nat.lt_of_lt_of_le k.isLt k0_t1_abs.2.1
  refine ⟨?_, ?_, ?_, fun E f9 => ?run⟩
  case run =>
    unfold k0_t1_body
    iintro ⟨HR2, HR3, HR4, HR5, H9, H10, H16, ⟨%f11, H11⟩, ⟨%f12, H12⟩, ⟨%f13, H13⟩, ⟨%f14, H14⟩, ⟨%f15, H15⟩, ⟨%f17, H17⟩, ⟨%f18, H18⟩⟩
    sl_exec_parts
    sl_step
    isplitl [HR2]; · iexact HR2
    isplitl [HR3]; · iexact HR3
    isplitl [HR4]; · iexact HR4
    isplitl [HR5]; · iexact HR5
    isplitl [H9]; · iexact H9
    isplitl [H10]; · iexact H10
    isplitl [H16]; · iexact H16
    isplitl [H11]; · iexists _; iexact H11
    isplitl [H12]; · iexists _; iexact H12
    isplitl [H13]; · iexists _; iexact H13
    isplitl [H14]; · iexists _; iexact H14
    isplitl [H15]; · iexists _; iexact H15
    isplitl [H17]; · iexists _; iexact H17
    iexists _; iexact H18

end Cert.HgrnIdeal.Gen

end
-- ==== Proof.HgrnIdealLoop.lean ====
module

public import proofs.«01_k».proof.Proof.Gen.HgrnIdeal.Loops
public import proofs.«01_k».proof.Proof.HgrnIdealChunk
public import proofs.«01_k».proof.Proof.Gen.HgrnIdeal.Launch
public import Idealize.ShloMosaic.Lib.Pipeline.FrameBody
public import Idealize.ShloMosaic.Lib.Ring
public import Idealize.ShloMosaic.Lib.Tactic
public import Idealize.ShloMosaic.Lib.WordCmp

/-! The loop over the chunks by its invariant, and the body at a grid point. -/

@[expose] public section

set_option maxRecDepth 16384

noncomputable section

namespace Cert.HgrnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The pieces the chunks before chunk `k` have written (last first), from the state and the key tiles as the loop finds
    them: into the output block, the state, the key tiles. -/
def chunkPieces (𝒱 : Variants) (c : Dev nD) (bd : Option 𝒱.V) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S2x1024 .f32) (harg6 : arg6.IsWhole) (arg7 : Memref sig .tc .vmem S1x128 .f32) (harg7 : arg7.IsWhole) (arg8 : Memref sig .tc .vmem S64x64 .bf16) (harg8 : arg8.IsWhole) (arg9 : Memref sig .tc .vmem S1x1024x1024 .bf16) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S4x64x256 .bf16) (harg12 : arg12.IsWhole) (arg13 : Memref sig .tc .vmem S4x64x256 .bf16) (harg13 : arg13.IsWhole) (arg14 : Memref sig .tc .vmem S4x1x256 .f32) (harg14 : arg14.IsWhole) (arg15 : Memref sig .tc .vmem S4x6x64x256 .bf16) (harg15 : arg15.IsWhole) (arg16 : Memref sig .tc .vmem S4x6x128x256 .bf16) (harg16 : arg16.IsWhole) (arg17 : Memref sig .tc .vmem S4x64x128 .f32) (harg17 : arg17.IsWhole) (arg18 : Memref sig .tc .vmem S4x64x128 .bf16) (harg18 : arg18.IsWhole) (v12 : FVec F S1x1024 .f32) (v13 : Vec F S1x128 .f32) (v14 : Vec F S64x64 .bf16) (v15 : IVec S64x128 32) (v18 : IVec S64x128 32) (v20 : IVec S64x128 1) (v21 : IVec S64x128 1) (v40 : IVec S64x128 1) (v59 : IVec S64x128 1) (v78 : IVec S64x128 1) (v97 : IVec S64x128 1) (v116 : IVec S64x128 1) (v121 : IVec S64x128 1) (c0_i32_43 : BitVec 32) (v136 : IVec S64x256 32) (v142 : IVec S8x256 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G10 : BufTy.Contents (Elt F) arg10.view.ty) (G16 : BufTy.Contents (Elt F) arg16.view.ty) : ℕ → List (View.Piece (Elt F) S1x1024x1024 .bf16) × List (View.Piece (Elt F) S8x128x128 .f32) × List (View.Piece (Elt F) S4x6x128x256 .bf16)
  | 0 => ([], [], [])
  | k + 1 =>
    let p := chunkPieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k
    if h : k < k0_t1_loop.trips then
      let r := chunkRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 (arg10.view.writes (Elt F) G10 p.2.1) (arg16.view.writes (Elt F) G16 p.2.2) ⟨k, h⟩
      (r.1 ++ p.1, r.2.1 ++ p.2.1, r.2.2.1 ++ p.2.2)
    else p

theorem chunkPieces_succ (𝒱 : Variants) (c : Dev nD) (bd : Option 𝒱.V) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S2x1024 .f32) (harg6 : arg6.IsWhole) (arg7 : Memref sig .tc .vmem S1x128 .f32) (harg7 : arg7.IsWhole) (arg8 : Memref sig .tc .vmem S64x64 .bf16) (harg8 : arg8.IsWhole) (arg9 : Memref sig .tc .vmem S1x1024x1024 .bf16) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S4x64x256 .bf16) (harg12 : arg12.IsWhole) (arg13 : Memref sig .tc .vmem S4x64x256 .bf16) (harg13 : arg13.IsWhole) (arg14 : Memref sig .tc .vmem S4x1x256 .f32) (harg14 : arg14.IsWhole) (arg15 : Memref sig .tc .vmem S4x6x64x256 .bf16) (harg15 : arg15.IsWhole) (arg16 : Memref sig .tc .vmem S4x6x128x256 .bf16) (harg16 : arg16.IsWhole) (arg17 : Memref sig .tc .vmem S4x64x128 .f32) (harg17 : arg17.IsWhole) (arg18 : Memref sig .tc .vmem S4x64x128 .bf16) (harg18 : arg18.IsWhole) (v12 : FVec F S1x1024 .f32) (v13 : Vec F S1x128 .f32) (v14 : Vec F S64x64 .bf16) (v15 : IVec S64x128 32) (v18 : IVec S64x128 32) (v20 : IVec S64x128 1) (v21 : IVec S64x128 1) (v40 : IVec S64x128 1) (v59 : IVec S64x128 1) (v78 : IVec S64x128 1) (v97 : IVec S64x128 1) (v116 : IVec S64x128 1) (v121 : IVec S64x128 1) (c0_i32_43 : BitVec 32) (v136 : IVec S64x256 32) (v142 : IVec S8x256 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G10 : BufTy.Contents (Elt F) arg10.view.ty) (G16 : BufTy.Contents (Elt F) arg16.view.ty) (k : Fin k0_t1_loop.trips) :
    chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 (k.val + 1)
      = ((chunkRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 (arg10.view.writes (Elt F) G10 (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.1) (arg16.view.writes (Elt F) G16 (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.2) k).1 ++ (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).1,
         (chunkRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 (arg10.view.writes (Elt F) G10 (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.1) (arg16.view.writes (Elt F) G16 (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.2) k).2.1 ++ (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.1,
         (chunkRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 (arg10.view.writes (Elt F) G10 (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.1) (arg16.view.writes (Elt F) G16 (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.2) k).2.2.1 ++ (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.2) := by
  rw [chunkPieces.eq_2]; exact dif_pos k.isLt

theorem chunkPieces_writes9 (𝒱 : Variants) (c : Dev nD) (bd : Option 𝒱.V) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S2x1024 .f32) (harg6 : arg6.IsWhole) (arg7 : Memref sig .tc .vmem S1x128 .f32) (harg7 : arg7.IsWhole) (arg8 : Memref sig .tc .vmem S64x64 .bf16) (harg8 : arg8.IsWhole) (arg9 : Memref sig .tc .vmem S1x1024x1024 .bf16) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S4x64x256 .bf16) (harg12 : arg12.IsWhole) (arg13 : Memref sig .tc .vmem S4x64x256 .bf16) (harg13 : arg13.IsWhole) (arg14 : Memref sig .tc .vmem S4x1x256 .f32) (harg14 : arg14.IsWhole) (arg15 : Memref sig .tc .vmem S4x6x64x256 .bf16) (harg15 : arg15.IsWhole) (arg16 : Memref sig .tc .vmem S4x6x128x256 .bf16) (harg16 : arg16.IsWhole) (arg17 : Memref sig .tc .vmem S4x64x128 .f32) (harg17 : arg17.IsWhole) (arg18 : Memref sig .tc .vmem S4x64x128 .bf16) (harg18 : arg18.IsWhole) (v12 : FVec F S1x1024 .f32) (v13 : Vec F S1x128 .f32) (v14 : Vec F S64x64 .bf16) (v15 : IVec S64x128 32) (v18 : IVec S64x128 32) (v20 : IVec S64x128 1) (v21 : IVec S64x128 1) (v40 : IVec S64x128 1) (v59 : IVec S64x128 1) (v78 : IVec S64x128 1) (v97 : IVec S64x128 1) (v116 : IVec S64x128 1) (v121 : IVec S64x128 1) (c0_i32_43 : BitVec 32) (v136 : IVec S64x256 32) (v142 : IVec S8x256 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G10 : BufTy.Contents (Elt F) arg10.view.ty) (G16 : BufTy.Contents (Elt F) arg16.view.ty) (G : BufTy.Contents (Elt F) arg9.view.ty) (k : Fin k0_t1_loop.trips) :
    arg9.view.writes (Elt F) (arg9.view.writes (Elt F) G (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).1)
      (chunkRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 (arg10.view.writes (Elt F) G10 (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.1) (arg16.view.writes (Elt F) G16 (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.2) k).1
    = arg9.view.writes (Elt F) G (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 (k.val + 1)).1 :=
  (View.writes_append (Val := Elt F) arg9.view G _ _).symm.trans
    (congrArg (arg9.view.writes (Elt F) G) (congrArg (fun p => p.1) (chunkPieces_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k)).symm)

theorem chunkPieces_writes10 (𝒱 : Variants) (c : Dev nD) (bd : Option 𝒱.V) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S2x1024 .f32) (harg6 : arg6.IsWhole) (arg7 : Memref sig .tc .vmem S1x128 .f32) (harg7 : arg7.IsWhole) (arg8 : Memref sig .tc .vmem S64x64 .bf16) (harg8 : arg8.IsWhole) (arg9 : Memref sig .tc .vmem S1x1024x1024 .bf16) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S4x64x256 .bf16) (harg12 : arg12.IsWhole) (arg13 : Memref sig .tc .vmem S4x64x256 .bf16) (harg13 : arg13.IsWhole) (arg14 : Memref sig .tc .vmem S4x1x256 .f32) (harg14 : arg14.IsWhole) (arg15 : Memref sig .tc .vmem S4x6x64x256 .bf16) (harg15 : arg15.IsWhole) (arg16 : Memref sig .tc .vmem S4x6x128x256 .bf16) (harg16 : arg16.IsWhole) (arg17 : Memref sig .tc .vmem S4x64x128 .f32) (harg17 : arg17.IsWhole) (arg18 : Memref sig .tc .vmem S4x64x128 .bf16) (harg18 : arg18.IsWhole) (v12 : FVec F S1x1024 .f32) (v13 : Vec F S1x128 .f32) (v14 : Vec F S64x64 .bf16) (v15 : IVec S64x128 32) (v18 : IVec S64x128 32) (v20 : IVec S64x128 1) (v21 : IVec S64x128 1) (v40 : IVec S64x128 1) (v59 : IVec S64x128 1) (v78 : IVec S64x128 1) (v97 : IVec S64x128 1) (v116 : IVec S64x128 1) (v121 : IVec S64x128 1) (c0_i32_43 : BitVec 32) (v136 : IVec S64x256 32) (v142 : IVec S8x256 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G10 : BufTy.Contents (Elt F) arg10.view.ty) (G16 : BufTy.Contents (Elt F) arg16.view.ty) (G : BufTy.Contents (Elt F) arg10.view.ty) (k : Fin k0_t1_loop.trips) :
    arg10.view.writes (Elt F) (arg10.view.writes (Elt F) G (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.1)
      (chunkRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 (arg10.view.writes (Elt F) G10 (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.1) (arg16.view.writes (Elt F) G16 (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.2) k).2.1
    = arg10.view.writes (Elt F) G (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 (k.val + 1)).2.1 :=
  (View.writes_append (Val := Elt F) arg10.view G _ _).symm.trans
    (congrArg (arg10.view.writes (Elt F) G) (congrArg (fun p => p.2.1) (chunkPieces_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k)).symm)

theorem chunkPieces_writes16 (𝒱 : Variants) (c : Dev nD) (bd : Option 𝒱.V) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S2x1024 .f32) (harg6 : arg6.IsWhole) (arg7 : Memref sig .tc .vmem S1x128 .f32) (harg7 : arg7.IsWhole) (arg8 : Memref sig .tc .vmem S64x64 .bf16) (harg8 : arg8.IsWhole) (arg9 : Memref sig .tc .vmem S1x1024x1024 .bf16) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S4x64x256 .bf16) (harg12 : arg12.IsWhole) (arg13 : Memref sig .tc .vmem S4x64x256 .bf16) (harg13 : arg13.IsWhole) (arg14 : Memref sig .tc .vmem S4x1x256 .f32) (harg14 : arg14.IsWhole) (arg15 : Memref sig .tc .vmem S4x6x64x256 .bf16) (harg15 : arg15.IsWhole) (arg16 : Memref sig .tc .vmem S4x6x128x256 .bf16) (harg16 : arg16.IsWhole) (arg17 : Memref sig .tc .vmem S4x64x128 .f32) (harg17 : arg17.IsWhole) (arg18 : Memref sig .tc .vmem S4x64x128 .bf16) (harg18 : arg18.IsWhole) (v12 : FVec F S1x1024 .f32) (v13 : Vec F S1x128 .f32) (v14 : Vec F S64x64 .bf16) (v15 : IVec S64x128 32) (v18 : IVec S64x128 32) (v20 : IVec S64x128 1) (v21 : IVec S64x128 1) (v40 : IVec S64x128 1) (v59 : IVec S64x128 1) (v78 : IVec S64x128 1) (v97 : IVec S64x128 1) (v116 : IVec S64x128 1) (v121 : IVec S64x128 1) (c0_i32_43 : BitVec 32) (v136 : IVec S64x256 32) (v142 : IVec S8x256 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G10 : BufTy.Contents (Elt F) arg10.view.ty) (G16 : BufTy.Contents (Elt F) arg16.view.ty) (G : BufTy.Contents (Elt F) arg16.view.ty) (k : Fin k0_t1_loop.trips) :
    arg16.view.writes (Elt F) (arg16.view.writes (Elt F) G (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.2)
      (chunkRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 (arg10.view.writes (Elt F) G10 (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.1) (arg16.view.writes (Elt F) G16 (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k.val).2.2) k).2.2.1
    = arg16.view.writes (Elt F) G (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 (k.val + 1)).2.2 :=
  (View.writes_append (Val := Elt F) arg16.view G _ _).symm.trans
    (congrArg (arg16.view.writes (Elt F) G) (congrArg (fun p => p.2.2) (chunkPieces_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k)).symm)

/-- Before chunk `k`: what it reads; the output block, the state and the key tiles with the earlier chunks' pieces over
    what the loop found; the other scratch at anything. -/
abbrev chunkInv (𝒱 : Variants) (c : Dev nD) (bd : Option 𝒱.V) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S2x1024 .f32) (harg6 : arg6.IsWhole) (arg7 : Memref sig .tc .vmem S1x128 .f32) (harg7 : arg7.IsWhole) (arg8 : Memref sig .tc .vmem S64x64 .bf16) (harg8 : arg8.IsWhole) (arg9 : Memref sig .tc .vmem S1x1024x1024 .bf16) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S4x64x256 .bf16) (harg12 : arg12.IsWhole) (arg13 : Memref sig .tc .vmem S4x64x256 .bf16) (harg13 : arg13.IsWhole) (arg14 : Memref sig .tc .vmem S4x1x256 .f32) (harg14 : arg14.IsWhole) (arg15 : Memref sig .tc .vmem S4x6x64x256 .bf16) (harg15 : arg15.IsWhole) (arg16 : Memref sig .tc .vmem S4x6x128x256 .bf16) (harg16 : arg16.IsWhole) (arg17 : Memref sig .tc .vmem S4x64x128 .f32) (harg17 : arg17.IsWhole) (arg18 : Memref sig .tc .vmem S4x64x128 .bf16) (harg18 : arg18.IsWhole) (v12 : FVec F S1x1024 .f32) (v13 : Vec F S1x128 .f32) (v14 : Vec F S64x64 .bf16) (v15 : IVec S64x128 32) (v18 : IVec S64x128 32) (v20 : IVec S64x128 1) (v21 : IVec S64x128 1) (v40 : IVec S64x128 1) (v59 : IVec S64x128 1) (v78 : IVec S64x128 1) (v97 : IVec S64x128 1) (v116 : IVec S64x128 1) (v121 : IVec S64x128 1) (c0_i32_43 : BitVec 32) (v136 : IVec S64x256 32) (v142 : IVec S8x256 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G9 : BufTy.Contents (Elt F) arg9.view.ty) (G10 : BufTy.Contents (Elt F) arg10.view.ty) (G16 : BufTy.Contents (Elt F) arg16.view.ty) (k : ℕ) (_u : PUnit) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (∃ f, (arg9.view.loc (c : Thread nD τ) ↦[arg9.view.set]{fullShare} f) ∗ ⌜f = arg9.view.writes (Elt F) G9 (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k).1⌝)
    ∗ (∃ f, (arg10.view.loc (c : Thread nD τ) ↦[arg10.view.set]{fullShare} f) ∗ ⌜f = arg10.view.writes (Elt F) G10 (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k).2.1⌝)
    ∗ (∃ f, (arg16.view.loc (c : Thread nD τ) ↦[arg16.view.set]{fullShare} f) ∗ ⌜f = arg16.view.writes (Elt F) G16 (chunkPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 k).2.2⌝)
    ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg17.view.loc (c : Thread nD τ) ↦[arg17.view.set]{fullShare} f)) ∗ (∃ f, (arg18.view.loc (c : Thread nD τ) ↦[arg18.view.set]{fullShare} f)))

set_option warn.classDefReducibility false in
/-- The loop over the chunks, by that invariant. -/
@[sl_loop] def chunkLoop (𝒱 : Variants) (c : Dev nD) (bd : Option 𝒱.V) (E : Set ℕ) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S2x1024 .f32) (harg6 : arg6.IsWhole) (arg7 : Memref sig .tc .vmem S1x128 .f32) (harg7 : arg7.IsWhole) (arg8 : Memref sig .tc .vmem S64x64 .bf16) (harg8 : arg8.IsWhole) (arg9 : Memref sig .tc .vmem S1x1024x1024 .bf16) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S4x64x256 .bf16) (harg12 : arg12.IsWhole) (arg13 : Memref sig .tc .vmem S4x64x256 .bf16) (harg13 : arg13.IsWhole) (arg14 : Memref sig .tc .vmem S4x1x256 .f32) (harg14 : arg14.IsWhole) (arg15 : Memref sig .tc .vmem S4x6x64x256 .bf16) (harg15 : arg15.IsWhole) (arg16 : Memref sig .tc .vmem S4x6x128x256 .bf16) (harg16 : arg16.IsWhole) (arg17 : Memref sig .tc .vmem S4x64x128 .f32) (harg17 : arg17.IsWhole) (arg18 : Memref sig .tc .vmem S4x64x128 .bf16) (harg18 : arg18.IsWhole) (v12 : FVec F S1x1024 .f32) (v13 : Vec F S1x128 .f32) (v14 : Vec F S64x64 .bf16) (v15 : IVec S64x128 32) (v18 : IVec S64x128 32) (v20 : IVec S64x128 1) (v21 : IVec S64x128 1) (v40 : IVec S64x128 1) (v59 : IVec S64x128 1) (v78 : IVec S64x128 1) (v97 : IVec S64x128 1) (v116 : IVec S64x128 1) (v121 : IVec S64x128 1) (c0_i32_43 : BitVec 32) (v136 : IVec S64x256 32) (v142 : IVec S8x256 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G9 : BufTy.Contents (Elt F) arg9.view.ty) (G10 : BufTy.Contents (Elt F) arg10.view.ty) (G16 : BufTy.Contents (Elt F) arg16.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 where
  inv := chunkInv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G9 G10 G16
  step k acc := by
    iintro ⟨HR2, HR3, HR4, HR5, ⟨%f9, H9, %h9⟩, ⟨%f10, H10, %h10⟩, ⟨%f16, H16, %h16⟩, H11, H12, H13, H14, H15, H17, H18⟩
    iapply (wp_wand_r Idealize.ShloMosaic.frame (wpE (defs₀ (F := F)) 𝒱 (c : Thread nD τ) bd) E)
    isplitl [HR2 HR3 HR4 HR5 H9 H10 H16 H11 H12 H13 H14 H15 H17 H18]
    · subst h10 h16
      iapply ((chunkRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 _ _ k).2.2.2 E f9)
      isplitl [HR2]; · iexact HR2
      isplitl [HR3]; · iexact HR3
      isplitl [HR4]; · iexact HR4
      isplitl [HR5]; · iexact HR5
      isplitl [H9]; · iexact H9
      isplitl [H10]; · iexact H10
      isplitl [H16]; · iexact H16
      isplitl [H11]; · iexact H11
      isplitl [H12]; · iexact H12
      isplitl [H13]; · iexact H13
      isplitl [H14]; · iexact H14
      isplitl [H15]; · iexact H15
      isplitl [H17]; · iexact H17
      iexact H18
    · iintro %_ ⟨HR2, HR3, HR4, HR5, H9, H10, H16, H11, H12, H13, H14, H15, H17, H18⟩
      isplitl [HR2]; · iexact HR2
      isplitl [HR3]; · iexact HR3
      isplitl [HR4]; · iexact HR4
      isplitl [HR5]; · iexact HR5
      isplitl [H9]
      · iexists _; isplitl [H9]; · iexact H9
        ipureintro; subst h9; exact chunkPieces_writes9 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 G9 k
      isplitl [H10]
      · iexists _; isplitl [H10]; · iexact H10
        ipureintro; exact chunkPieces_writes10 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 G10 k
      isplitl [H16]
      · iexists _; isplitl [H16]; · iexact H16
        ipureintro; exact chunkPieces_writes16 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v13 v14 v15 v18 v20 v21 v40 v59 v78 v97 v116 v121 c0_i32_43 v136 v142 X_arg2 X_arg3 X_arg4 X_arg5 G10 G16 G16 k
      isplitl [H11]; · iexact H11
      isplitl [H12]; · iexact H12
      isplitl [H13]; · iexact H13
      isplitl [H14]; · iexact H14
      isplitl [H15]; · iexact H15
      isplitl [H17]; · iexact H17
      iexact H18

end Cert.HgrnIdeal.Gen

end
-- ==== Proof.HgrnIdealBody.lean ====
module

public import proofs.«01_k».proof.Proof.Gen.HgrnIdeal.Loops
public import proofs.«01_k».proof.Proof.HgrnIdealLoop
public import proofs.«01_k».proof.Proof.Gen.HgrnIdeal.Launch
public import Idealize.ShloMosaic.Lib.Pipeline.FrameBody
public import Idealize.ShloMosaic.Lib.Ring
public import Idealize.ShloMosaic.Lib.Tactic
public import Idealize.ShloMosaic.Lib.WordCmp

/-! The body at a grid point. -/

@[expose] public section

set_option maxRecDepth 16384

noncomputable section

namespace Cert.HgrnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body's branch: the point begins a batch row. -/
abbrev cond0_0 (i : grid0.Coords) : Prop := Scalar.cmpi .ne (Scalar.extui (Scalar.cmpi .eq (BitVec.ofNat 32 (i 1).val) 0#32) : BitVec 32) 0#32 = 1#1
theorem hcond0_0 : ∀ t : Fin cfg0.N, cond0_0 (grid0.coords t) ↔ t.val % 4 = 0 :=
  (by decide +kernel : ∀ t : Fin grid0.N, cond0_0 (grid0.coords t) ↔ t.val % 4 = 0)

set_option backward.proofsInPublic true in
set_option maxHeartbeats 1000000 in
/-- The body at a point that begins a batch row (the state and the key tiles zeroed first): the pieces it leaves. -/
noncomputable def bodyRunA (c : Dev nD) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S2x1024 .f32) (harg6 : arg6.IsWhole) (arg7 : Memref sig .tc .vmem S1x128 .f32) (harg7 : arg7.IsWhole) (arg8 : Memref sig .tc .vmem S64x64 .bf16) (harg8 : arg8.IsWhole) (arg9 : Memref sig .tc .vmem S1x1024x1024 .bf16) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S4x64x256 .bf16) (harg12 : arg12.IsWhole) (arg13 : Memref sig .tc .vmem S4x64x256 .bf16) (harg13 : arg13.IsWhole) (arg14 : Memref sig .tc .vmem S4x1x256 .f32) (harg14 : arg14.IsWhole) (arg15 : Memref sig .tc .vmem S4x6x64x256 .bf16) (harg15 : arg15.IsWhole) (arg16 : Memref sig .tc .vmem S4x6x128x256 .bf16) (harg16 : arg16.IsWhole) (arg17 : Memref sig .tc .vmem S4x64x128 .f32) (harg17 : arg17.IsWhole) (arg18 : Memref sig .tc .vmem S4x64x128 .bf16) (harg18 : arg18.IsWhole) (hc : cond0_0 i)
    (x0 : Vec F S1x1024x1024 .bf16) (x1 : Vec F S1x1024x1024 .bf16) (x2 : Vec F S1x1024x1024 .bf16) (x3 : Vec F S1x1024x1024 .bf16) (x4 : Vec F S2x1024 .f32) (x5 : Vec F S1x128 .f32) (x6 : Vec F S64x64 .bf16) :
    Σ' (L9 : List (View.Piece (Elt F) S1x1024x1024 .bf16)) (L10 : List (View.Piece (Elt F) S8x128x128 .f32)), { L16 : List (View.Piece (Elt F) S4x6x128x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg16 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, (arg9.view.loc (c : Thread nD τ) ↦[arg9.view.set]{fullShare} arg9.view.writes (Elt F) f L9)) ∗ (∃ f, (arg10.view.loc (c : Thread nD τ) ↦[arg10.view.set]{fullShare} arg10.view.writes (Elt F) f L10)) ∗ (∃ f, (arg16.view.loc (c : Thread nD τ) ↦[arg16.view.set]{fullShare} arg16.view.writes (Elt F) f L16)) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_hgrn2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_hgrn2_eq_skeleton]; unfold cc0_hgrn2_skel
    unfold owns
    iintro ⟨⟨%f0, %hf0, H2⟩, ⟨%f1, %hf1, H3⟩, ⟨%f2, %hf2, H4⟩, ⟨%f3, %hf3, H5⟩, ⟨%f4, %hf4, H6⟩, ⟨%f5, %hf5, H7⟩, ⟨%f6, %hf6, H8⟩, ⟨%d9, %f9, -, H9⟩, ⟨%d10, %f10, -, H10⟩, ⟨%d16, %f16, -, H16⟩, ⟨%d11, %g11, -, H11⟩, ⟨%d12, %g12, -, H12⟩, ⟨%d13, %g13, -, H13⟩, ⟨%d14, %g14, -, H14⟩, ⟨%d15, %g15, -, H15⟩, ⟨%d17, %g17, -, H17⟩, ⟨%d18, %g18, -, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H16]; · iexists _; iexact H16
    isplitl [H11]
    · iexists _, _; isplitr; swap
      · iexact H11
      · ipureintro; rfl
    isplitl [H12]
    · iexists _, _; isplitr; swap
      · iexact H12
      · ipureintro; rfl
    isplitl [H13]
    · iexists _, _; isplitr; swap
      · iexact H13
      · ipureintro; rfl
    isplitl [H14]
    · iexists _, _; isplitr; swap
      · iexact H14
      · ipureintro; rfl
    isplitl [H15]
    · iexists _, _; isplitr; swap
      · iexact H15
      · ipureintro; rfl
    isplitl [H17]
    · iexists _, _; isplitr; swap
      · iexact H17
      · ipureintro; rfl
    iexists _, _; isplitr; swap
    · iexact H18
    · ipureintro; rfl

set_option backward.proofsInPublic true in
set_option maxHeartbeats 1000000 in
/-- The body at a point inside a batch row (the state and the key tiles as the point before left them): the pieces it leaves. -/
noncomputable def bodyRunB (c : Dev nD) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S2x1024 .f32) (harg6 : arg6.IsWhole) (arg7 : Memref sig .tc .vmem S1x128 .f32) (harg7 : arg7.IsWhole) (arg8 : Memref sig .tc .vmem S64x64 .bf16) (harg8 : arg8.IsWhole) (arg9 : Memref sig .tc .vmem S1x1024x1024 .bf16) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S4x64x256 .bf16) (harg12 : arg12.IsWhole) (arg13 : Memref sig .tc .vmem S4x64x256 .bf16) (harg13 : arg13.IsWhole) (arg14 : Memref sig .tc .vmem S4x1x256 .f32) (harg14 : arg14.IsWhole) (arg15 : Memref sig .tc .vmem S4x6x64x256 .bf16) (harg15 : arg15.IsWhole) (arg16 : Memref sig .tc .vmem S4x6x128x256 .bf16) (harg16 : arg16.IsWhole) (arg17 : Memref sig .tc .vmem S4x64x128 .f32) (harg17 : arg17.IsWhole) (arg18 : Memref sig .tc .vmem S4x64x128 .bf16) (harg18 : arg18.IsWhole) (hc : ¬cond0_0 i)
    (x0 : Vec F S1x1024x1024 .bf16) (x1 : Vec F S1x1024x1024 .bf16) (x2 : Vec F S1x1024x1024 .bf16) (x3 : Vec F S1x1024x1024 .bf16) (x4 : Vec F S2x1024 .f32) (x5 : Vec F S1x128 .f32) (x6 : Vec F S64x64 .bf16) (xs10 : Vec F S8x128x128 .f32) (xs16 : Vec F S4x6x128x256 .bf16) :
    Σ' (L9 : List (View.Piece (Elt F) S1x1024x1024 .bf16)) (L10 : List (View.Piece (Elt F) S8x128x128 .f32)), { L16 : List (View.Piece (Elt F) S4x6x128x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs10 ∗ owns (c : Thread nD τ) arg16 fullShare xs16 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, (arg9.view.loc (c : Thread nD τ) ↦[arg9.view.set]{fullShare} arg9.view.writes (Elt F) f L9)) ∗ (arg10.view.loc (c : Thread nD τ) ↦[arg10.view.set]{fullShare} arg10.view.writes (Elt F) (harg10.unread xs10) L10) ∗ (arg16.view.loc (c : Thread nD τ) ↦[arg16.view.set]{fullShare} arg16.view.writes (Elt F) (harg16.unread xs16) L16) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_hgrn2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_hgrn2_eq_skeleton]; unfold cc0_hgrn2_skel
    unfold owns
    iintro ⟨⟨%f0, %hf0, H2⟩, ⟨%f1, %hf1, H3⟩, ⟨%f2, %hf2, H4⟩, ⟨%f3, %hf3, H5⟩, ⟨%f4, %hf4, H6⟩, ⟨%f5, %hf5, H7⟩, ⟨%f6, %hf6, H8⟩, ⟨%d9, %f9, -, H9⟩, ⟨%f10, %hf10, H10⟩, ⟨%f16, %hf16, H16⟩, ⟨%d11, %g11, -, H11⟩, ⟨%d12, %g12, -, H12⟩, ⟨%d13, %g13, -, H13⟩, ⟨%d14, %g14, -, H14⟩, ⟨%d15, %g15, -, H15⟩, ⟨%d17, %g17, -, H17⟩, ⟨%d18, %g18, -, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg10.eq_unread hf10; obtain rfl := harg16.eq_unread hf16
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexact H10
    isplitl [H16]; · iexact H16
    isplitl [H11]
    · iexists _, _; isplitr; swap
      · iexact H11
      · ipureintro; rfl
    isplitl [H12]
    · iexists _, _; isplitr; swap
      · iexact H12
      · ipureintro; rfl
    isplitl [H13]
    · iexists _, _; isplitr; swap
      · iexact H13
      · ipureintro; rfl
    isplitl [H14]
    · iexists _, _; isplitr; swap
      · iexact H14
      · ipureintro; rfl
    isplitl [H15]
    · iexists _, _; isplitr; swap
      · iexact H15
      · ipureintro; rfl
    isplitl [H17]
    · iexists _, _; isplitr; swap
      · iexact H17
      · ipureintro; rfl
    iexists _, _; isplitr; swap
    · iexact H18
    · ipureintro; rfl

end Cert.HgrnIdeal.Gen

end
-- ==== Proof.HgrnIdealCover.lean ====
module

public import proofs.«01_k».proof.Proof.Gen.HgrnIdeal.Loops
public import proofs.«01_k».proof.Proof.HgrnIdealBody
public import proofs.«01_k».proof.Proof.Gen.HgrnIdeal.Launch
public import Idealize.ShloMosaic.Lib.Pipeline.FrameBody
public import Idealize.ShloMosaic.Lib.Ring
public import Idealize.ShloMosaic.Lib.Tactic
public import Idealize.ShloMosaic.Lib.WordCmp

/-! What the body leaves covers the output block, and the zero fill covers the carried buffers. -/

@[expose] public section

set_option maxRecDepth 16384

noncomputable section

namespace Cert.HgrnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The pieces of the output block tile it. -/
theorem coverA9 (c : Dev nD) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S2x1024 .f32) (harg6 : arg6.IsWhole) (arg7 : Memref sig .tc .vmem S1x128 .f32) (harg7 : arg7.IsWhole) (arg8 : Memref sig .tc .vmem S64x64 .bf16) (harg8 : arg8.IsWhole) (arg9 : Memref sig .tc .vmem S1x1024x1024 .bf16) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S4x64x256 .bf16) (harg12 : arg12.IsWhole) (arg13 : Memref sig .tc .vmem S4x64x256 .bf16) (harg13 : arg13.IsWhole) (arg14 : Memref sig .tc .vmem S4x1x256 .f32) (harg14 : arg14.IsWhole) (arg15 : Memref sig .tc .vmem S4x6x64x256 .bf16) (harg15 : arg15.IsWhole) (arg16 : Memref sig .tc .vmem S4x6x128x256 .bf16) (harg16 : arg16.IsWhole) (arg17 : Memref sig .tc .vmem S4x64x128 .f32) (harg17 : arg17.IsWhole) (arg18 : Memref sig .tc .vmem S4x64x128 .bf16) (harg18 : arg18.IsWhole) (hc : cond0_0 i)
    (x0 : Vec F S1x1024x1024 .bf16) (x1 : Vec F S1x1024x1024 .bf16) (x2 : Vec F S1x1024x1024 .bf16) (x3 : Vec F S1x1024x1024 .bf16) (x4 : Vec F S2x1024 .f32) (x5 : Vec F S1x128 .f32) (x6 : Vec F S64x64 .bf16) (y : S1x1024x1024.Idx) :
    ∃ pc ∈ (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6).1, y ∈ pc.1.set :=
  View.cover_of_tiledL (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6).1 S1x64x256.size (by sl_kernel_rfl) y

/-- The zero fill at the start covers the whole buffer. -/
theorem coverA10 (c : Dev nD) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S2x1024 .f32) (harg6 : arg6.IsWhole) (arg7 : Memref sig .tc .vmem S1x128 .f32) (harg7 : arg7.IsWhole) (arg8 : Memref sig .tc .vmem S64x64 .bf16) (harg8 : arg8.IsWhole) (arg9 : Memref sig .tc .vmem S1x1024x1024 .bf16) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S4x64x256 .bf16) (harg12 : arg12.IsWhole) (arg13 : Memref sig .tc .vmem S4x64x256 .bf16) (harg13 : arg13.IsWhole) (arg14 : Memref sig .tc .vmem S4x1x256 .f32) (harg14 : arg14.IsWhole) (arg15 : Memref sig .tc .vmem S4x6x64x256 .bf16) (harg15 : arg15.IsWhole) (arg16 : Memref sig .tc .vmem S4x6x128x256 .bf16) (harg16 : arg16.IsWhole) (arg17 : Memref sig .tc .vmem S4x64x128 .f32) (harg17 : arg17.IsWhole) (arg18 : Memref sig .tc .vmem S4x64x128 .bf16) (harg18 : arg18.IsWhole) (hc : cond0_0 i)
    (x0 : Vec F S1x1024x1024 .bf16) (x1 : Vec F S1x1024x1024 .bf16) (x2 : Vec F S1x1024x1024 .bf16) (x3 : Vec F S1x1024x1024 .bf16) (x4 : Vec F S2x1024 .f32) (x5 : Vec F S1x128 .f32) (x6 : Vec F S64x64 .bf16) (y : S8x128x128.Idx) :
    ∃ pc ∈ (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6).2.1, y ∈ pc.1.set := by
  have h : ∃ L w, (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6).2.1 = L ++ [⟨Rect.unit (s := S8x128x128) ![0, 0, 0] S8x128x128.size inb_S8x128x128_S8x128x128_0_0_0, w⟩] := ⟨_, _, rfl⟩
  obtain ⟨L, w, h⟩ := h
  rw [h]
  refine ⟨_, List.mem_append_right _ (List.mem_singleton_self _), ?_⟩
  show y ∈ (Rect.unit (s := S8x128x128) ![0, 0, 0] S8x128x128.size inb_S8x128x128_S8x128x128_0_0_0).set
  rw [Rect.mem_set_unit]
  intro a
  have := (y a).isLt
  fin_cases a <;> exact ⟨Nat.zero_le _, by simpa using this⟩

/-- The zero fill at the start covers the whole buffer. -/
theorem coverA16 (c : Dev nD) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S2x1024 .f32) (harg6 : arg6.IsWhole) (arg7 : Memref sig .tc .vmem S1x128 .f32) (harg7 : arg7.IsWhole) (arg8 : Memref sig .tc .vmem S64x64 .bf16) (harg8 : arg8.IsWhole) (arg9 : Memref sig .tc .vmem S1x1024x1024 .bf16) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S4x64x256 .bf16) (harg12 : arg12.IsWhole) (arg13 : Memref sig .tc .vmem S4x64x256 .bf16) (harg13 : arg13.IsWhole) (arg14 : Memref sig .tc .vmem S4x1x256 .f32) (harg14 : arg14.IsWhole) (arg15 : Memref sig .tc .vmem S4x6x64x256 .bf16) (harg15 : arg15.IsWhole) (arg16 : Memref sig .tc .vmem S4x6x128x256 .bf16) (harg16 : arg16.IsWhole) (arg17 : Memref sig .tc .vmem S4x64x128 .f32) (harg17 : arg17.IsWhole) (arg18 : Memref sig .tc .vmem S4x64x128 .bf16) (harg18 : arg18.IsWhole) (hc : cond0_0 i)
    (x0 : Vec F S1x1024x1024 .bf16) (x1 : Vec F S1x1024x1024 .bf16) (x2 : Vec F S1x1024x1024 .bf16) (x3 : Vec F S1x1024x1024 .bf16) (x4 : Vec F S2x1024 .f32) (x5 : Vec F S1x128 .f32) (x6 : Vec F S64x64 .bf16) (y : S4x6x128x256.Idx) :
    ∃ pc ∈ (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6).2.2.1, y ∈ pc.1.set := by
  have h : ∃ L w, (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6).2.2.1 = L ++ [⟨Rect.unit (s := S4x6x128x256) ![0, 0, 0, 0] S4x6x128x256.size inb_S4x6x128x256_S4x6x128x256_0_0_0_0, w⟩] := ⟨_, _, rfl⟩
  obtain ⟨L, w, h⟩ := h
  rw [h]
  refine ⟨_, List.mem_append_right _ (List.mem_singleton_self _), ?_⟩
  show y ∈ (Rect.unit (s := S4x6x128x256) ![0, 0, 0, 0] S4x6x128x256.size inb_S4x6x128x256_S4x6x128x256_0_0_0_0).set
  rw [Rect.mem_set_unit]
  intro a
  have := (y a).isLt
  fin_cases a <;> exact ⟨Nat.zero_le _, by simpa using this⟩

/-- The pieces of the output block tile it. -/
theorem coverB9 (c : Dev nD) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S2x1024 .f32) (harg6 : arg6.IsWhole) (arg7 : Memref sig .tc .vmem S1x128 .f32) (harg7 : arg7.IsWhole) (arg8 : Memref sig .tc .vmem S64x64 .bf16) (harg8 : arg8.IsWhole) (arg9 : Memref sig .tc .vmem S1x1024x1024 .bf16) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S4x64x256 .bf16) (harg12 : arg12.IsWhole) (arg13 : Memref sig .tc .vmem S4x64x256 .bf16) (harg13 : arg13.IsWhole) (arg14 : Memref sig .tc .vmem S4x1x256 .f32) (harg14 : arg14.IsWhole) (arg15 : Memref sig .tc .vmem S4x6x64x256 .bf16) (harg15 : arg15.IsWhole) (arg16 : Memref sig .tc .vmem S4x6x128x256 .bf16) (harg16 : arg16.IsWhole) (arg17 : Memref sig .tc .vmem S4x64x128 .f32) (harg17 : arg17.IsWhole) (arg18 : Memref sig .tc .vmem S4x64x128 .bf16) (harg18 : arg18.IsWhole) (hc : ¬cond0_0 i)
    (x0 : Vec F S1x1024x1024 .bf16) (x1 : Vec F S1x1024x1024 .bf16) (x2 : Vec F S1x1024x1024 .bf16) (x3 : Vec F S1x1024x1024 .bf16) (x4 : Vec F S2x1024 .f32) (x5 : Vec F S1x128 .f32) (x6 : Vec F S64x64 .bf16) (xs10 : Vec F S8x128x128 .f32) (xs16 : Vec F S4x6x128x256 .bf16) (y : S1x1024x1024.Idx) :
    ∃ pc ∈ (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs10 xs16).1, y ∈ pc.1.set :=
  View.cover_of_tiledL (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs10 xs16).1 S1x64x256.size (by sl_kernel_rfl) y

end Cert.HgrnIdeal.Gen

end
-- ==== Proof.HgrnIdealFrame.lean ====
module

public import proofs.«01_k».proof.Proof.Gen.HgrnIdeal.Loops
public import proofs.«01_k».proof.Proof.HgrnIdealCover
public import Idealize.ShloMosaic.Lib.Claim

public import proofs.«01_k».proof.Proof.Gen.HgrnIdeal.Launch
public import Idealize.ShloMosaic.Lib.Pipeline.FrameBody
public import Idealize.ShloMosaic.Lib.Ring
public import Idealize.ShloMosaic.Lib.Tactic
public import Idealize.ShloMosaic.Lib.WordCmp

/-! The whole call: what the output block, the state and the key tiles hold after each grid point, and the run. -/

@[expose] public section

set_option maxRecDepth 16384

noncomputable section

namespace Cert.HgrnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- The arrays as the region finds them: after the one host operation. -/
abbrev V (c : Dev nD) (b : Ref sig .tc) : Buf (Elt F) ((c : Thread nD τ).loc b) := StableHlo.after hostOps0 (fun b => m (c, b)) b
theorem hostOps0_fresh : (hostOps0 (F := F)).Forall fun op => op.fresh = ∅ := rfl

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_of_ne (c : Dev nD) (b : Ref sig .tc) (hb : b ≠ main_cst) : V m c b = m ((c : Thread nD τ).loc b) :=
  StableHlo.after_of_forall_not_mem (b := Proc.devRef .tc b) _ _ (List.forall_iff_forall_mem.mp (by
    simp only [hostOps0, List.Forall, StableHlo.nullary_writes, Finset.mem_singleton]
    exact StableHlo.devRef_ne_of_ne hb))
theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Nothing reads this: no block of window 0 that the grid reaches is cut. -/
def dflt0_0 : (cfg0.win 0).block.Idx → Elt F (cfg0.win 0).elt := fun _ => FloatOps.ofBits .bf16 0
/-- Window 0's block at a point. -/
def X0_0 (c : Dev nD) (t : Fin cfg0.N) : (cfg0.win 0).block.Idx → Elt F (cfg0.win 0).elt :=
  (cfg0.win 0).fill (cfg0.grid.coords t) dflt0_0 (iblk m c 0 t)
theorem xsize0_0 : ∀ t : Fin cfg0.N, ∀ a, (cfg0.win 0).xsize (cfg0.grid.coords t) a = (cfg0.win 0).size a := by decide +kernel
theorem moved0_0 (t : Fin cfg0.N) (j : (cfg0.win 0).block.Idx) : (cfg0.win 0).moved (cfg0.grid.coords t) j = true :=
  ((cfg0.win 0).moved_iff _ j).mpr fun a => by rw [xsize0_0 t a]; exact (j a).isLt
theorem fill0_0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0_0 t j), dif_pos (moved0_0 t j)]
theorem before0_0_of {c : Dev nD} (dat : Dat τ (Elt F) Unit ℕ (UR sig nD τ) ℕ cfg0 c) (hA : dat.A 0 = V m c (Pipeline.arrRef spec0 0))
    (hafter : ∀ t, dat.after 0 t = X0_0 m c t) (t : Fin cfg0.N) (d) : dat.before 0 t d = X0_0 m c t :=
  (dat.before_in_eq_fetched 0 rfl (fun _ => rfl)
      (fun t t' h => funext fun a => congrArg (fun n => Pipeline.Clip.of n ((cfg0.win 0).size a) (S2x4096x8448.size a)) (congrFun h a))
      (fun t => by rw [hafter]; unfold X0_0; rw [Pipeline.Window.cut_fill]; unfold Dat.blockOf iblk; rw [hA]; try rfl) t d).trans
    (by unfold Dat.fetched X0_0; rw [fill0_0 t d dflt0_0]; unfold Dat.blockOf iblk; rw [hA]; try rfl)
/-- Nothing reads this: no block of window 1 that the grid reaches is cut. -/
def dflt0_1 : (cfg0.win 1).block.Idx → Elt F (cfg0.win 1).elt := fun _ => FloatOps.ofBits .bf16 0
/-- Window 1's block at a point. -/
def X0_1 (c : Dev nD) (t : Fin cfg0.N) : (cfg0.win 1).block.Idx → Elt F (cfg0.win 1).elt :=
  (cfg0.win 1).fill (cfg0.grid.coords t) dflt0_1 (iblk m c 1 t)
theorem xsize0_1 : ∀ t : Fin cfg0.N, ∀ a, (cfg0.win 1).xsize (cfg0.grid.coords t) a = (cfg0.win 1).size a := by decide +kernel
theorem moved0_1 (t : Fin cfg0.N) (j : (cfg0.win 1).block.Idx) : (cfg0.win 1).moved (cfg0.grid.coords t) j = true :=
  ((cfg0.win 1).moved_iff _ j).mpr fun a => by rw [xsize0_1 t a]; exact (j a).isLt
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]
theorem before0_1_of {c : Dev nD} (dat : Dat τ (Elt F) Unit ℕ (UR sig nD τ) ℕ cfg0 c) (hA : dat.A 1 = V m c (Pipeline.arrRef spec0 1))
    (hafter : ∀ t, dat.after 1 t = X0_1 m c t) (t : Fin cfg0.N) (d) : dat.before 1 t d = X0_1 m c t :=
  (dat.before_in_eq_fetched 1 rfl (fun _ => rfl)
      (fun t t' h => funext fun a => congrArg (fun n => Pipeline.Clip.of n ((cfg0.win 1).size a) (S2x4096x8448.size a)) (congrFun h a))
      (fun t => by rw [hafter]; unfold X0_1; rw [Pipeline.Window.cut_fill]; unfold Dat.blockOf iblk; rw [hA]; try rfl) t d).trans
    (by unfold Dat.fetched X0_1; rw [fill0_1 t d dflt0_1]; unfold Dat.blockOf iblk; rw [hA]; try rfl)
/-- Nothing reads this: no block of window 2 that the grid reaches is cut. -/
def dflt0_2 : (cfg0.win 2).block.Idx → Elt F (cfg0.win 2).elt := fun _ => FloatOps.ofBits .bf16 0
/-- Window 2's block at a point. -/
def X0_2 (c : Dev nD) (t : Fin cfg0.N) : (cfg0.win 2).block.Idx → Elt F (cfg0.win 2).elt :=
  (cfg0.win 2).fill (cfg0.grid.coords t) dflt0_2 (iblk m c 2 t)
theorem xsize0_2 : ∀ t : Fin cfg0.N, ∀ a, (cfg0.win 2).xsize (cfg0.grid.coords t) a = (cfg0.win 2).size a := by decide +kernel
theorem moved0_2 (t : Fin cfg0.N) (j : (cfg0.win 2).block.Idx) : (cfg0.win 2).moved (cfg0.grid.coords t) j = true :=
  ((cfg0.win 2).moved_iff _ j).mpr fun a => by rw [xsize0_2 t a]; exact (j a).isLt
theorem fill0_2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (moved0_2 t j), dif_pos (moved0_2 t j)]
theorem before0_2_of {c : Dev nD} (dat : Dat τ (Elt F) Unit ℕ (UR sig nD τ) ℕ cfg0 c) (hA : dat.A 2 = V m c (Pipeline.arrRef spec0 2))
    (hafter : ∀ t, dat.after 2 t = X0_2 m c t) (t : Fin cfg0.N) (d) : dat.before 2 t d = X0_2 m c t :=
  (dat.before_in_eq_fetched 2 rfl (fun _ => rfl)
      (fun t t' h => funext fun a => congrArg (fun n => Pipeline.Clip.of n ((cfg0.win 2).size a) (S2x4096x8448.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)
/-- Nothing reads this: no block of window 3 that the grid reaches is cut. -/
def dflt0_3 : (cfg0.win 3).block.Idx → Elt F (cfg0.win 3).elt := fun _ => FloatOps.ofBits .bf16 0
/-- Window 3's block at a point. -/
def X0_3 (c : Dev nD) (t : Fin cfg0.N) : (cfg0.win 3).block.Idx → Elt F (cfg0.win 3).elt :=
  (cfg0.win 3).fill (cfg0.grid.coords t) dflt0_3 (iblk m c 3 t)
theorem xsize0_3 : ∀ t : Fin cfg0.N, ∀ a, (cfg0.win 3).xsize (cfg0.grid.coords t) a = (cfg0.win 3).size a := by decide +kernel
theorem moved0_3 (t : Fin cfg0.N) (j : (cfg0.win 3).block.Idx) : (cfg0.win 3).moved (cfg0.grid.coords t) j = true :=
  ((cfg0.win 3).moved_iff _ j).mpr fun a => by rw [xsize0_3 t a]; exact (j a).isLt
theorem fill0_3 (t : Fin cfg0.N) (d d' : (cfg0.win 3).block.Idx → Elt F (cfg0.win 3).elt) (g) :
    (cfg0.win 3).fill (cfg0.grid.coords t) d g = (cfg0.win 3).fill (cfg0.grid.coords t) d' g := by
  funext j; unfold Pipeline.Window.fill; rw [dif_pos (moved0_3 t j), dif_pos (moved0_3 t j)]
theorem before0_3_of {c : Dev nD} (dat : Dat τ (Elt F) Unit ℕ (UR sig nD τ) ℕ cfg0 c) (hA : dat.A 3 = V m c (Pipeline.arrRef spec0 3))
    (hafter : ∀ t, dat.after 3 t = X0_3 m c t) (t : Fin cfg0.N) (d) : dat.before 3 t d = X0_3 m c t :=
  (dat.before_in_eq_fetched 3 rfl (fun _ => rfl)
      (fun t t' h => funext fun a => congrArg (fun n => Pipeline.Clip.of n ((cfg0.win 3).size a) (S2x4096x8448.size a)) (congrFun h a))
      (fun t => by rw [hafter]; unfold X0_3; rw [Pipeline.Window.cut_fill]; unfold Dat.blockOf iblk; rw [hA]; try rfl) t d).trans
    (by unfold Dat.fetched X0_3; rw [fill0_3 t d dflt0_3]; unfold Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 4).trans (((dats 0 c).arrAt_in 4 rfl _).trans ((hA c 4).trans (V_main_arg1 m c))),
      ((h c).1 5).trans (((dats 0 c).arrAt_in 5 rfl _).trans ((hA c 5).trans (V_main_arg2 m c)))⟩) h

abbrev ms0_0 (t : Fin cfg0.N) : Memref sig .tc .vmem S1x1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x1024 .bf16 := win0_7.stage (cfg0.slots t 7)
abbrev hs0_7 (t : Fin cfg0.N) : (ms0_7 t).IsWhole := hstage0_7 ((cfg0.slots t 7).cast nbuf0_7)
abbrev scM0_0 : Memref sig .tc .vmem S8x128x128 .f32 := Memref.whole cc0_scratch0
abbrev scM0_1 : Memref sig .tc .vmem S64x1024 .f32 := Memref.whole cc0_scratch1
abbrev scM0_2 : Memref sig .tc .vmem S4x64x256 .bf16 := Memref.whole cc0_scratch2
abbrev scM0_3 : Memref sig .tc .vmem S4x64x256 .bf16 := Memref.whole cc0_scratch3
abbrev scM0_4 : Memref sig .tc .vmem S4x1x256 .f32 := Memref.whole cc0_scratch4
abbrev scM0_5 : Memref sig .tc .vmem S4x6x64x256 .bf16 := Memref.whole cc0_scratch5
abbrev scM0_6 : Memref sig .tc .vmem S4x6x128x256 .bf16 := Memref.whole cc0_scratch6
abbrev scM0_7 : Memref sig .tc .vmem S4x64x128 .f32 := Memref.whole cc0_scratch7
abbrev scM0_8 : Memref sig .tc .vmem S4x64x128 .bf16 := Memref.whole cc0_scratch8
abbrev VO0 : View sig .tc .vmem S1x1024x1024 .bf16 := (Memref.whole cc0_stg7_0 : Memref sig .tc .vmem S1x1024x1024 .bf16).view

/-- The body as the pipeline calls it at a point. -/
abbrev bodyAt0 (t : Fin cfg0.N) : Prog (TpuEff nD τ sig (Elt F) Λ₀ .tc) PUnit :=
  cc0_hgrn2 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _)

/-- The scratch at anything, as owned memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-- The run of a point that begins a batch row, at the point's buffers and blocks. -/
abbrev runA (c : Dev nD) (t : Fin cfg0.N) (h0 : t.val % 4 = 0) :=
  bodyRunA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (X0_0 m c t) (X0_1 m c t) (X0_2 m c t) (X0_3 m c t) (iblk m c 4 t) (iblk m c 5 t) (iblk m c 6 t)
/-- The run of any other point, over the carried state and key tiles. -/
abbrev runB (c : Dev nD) (t : Fin cfg0.N) (h0 : ¬t.val % 4 = 0) (xs10 : Vec F S8x128x128 .f32) (xs16 : Vec F S4x6x128x256 .bf16) :=
  bodyRunB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (X0_0 m c t) (X0_1 m c t) (X0_2 m c t) (X0_3 m c t) (iblk m c 4 t) (iblk m c 5 t) (iblk m c 6 t) xs10 xs16

theorem covA9 (c : Dev nD) (t : Fin cfg0.N) (h0 : t.val % 4 = 0) (y : S1x1024x1024.Idx) : ∃ pc ∈ (runA m c t h0).1, y ∈ pc.1.set :=
  coverA9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (X0_0 m c t) (X0_1 m c t) (X0_2 m c t) (X0_3 m c t) (iblk m c 4 t) (iblk m c 5 t) (iblk m c 6 t) y
theorem covA10 (c : Dev nD) (t : Fin cfg0.N) (h0 : t.val % 4 = 0) (y : S8x128x128.Idx) : ∃ pc ∈ (runA m c t h0).2.1, y ∈ pc.1.set :=
  coverA10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (X0_0 m c t) (X0_1 m c t) (X0_2 m c t) (X0_3 m c t) (iblk m c 4 t) (iblk m c 5 t) (iblk m c 6 t) y
theorem covA16 (c : Dev nD) (t : Fin cfg0.N) (h0 : t.val % 4 = 0) (y : S4x6x128x256.Idx) : ∃ pc ∈ (runA m c t h0).2.2.1, y ∈ pc.1.set :=
  coverA16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (X0_0 m c t) (X0_1 m c t) (X0_2 m c t) (X0_3 m c t) (iblk m c 4 t) (iblk m c 5 t) (iblk m c 6 t) y
theorem covB9 (c : Dev nD) (t : Fin cfg0.N) (h0 : ¬t.val % 4 = 0) (xs10 : Vec F S8x128x128 .f32) (xs16 : Vec F S4x6x128x256 .bf16) (y : S1x1024x1024.Idx) :
    ∃ pc ∈ (runB m c t h0 xs10 xs16).1, y ∈ pc.1.set :=
  coverB9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (X0_0 m c t) (X0_1 m c t) (X0_2 m c t) (X0_3 m c t) (iblk m c 4 t) (iblk m c 5 t) (iblk m c 6 t) xs10 xs16 y

/-- The output block, the state and the key tiles after such a point. -/
def outA (c : Dev nD) (t : Fin cfg0.N) (h0 : t.val % 4 = 0) : Vec F S1x1024x1024 .bf16 × Vec F S8x128x128 .f32 × Vec F S4x6x128x256 .bf16 :=
  (VO0.read (Elt F) (VO0.writes (Elt F) VO0.junk (runA m c t h0).1),
   scM0_0.view.read (Elt F) (scM0_0.view.writes (Elt F) scM0_0.view.junk (runA m c t h0).2.1),
   scM0_6.view.read (Elt F) (scM0_6.view.writes (Elt F) scM0_6.view.junk (runA m c t h0).2.2.1))
def outB (c : Dev nD) (t : Fin cfg0.N) (h0 : ¬t.val % 4 = 0) (xs10 : Vec F S8x128x128 .f32) (xs16 : Vec F S4x6x128x256 .bf16) :
    Vec F S1x1024x1024 .bf16 × Vec F S8x128x128 .f32 × Vec F S4x6x128x256 .bf16 :=
  (VO0.read (Elt F) (VO0.writes (Elt F) VO0.junk (runB m c t h0 xs10 xs16).1),
   scM0_0.view.read (Elt F) (scM0_0.view.writes (Elt F) ((Memref.isWhole_whole (cc0_scratch0 : Ref sig .tc)).unread xs10) (runB m c t h0 xs10 xs16).2.1),
   scM0_6.view.read (Elt F) (scM0_6.view.writes (Elt F) ((Memref.isWhole_whole (cc0_scratch6 : Ref sig .tc)).unread xs16) (runB m c t h0 xs10 xs16).2.2.1))

/-- The output block, the state and the key tiles after each point. -/
def outsAt0 (c : Dev nD) : (n : ℕ) → n < cfg0.N → Vec F S1x1024x1024 .bf16 × Vec F S8x128x128 .f32 × Vec F S4x6x128x256 .bf16
  | 0, hn => outA m c ⟨0, hn⟩ (Nat.zero_mod _)
  | n + 1, hn =>
    if h0 : (n + 1) % 4 = 0 then outA m c ⟨n + 1, hn⟩ h0
    else outB m c ⟨n + 1, hn⟩ h0 (outsAt0 c n (Nat.lt_of_succ_lt hn)).2.1 (outsAt0 c n (Nat.lt_of_succ_lt hn)).2.2

theorem outsAt0_A (c : Dev nD) (t : Fin cfg0.N) (h0 : t.val % 4 = 0) : outsAt0 m c t.val t.isLt = outA m c t h0 := by
  obtain ⟨n, hn⟩ := t
  cases n with
  | zero => exact rfl
  | succ n => exact (dif_pos h0).trans rfl
theorem outsAt0_B (c : Dev nD) (t : Fin cfg0.N) (h0 : ¬t.val % 4 = 0) :
    outsAt0 m c t.val t.isLt = outB m c t h0 (outsAt0 m c (t.val - 1) (Nat.lt_of_le_of_lt (Nat.sub_le _ _) t.isLt)).2.1 (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans rfl

/-- Between points: the state and the key tiles at what the point before left, the other scratch at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2) ∗ (∃ d, owns (c : Thread nD τ) scM0_7 fullShare d) ∗ (∃ d, owns (c : Thread nD τ) scM0_8 fullShare d)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = iprop(iprop(owns (c : Thread nD τ) scM0_0 fullShare ((outsAt0 m c n hn).2.1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2) ∗ (∃ d, owns (c : Thread nD τ) scM0_7 fullShare d) ∗ (∃ d, owns (c : Thread nD τ) scM0_8 fullShare d)) ∗ (∃ r, prngReg c r)) := rfl
theorem PhiS_pos (c : Dev nD) (n : ℕ) (h : n ≤ cfg0.N) (hz : n ≠ 0) : PhiS m c n h = iprop(iprop(owns (c : Thread nD τ) scM0_0 fullShare ((outsAt0 m c (n - 1) (by omega)).2.1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c (n - 1) (by omega)).2.2) ∗ (∃ d, owns (c : Thread nD τ) scM0_7 fullShare d) ∗ (∃ d, owns (c : Thread nD τ) scM0_8 fullShare d)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  by_cases h0 : t.val % 4 = 0
  · by_cases hz : t.val = 0
    · rw [PhiS_castSucc m c t, PhiS_zero m c _ _ hz, PhiA0_eq]
      rw [outsAt0_A m c t h0]
      unfold outA; dsimp only
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS6]; · iexact HS6
      isplitl [HS1]; · iexact HS1
      isplitl [HS2]; · iexact HS2
      isplitl [HS3]; · iexact HS3
      isplitl [HS4]; · iexact HS4
      isplitl [HS5]; · iexact HS5
      isplitl [HS7]; · iexact HS7
      isplitl [HS8]; · iexact HS8
      iintro ⟨H0, H1, H2, H3, H4, H5, H6, ⟨%e7, H7⟩, ⟨%e10, HS0⟩, ⟨%e16, HS6⟩, HS1, HS2, HS3, HS4, HS5, HS7, HS8⟩
      isplitl [HS0 HS1 HS2 HS3 HS4 HS5 HS6 HS7 HS8 Hg]
      · isplitl [HS0 HS1 HS2 HS3 HS4 HS5 HS6 HS7 HS8]
        · isplitl [HS0]
          · unfold owns; iexists _; isplitr
            swap; · iexact HS0
            ipureintro; exact View.read_writes_of_cover _ _ _ _ _ (covA10 m c t h0)
          isplitl [HS1]; · iexact HS1
          isplitl [HS2]; · iexact HS2
          isplitl [HS3]; · iexact HS3
          isplitl [HS4]; · iexact HS4
          isplitl [HS5]; · iexact HS5
          isplitl [HS6]
          · unfold owns; iexists _; isplitr
            swap; · iexact HS6
            ipureintro; exact View.read_writes_of_cover _ _ _ _ _ (covA16 m c t h0)
          isplitl [HS7]; · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (covA9 m c t h0)
    · rw [PhiS_castSucc m c t, PhiS_pos m c _ _ hz]
      rw [outsAt0_A m c t h0]
      unfold outA; dsimp only
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS6]; · iexists _; iexact HS6
      isplitl [HS1]; · iexact HS1
      isplitl [HS2]; · iexact HS2
      isplitl [HS3]; · iexact HS3
      isplitl [HS4]; · iexact HS4
      isplitl [HS5]; · iexact HS5
      isplitl [HS7]; · iexact HS7
      isplitl [HS8]; · iexact HS8
      iintro ⟨H0, H1, H2, H3, H4, H5, H6, ⟨%e7, H7⟩, ⟨%e10, HS0⟩, ⟨%e16, HS6⟩, HS1, HS2, HS3, HS4, HS5, HS7, HS8⟩
      isplitl [HS0 HS1 HS2 HS3 HS4 HS5 HS6 HS7 HS8 Hg]
      · isplitl [HS0 HS1 HS2 HS3 HS4 HS5 HS6 HS7 HS8]
        · isplitl [HS0]
          · unfold owns; iexists _; isplitr
            swap; · iexact HS0
            ipureintro; exact View.read_writes_of_cover _ _ _ _ _ (covA10 m c t h0)
          isplitl [HS1]; · iexact HS1
          isplitl [HS2]; · iexact HS2
          isplitl [HS3]; · iexact HS3
          isplitl [HS4]; · iexact HS4
          isplitl [HS5]; · iexact HS5
          isplitl [HS6]
          · unfold owns; iexists _; isplitr
            swap; · iexact HS6
            ipureintro; exact View.read_writes_of_cover _ _ _ _ _ (covA16 m c t h0)
          isplitl [HS7]; · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (covA9 m c t h0)
  · by_cases hz : t.val = 0
    · exfalso; omega
    · rw [PhiS_castSucc m c t, PhiS_pos m c _ _ hz]
      rw [outsAt0_B m c t h0]
      unfold outB; dsimp only
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB m c t h0 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS6]; · iexact HS6
      isplitl [HS1]; · iexact HS1
      isplitl [HS2]; · iexact HS2
      isplitl [HS3]; · iexact HS3
      isplitl [HS4]; · iexact HS4
      isplitl [HS5]; · iexact HS5
      isplitl [HS7]; · iexact HS7
      isplitl [HS8]; · iexact HS8
      iintro ⟨H0, H1, H2, H3, H4, H5, H6, ⟨%e7, H7⟩, HS0, HS6, HS1, HS2, HS3, HS4, HS5, HS7, HS8⟩
      isplitl [HS0 HS1 HS2 HS3 HS4 HS5 HS6 HS7 HS8 Hg]
      · isplitl [HS0 HS1 HS2 HS3 HS4 HS5 HS6 HS7 HS8]
        · isplitl [HS0]
          · unfold owns; iexists _; isplitr
            swap; · iexact HS0
            ipureintro; rfl
          isplitl [HS1]; · iexact HS1
          isplitl [HS2]; · iexact HS2
          isplitl [HS3]; · iexact HS3
          isplitl [HS4]; · iexact HS4
          isplitl [HS5]; · iexact HS5
          isplitl [HS6]
          · unfold owns; iexists _; isplitr
            swap; · iexact HS6
            ipureintro; rfl
          isplitl [HS7]; · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (covB9 m c t h0 _ _)

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem hout (c : Dev nD) : (dats m 0 c).Φ (Fin.last cfg0.N) ⊢ Pipeline.ΦA spec0 c := by
  have ht : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2, HS3, HS4, HS5, HS6, HS7, HS8⟩, Hg⟩
  isplitl [HS0 HS1 HS2 HS3 HS4 HS5 HS6 HS7 HS8]
  · isplitl [HS0]; · iexists _; iexact HS0
    isplitl [HS1]; · iexact HS1
    isplitl [HS2]; · iexact HS2
    isplitl [HS3]; · iexact HS3
    isplitl [HS4]; · iexact HS4
    isplitl [HS5]; · iexact HS5
    isplitl [HS6]; · iexists _; iexact HS6
    isplitl [HS7]; · iexact HS7
    iexact HS8
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_main_quiescent m ρ))

/-- The recurrence's call runs to its end, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.HgrnIdeal.Gen

end
-- ==== Proof.InprojIdealLoop.lean ====
/- The counted loop of the input projection's normalising points: each trip normalises 256 rows into the scratch. -/
module

public import proofs.«01_k».proof.Proof.Gen.InprojIdeal.Loops
public import proofs.«01_k».proof.Proof.Gen.InprojIdeal.Launch
public import proofs.«01_k».proof.Proof.Gen.InprojIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What a trip touches: the block of rows it reads, and the scratch. -/
abbrev rowsRes (c : Dev nD) (arg1 : Memref sig .tc .vmem S1024x2048 .f32) (arg5 : Memref sig .tc .vmem S2048x2048 .bf16) (X : BufTy.Contents (Elt F) arg1.view.ty) (f : BufTy.Contents (Elt F) arg5.view.ty) : sProp 𝕄G :=
  iprop((arg1.view.loc (c : Thread nD τ) ↦[arg1.view.set]{fullShare} X) ∗ (arg5.view.loc (c : Thread nD τ) ↦[arg5.view.set]{fullShare} f))

/-- The one piece a trip stores: 256 normalised rows at their place in the scratch. -/
def rowPiece (𝒱 : Variants) (c : Dev nD) (bd : Option 𝒱.V) (i : grid0.Coords) (arg1 : Memref sig .tc .vmem S1024x2048 .f32) (harg1 : arg1.IsWhole) (arg2 : Memref sig .tc .vmem S1x2048 .f32) (harg2 : arg2.IsWhole) (arg3 : Memref sig .tc .vmem S768x2048 .f32) (harg3 : arg3.IsWhole) (arg4 : Memref sig .tc .vmem S2048x768 .bf16) (harg4 : arg4.IsWhole) (arg5 : Memref sig .tc .vmem S2048x2048 .bf16) (harg5 : arg5.IsWhole) (k0_h1 : k0_cond1 i = 1#1) (v12 : Vec F S1x2048 .f32) (X : BufTy.Contents (Elt F) arg1.view.ty) (k : Fin k0_t1_loop.trips) : View.Piece (Elt F) S2048x2048 .bf16 :=
  ⟨Rect.unit (s := S2048x2048) (k0_off3 i k) S256x2048.size (k0_off3_inb i k k0_h1),
    k0_pay1 v12 (arg1.view.readAt (Elt F) (Rect.unit (s := S1024x2048) (k0_off1 k) S256x2048.size (k0_off1_inb i k k0_h1)).toLoadRect X)⟩

/-- One trip run: the rows are read, normalised and stored. -/
theorem rowTrip (𝒱 : Variants) (c : Dev nD) (bd : Option 𝒱.V) (i : grid0.Coords) (arg1 : Memref sig .tc .vmem S1024x2048 .f32) (harg1 : arg1.IsWhole) (arg2 : Memref sig .tc .vmem S1x2048 .f32) (harg2 : arg2.IsWhole) (arg3 : Memref sig .tc .vmem S768x2048 .f32) (harg3 : arg3.IsWhole) (arg4 : Memref sig .tc .vmem S2048x768 .bf16) (harg4 : arg4.IsWhole) (arg5 : Memref sig .tc .vmem S2048x2048 .bf16) (harg5 : arg5.IsWhole) (k0_h1 : k0_cond1 i = 1#1) (v12 : Vec F S1x2048 .f32) (X : BufTy.Contents (Elt F) arg1.view.ty) (k : Fin k0_t1_loop.trips) (E : Set ℕ) (f : BufTy.Contents (Elt F) arg5.view.ty) :
      rowsRes (F := F) c arg1 arg5 X f
      ⊢ wp frame (wpE (defs₀ (F := F)) 𝒱 (c : Thread nD τ) bd) E (k0_t1_body (F := F) i arg1 harg1 arg2 harg2 arg3 harg3 arg4 harg4 arg5 harg5 k0_h1 v12 k PUnit.unit)
          (fun _ => rowsRes (F := F) c arg1 arg5 X (arg5.view.writes (Elt F) f [rowPiece (F := F) 𝒱 c bd i arg1 harg1 arg2 harg2 arg3 harg3 arg4 harg4 arg5 harg5 k0_h1 v12 X k])) := by
  have hk : k.val < 4 := Nat.lt_of_lt_of_le k.isLt k0_t1_abs.2.1
  unfold k0_t1_body rowPiece
  iintro ⟨HR, HW⟩
  sl_exec
  sl_step
  sl_close

/-- The pieces of the first trips, the last trip's first. -/
def rowPieces (𝒱 : Variants) (c : Dev nD) (bd : Option 𝒱.V) (i : grid0.Coords) (arg1 : Memref sig .tc .vmem S1024x2048 .f32) (harg1 : arg1.IsWhole) (arg2 : Memref sig .tc .vmem S1x2048 .f32) (harg2 : arg2.IsWhole) (arg3 : Memref sig .tc .vmem S768x2048 .f32) (harg3 : arg3.IsWhole) (arg4 : Memref sig .tc .vmem S2048x768 .bf16) (harg4 : arg4.IsWhole) (arg5 : Memref sig .tc .vmem S2048x2048 .bf16) (harg5 : arg5.IsWhole) (k0_h1 : k0_cond1 i = 1#1) (v12 : Vec F S1x2048 .f32) (X : BufTy.Contents (Elt F) arg1.view.ty) : ℕ → List (View.Piece (Elt F) S2048x2048 .bf16)
  | 0 => []
  | k + 1 => (if h : k < k0_t1_loop.trips then [rowPiece (F := F) 𝒱 c bd i arg1 harg1 arg2 harg2 arg3 harg3 arg4 harg4 arg5 harg5 k0_h1 v12 X ⟨k, h⟩] else []) ++ rowPieces 𝒱 c bd i arg1 harg1 arg2 harg2 arg3 harg3 arg4 harg4 arg5 harg5 k0_h1 v12 X k

theorem rowPieces_succ (𝒱 : Variants) (c : Dev nD) (bd : Option 𝒱.V) (i : grid0.Coords) (arg1 : Memref sig .tc .vmem S1024x2048 .f32) (harg1 : arg1.IsWhole) (arg2 : Memref sig .tc .vmem S1x2048 .f32) (harg2 : arg2.IsWhole) (arg3 : Memref sig .tc .vmem S768x2048 .f32) (harg3 : arg3.IsWhole) (arg4 : Memref sig .tc .vmem S2048x768 .bf16) (harg4 : arg4.IsWhole) (arg5 : Memref sig .tc .vmem S2048x2048 .bf16) (harg5 : arg5.IsWhole) (k0_h1 : k0_cond1 i = 1#1) (v12 : Vec F S1x2048 .f32) (X : BufTy.Contents (Elt F) arg1.view.ty) (k : Fin k0_t1_loop.trips) :
    rowPieces (F := F) 𝒱 c bd i arg1 harg1 arg2 harg2 arg3 harg3 arg4 harg4 arg5 harg5 k0_h1 v12 X (k.val + 1) = [rowPiece (F := F) 𝒱 c bd i arg1 harg1 arg2 harg2 arg3 harg3 arg4 harg4 arg5 harg5 k0_h1 v12 X k] ++ rowPieces (F := F) 𝒱 c bd i arg1 harg1 arg2 harg2 arg3 harg3 arg4 harg4 arg5 harg5 k0_h1 v12 X k.val := by
  rw [rowPieces.eq_2, dif_pos k.isLt]

/-- The loop by its invariant: before trip `k` the scratch holds the pieces of the trips before it, over what it held. -/
@[sl_loop] def rowsLoop (𝒱 : Variants) (c : Dev nD) (bd : Option 𝒱.V) (E : Set ℕ) (i : grid0.Coords) (arg1 : Memref sig .tc .vmem S1024x2048 .f32) (harg1 : arg1.IsWhole) (arg2 : Memref sig .tc .vmem S1x2048 .f32) (harg2 : arg2.IsWhole) (arg3 : Memref sig .tc .vmem S768x2048 .f32) (harg3 : arg3.IsWhole) (arg4 : Memref sig .tc .vmem S2048x768 .bf16) (harg4 : arg4.IsWhole) (arg5 : Memref sig .tc .vmem S2048x2048 .bf16) (harg5 : arg5.IsWhole) (k0_h1 : k0_cond1 i = 1#1) (v12 : Vec F S1x2048 .f32) (X : BufTy.Contents (Elt F) arg1.view.ty) (G : BufTy.Contents (Elt F) arg5.view.ty) :
    LoopInvTy_k0_t1 (F := F) Unit ℕ (UR sig nD τ) ℕ 𝒱 c bd E i arg1 harg1 arg2 harg2 arg3 harg3 arg4 harg4 arg5 harg5 k0_h1 v12 where
  inv k _ := iprop((arg1.view.loc (c : Thread nD τ) ↦[arg1.view.set]{fullShare} X) ∗ (∃ f, (arg5.view.loc (c : Thread nD τ) ↦[arg5.view.set]{fullShare} f) ∗ ⌜f = arg5.view.writes (Elt F) G (rowPieces (F := F) 𝒱 c bd i arg1 harg1 arg2 harg2 arg3 harg3 arg4 harg4 arg5 harg5 k0_h1 v12 X k)⌝))
  step k acc := by
    iintro ⟨HR, ⟨%f, HW, %hf⟩⟩
    iapply (wp_wand_r Idealize.ShloMosaic.frame (wpE (defs₀ (F := F)) 𝒱 (c : Thread nD τ) bd) E)
    isplitl [HR HW]
    · iapply (rowTrip (F := F) 𝒱 c bd i arg1 harg1 arg2 harg2 arg3 harg3 arg4 harg4 arg5 harg5 k0_h1 v12 X k E f)
      isplitl [HR]; · iexact HR
      iexact HW
    · iintro %_ ⟨HR, HW⟩
      isplitl [HR]; · iexact HR
      rw [rowPieces_succ]
      iexists _; isplitl [HW]; · iexact HW
      ipureintro; rw [hf, ← View.writes_append]

end Cert.InprojIdeal.Gen

end
-- ==== Proof.InprojIdealRuns.lean ====
/- The frame of the input projection's call: what the output block and the normalised rows hold after each grid point, and the run. -/
module

public import proofs.«01_k».proof.Proof.InprojIdealLoop
public import Idealize.ShloMosaic.Lib.Claim
public import Idealize.ShloMosaic.Lib.WritesUnit
public import Idealize.ShloMosaic.Lib.ValueIdx
public import Idealize.ShloMosaic.Lib.Pointwise
public import Idealize.ShloMosaic.Lib.Pipeline.Value

@[expose] public section

set_option maxRecDepth 16384

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf)

local notation "𝕄" => MT nD τ sig Unit (Elt F) ℕ (UR sig nD τ) ℕ

/-! ## The two kinds of point, run -/

/-- A point that normalises rows: the body stores its 1024 rows into the scratch and touches nothing else. -/
def normRun (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S768x2048 .f32) (harg3 : arg3.IsWhole) (arg4 : Memref sig .tc .vmem S2048x768 .bf16) (harg4 : arg4.IsWhole) (arg5 : Memref sig .tc .vmem S2048x2048 .bf16) (harg5 : arg5.IsWhole) (hc0 : k0_cond1 i = 1#1) (hc1 : ¬k0_cond2 i = 1#1)
    (x0 : Vec F S1024x2048 .f32) (x1 : Vec F S1x2048 .f32) (x2 : Vec F S768x2048 .f32) (xo : Vec F S2048x768 .bf16) (xs0 : Vec F S2048x2048 .bf16) :
    { LS0 : List (View.Piece (Elt F) S2048x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xo ∗ (arg5.view.loc (c : Thread nD τ) ↦[arg5.view.set]{fullShare} arg5.view.writes (Elt F) (harg5.unread xs0) LS0)) -∗ K ⟨⟩))
          ⊢ wp frame (wpE (defs₀ (F := F)) Variants.none c none) E (cc0_in_proj i arg1 harg1 arg2 harg2 arg3 harg3 arg4 harg4 arg5 harg5) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexact HS0

/-- A point that multiplies: the body reads the scratch and the weight rows and stores the output block. -/
def mulRun (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S768x2048 .f32) (harg3 : arg3.IsWhole) (arg4 : Memref sig .tc .vmem S2048x768 .bf16) (harg4 : arg4.IsWhole) (arg5 : Memref sig .tc .vmem S2048x2048 .bf16) (harg5 : arg5.IsWhole) (hc0 : ¬k0_cond1 i = 1#1) (hc1 : k0_cond2 i = 1#1)
    (x0 : Vec F S1024x2048 .f32) (x1 : Vec F S1x2048 .f32) (x2 : Vec F S768x2048 .f32) (xs0 : Vec F S2048x2048 .bf16) :
    { L4 : List (View.Piece (Elt F) S2048x768 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L4) ∗ owns (c : Thread nD τ) arg5 fullShare xs0) -∗ K ⟨⟩))
          ⊢ wp frame (wpE (defs₀ (F := F)) Variants.none c none) E (cc0_in_proj i arg1 harg1 arg2 harg2 arg3 harg3 arg4 harg4 arg5 harg5) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%d4, %f4, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact HS0

/-! ## What the runs store, at an index -/

theorem hz2 : (![0, 0] : Fin 2 → Nat) = fun _ => 0 := funext fun a => by fin_cases a <;> rfl
theorem rowTrips_eq : k0_t1_loop.trips = 4 := by decide
theorem srcOff_eq : ∀ k : Fin k0_t1_loop.trips, k0_off1 k = ![256 * k.val, 0] := by decide
/-- Where a trip of a point's loop stores its rows. -/
theorem dstOff_eq : ∀ (t : Fin grid0.N) (k : Fin k0_t1_loop.trips), k0_off3 (grid0.coords t) k = ![1024 * min (t.val % 13) 1 + 256 * k.val, 0] := by
  decide +kernel

/-- A tile of 256 rows of a block of 1024, from row `o`, normalised. -/
def tileRows (g : Vec F S1x2048 .f32) (x : Vec F S1024x2048 .f32) (o : ℕ) : Vec F S256x2048 .bf16 :=
  k0_pay1 g fun z => x (ix2 ⟨(o + (z 0).val) % 1024, Nat.mod_lt _ (by decide)⟩ (z 1))

/-- The normalised rows of the row group `G` of the whole array. -/
def groupRows (g : Vec F S1x2048 .f32) (x : Vec F S8192x2048 .f32) (G : ℕ) : Vec F S2048x2048 .bf16 := fun y =>
  k0_pay1 g (fun z : S256x2048.Idx => x (ix2 ⟨(2048 * G + 256 * ((y 0).val / 256) + (z 0).val) % 8192, Nat.mod_lt _ (by decide)⟩ (z 1)))
    (ix2 ⟨(y 0).val % 256, Nat.mod_lt _ (by decide)⟩ (y 1))

/-- The scratch read after some trips: a row the trips reached is a normalised row, any other is what it was. -/
theorem read_rowPieces (𝒱 : Variants) (c : Dev nD) (bd : Option 𝒱.V) (i : grid0.Coords) (arg1 : Memref sig .tc .vmem S1024x2048 .f32) (harg1 : arg1.IsWhole) (arg2 : Memref sig .tc .vmem S1x2048 .f32) (harg2 : arg2.IsWhole) (arg3 : Memref sig .tc .vmem S768x2048 .f32) (harg3 : arg3.IsWhole) (arg4 : Memref sig .tc .vmem S2048x768 .bf16) (harg4 : arg4.IsWhole) (arg5 : Memref sig .tc .vmem S2048x2048 .bf16) (harg5 : arg5.IsWhole) (k0_h1 : k0_cond1 i = 1#1) (v12 : Vec F S1x2048 .f32) (x0 : Vec F S1024x2048 .f32)
    (f : BufTy.Contents (Elt F) arg5.view.ty) (r : ℕ) (hoff : ∀ k : Fin k0_t1_loop.trips, k0_off3 i k = ![1024 * r + 256 * k.val, 0]) (y : S2048x2048.Idx) :
    ∀ n : ℕ, n ≤ k0_t1_loop.trips →
      arg5.view.read (Elt F) (arg5.view.writes (Elt F) f (rowPieces (F := F) 𝒱 c bd i arg1 harg1 arg2 harg2 arg3 harg3 arg4 harg4 arg5 harg5 k0_h1 v12 (harg1.unread x0) n)) y
        = if 1024 * r ≤ (y 0).val ∧ (y 0).val < 1024 * r + 256 * n
          then tileRows v12 x0 (256 * (((y 0).val - 1024 * r) / 256)) (ix2 ⟨((y 0).val - 1024 * r) % 256, Nat.mod_lt _ (by decide)⟩ (y 1))
          else arg5.view.read (Elt F) f y
  | 0, _ => by
    rw [if_neg (by omega)]; rfl
  | n + 1, hn => by
    have hk : n < 4 := by rw [← rowTrips_eq]; omega
    rw [show n + 1 = (⟨n, hn⟩ : Fin k0_t1_loop.trips).val + 1 from rfl, rowPieces_succ]
    unfold rowPiece
    rw [List.singleton_append]
    by_cases hy : 1024 * r + 256 * n ≤ (y 0).val ∧ (y 0).val < 1024 * r + 256 * n + 256
    · rw [if_pos (by show _ ∧ _ < 1024 * r + 256 * (n + 1); omega)]
      have hx : (y 0).val - (1024 * r + 256 * n) < 256 := by omega
      refine Eq.trans (View.read_writes_cons_unit_of_mem arg5.view f (size := S256x2048.size) (k0_off3_inb i ⟨n, hn⟩ k0_h1) _ _ y
        (show S256x2048.Idx from ix2 ⟨(y 0).val - (1024 * r + 256 * n), hx⟩ (y 1)) (hoff ⟨n, hn⟩) (fun a => by
        match a with
        | ⟨0, _⟩ => show (y 0).val = 1024 * r + 256 * n + ((y 0).val - (1024 * r + 256 * n)); omega
        | ⟨1, _⟩ => show (y 1).val = 0 + (y 1).val; omega)) ?_
      have e1 : ((y 0).val - 1024 * r) / 256 = n := by omega
      have e2 : ((y 0).val - 1024 * r) % 256 = (y 0).val - (1024 * r + 256 * n) := by omega
      unfold tileRows
      simp only [e1, e2]
      refine congrFun (congrArg (k0_pay1 v12) (funext fun z => ?_)) _
      rw [View.readAt_eq_ld, harg1.read_unread]
      refine congrArg x0 (funext fun a => Fin.ext ?_)
      have hz : (z 0).val < 256 := (z 0).isLt
      have ho := srcOff_eq ⟨n, hn⟩
      match a with
      | ⟨0, _⟩ =>
        show k0_off1 ⟨n, hn⟩ 0 + 1 * (z 0).val = (256 * n + (z 0).val) % 1024
        rw [ho]; show 256 * n + 1 * (z 0).val = _; omega
      | ⟨1, _⟩ =>
        show k0_off1 ⟨n, hn⟩ 1 + 1 * (z 1).val = (z 1).val
        rw [ho]; show 0 + 1 * (z 1).val = _; omega
    · refine Eq.trans (View.read_writes_cons_unit_of_not_mem arg5.view f (size := S256x2048.size) (k0_off3_inb i ⟨n, hn⟩ k0_h1) _ _ y (hoff ⟨n, hn⟩) 0 (by
        show (y 0).val < 1024 * r + 256 * n ∨ 1024 * r + 256 * n + 256 ≤ (y 0).val; omega)) ?_
      rw [read_rowPieces 𝒱 c bd i arg1 harg1 arg2 harg2 arg3 harg3 arg4 harg4 arg5 harg5 k0_h1 v12 x0 f r hoff y n (Nat.le_of_lt hn)]
      by_cases h : 1024 * r ≤ (y 0).val ∧ (y 0).val < 1024 * r + 256 * n
      · rw [if_pos h, if_pos (by show _ ∧ _ < 1024 * r + 256 * (n + 1); omega)]
      · rw [if_neg h, if_neg (by show ¬(_ ∧ _ < 1024 * r + 256 * (n + 1)); omega)]

theorem normRun_pieces (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S768x2048 .f32) (harg3 : arg3.IsWhole) (arg4 : Memref sig .tc .vmem S2048x768 .bf16) (harg4 : arg4.IsWhole) (arg5 : Memref sig .tc .vmem S2048x2048 .bf16) (harg5 : arg5.IsWhole) (hc0 : k0_cond1 i = 1#1) (hc1 : ¬k0_cond2 i = 1#1)
    (x0 : Vec F S1024x2048 .f32) (x1 : Vec F S1x2048 .f32) (x2 : Vec F S768x2048 .f32) (xo : Vec F S2048x768 .bf16) (xs0 : Vec F S2048x2048 .bf16) :
    (normRun c i arg1 harg1 arg2 harg2 arg3 harg3 arg4 harg4 arg5 harg5 hc0 hc1 x0 x1 x2 xo xs0).1 = rowPieces (F := F) Variants.none c none i arg1 harg1 arg2 harg2 arg3 harg3 arg4 harg4 arg5 harg5 hc0 x1 (harg1.unread x0) k0_t1_loop.trips := by
  unfold normRun
  dsimp only
  simp only [View.readAt_eq_ld, harg2.read_unread, View.ld_unit_zero (S := S1x2048) hz2]

/-- The multiplying point's stores cover the output block. -/
theorem mulRun_read (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S768x2048 .f32) (harg3 : arg3.IsWhole) (arg4 : Memref sig .tc .vmem S2048x768 .bf16) (harg4 : arg4.IsWhole) (arg5 : Memref sig .tc .vmem S2048x2048 .bf16) (harg5 : arg5.IsWhole) (hc0 : ¬k0_cond1 i = 1#1) (hc1 : k0_cond2 i = 1#1)
    (x0 : Vec F S1024x2048 .f32) (x1 : Vec F S1x2048 .f32) (x2 : Vec F S768x2048 .f32) (xs0 : Vec F S2048x2048 .bf16) (f : BufTy.Contents (Elt F) arg4.view.ty) :
    arg4.view.read (Elt F) (arg4.view.writes (Elt F) f (mulRun c i arg1 harg1 arg2 harg2 arg3 harg3 arg4 harg4 arg5 harg5 hc0 hc1 x0 x1 x2 xs0).1) = k0_pay2 i xs0 x2 := by
  unfold mulRun
  dsimp only
  sl_unfold_words
  funext y
  refine Eq.trans (View.read_writes_cons_unit_of_mem arg4.view f (size := S2048x768.size) inb_S2048x768_S2048x768_0_0 _ [] y y hz2 (fun a => by show _ = 0 + _; rw [Nat.zero_add])) ?_
  simp only [View.readAt_eq_ld, harg3.read_unread, harg5.read_unread, View.ld_unit_zero (S := S768x2048) hz2, View.ld_unit_zero (S := S2048x2048) hz2]

end Cert.InprojIdeal.Gen

end
-- ==== Proof.InprojIdealFrame.lean ====
/- The frame of the input projection's call: what the output block and the normalised rows hold after each grid point, and the run. -/
module

public import proofs.«01_k».proof.Proof.InprojIdealRuns

@[expose] public section

set_option maxRecDepth 16384

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- The arrays as the region finds them: after the host operations that transpose and pad the weights. -/
abbrev V (c : Dev nD) (b : Ref sig .tc) : Buf (Elt F) ((c : Thread nD τ).loc b) := StableHlo.after hostOps0 (fun b => m (c, b)) b
theorem hostOps0_fresh : (hostOps0 (F := F)).Forall fun op => op.fresh = ∅ := ⟨rfl, rfl, rfl, rfl⟩

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, StableHlo.unary_writes, StableHlo.nullary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, StableHlo.unary_writes, StableHlo.nullary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, StableHlo.unary_writes, StableHlo.nullary_writes, StableHlo.binary_writes, Finset.mem_singleton]
    repeat' apply And.intro
    all_goals exact StableHlo.devRef_ne_of_ne (by decide)))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide)).trans (V_main_arg2 m c)⟩) h

/-! ## Which points normalise, which multiply, and where the output is idle -/

theorem cond_norm : ∀ t : Fin cfg0.N, k0_cond1 (grid0.coords t) = 1#1 ↔ t.val % 13 < 2 :=
  (by decide +kernel : ∀ t : Fin grid0.N, k0_cond1 (grid0.coords t) = 1#1 ↔ t.val % 13 < 2)
theorem cond_mul : ∀ t : Fin cfg0.N, k0_cond2 (grid0.coords t) = 1#1 ↔ ¬t.val % 13 < 2 :=
  (by decide +kernel : ∀ t : Fin grid0.N, k0_cond2 (grid0.coords t) = 1#1 ↔ ¬t.val % 13 < 2)
theorem idle_norm : ∀ t : Fin cfg0.N, t.val % 13 < 2 → cfg0.idle 3 (cfg0.grid.coords t) = true :=
  (by decide +kernel : ∀ t : Fin grid0.N, t.val % 13 < 2 → idle0 3 (grid0.coords t) = true)
theorem live_mul : ∀ t : Fin cfg0.N, ¬t.val % 13 < 2 → cfg0.idle 3 (cfg0.grid.coords t) = false :=
  (by decide +kernel : ∀ t : Fin grid0.N, ¬t.val % 13 < 2 → idle0 3 (grid0.coords t) = false)
theorem noFlush_norm : ∀ t : Fin cfg0.N, t.val % 13 < 2 → (cfg0.win 3).flush t = false :=
  (by decide +kernel : ∀ t : Fin grid0.N, t.val % 13 < 2 → win0_3.flush t = false)
/-- The rows a normalising point reads. -/
theorem rows_norm : ∀ t : Fin grid0.N, t.val % 13 < 2 → win0_0.index t (0 : Fin 2) = 2 * (t.val / 13) + t.val % 13 ∧ win0_0.index t (1 : Fin 2) = 0 := by
  decide +kernel
theorem gain_index : ∀ t : Fin grid0.N, win0_1.index t (0 : Fin 2) = 0 ∧ win0_1.index t (1 : Fin 2) = 0 := by
  decide +kernel

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x768 .bf16 := win0_3.stage (cfg0.slots t 3)
abbrev hs0_3 (t : Fin cfg0.N) : (ms0_3 t).IsWhole := hstage0_3 ((cfg0.slots t 3).cast nbuf0_3)
abbrev scM0_0 : Memref sig .tc .vmem S2048x2048 .bf16 := Memref.whole cc0_scratch0

/-- The body as the pipeline calls it at a point. -/
abbrev bodyAt0 (t : Fin cfg0.N) : Prog (TpuEff nD τ sig (Elt F) Λ₀ .tc) PUnit :=
  cc0_in_proj (grid0.coords t) (ms0_0 t) (hs0_0 t) (ms0_1 t) (hs0_1 t) (ms0_2 t) (hs0_2 t) (ms0_3 t) (hs0_3 t) scM0_0 (Memref.isWhole_whole _)

/-- The scratch at anything, as an owned memref. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- The run of a normalising point, at the point's buffers and blocks. -/
abbrev normAt (c : Dev nD) (t : Fin cfg0.N) (h0 : t.val % 13 < 2) (xo : Vec F S2048x768 .bf16) (xs0 : Vec F S2048x2048 .bf16) :=
  normRun (F := F) c (grid0.coords t) (ms0_0 t) (hs0_0 t) (ms0_1 t) (hs0_1 t) (ms0_2 t) (hs0_2 t) (ms0_3 t) (hs0_3 t) scM0_0 (Memref.isWhole_whole _) ((cond_norm t).mpr h0) (fun h => (cond_mul t).mp h h0) (iblk m c 0 t) (iblk m c 1 t) (iblk m c 2 t) xo xs0
/-- The run of a multiplying point. -/
abbrev mulAt (c : Dev nD) (t : Fin cfg0.N) (h0 : ¬t.val % 13 < 2) (xs0 : Vec F S2048x2048 .bf16) :=
  mulRun (F := F) c (grid0.coords t) (ms0_0 t) (hs0_0 t) (ms0_1 t) (hs0_1 t) (ms0_2 t) (hs0_2 t) (ms0_3 t) (hs0_3 t) scM0_0 (Memref.isWhole_whole _) (fun h => h0 ((cond_norm t).mp h)) ((cond_mul t).mpr h0) (iblk m c 0 t) (iblk m c 1 t) (iblk m c 2 t) xs0

/-! ## What the scratch holds between points -/

/-- The normalised rows of a row group, of the arrays the region finds. -/
def hnG (c : Dev nD) (G : ℕ) : Vec F S2048x2048 .bf16 := groupRows (V m c main_arg1) (V m c main_arg0) G

/-- After point `n` the scratch holds the row group's normalised rows: the first half of them after the group's first point, all of them later. -/
def Good (c : Dev nD) (n : ℕ) (b : Vec F S2048x2048 .bf16) : Prop :=
  ∀ y : S2048x2048.Idx, (y 0).val < 1024 * (n % 13 + 1) → b y = hnG m c (n / 13) y

/-- At a multiplying point the scratch holds the whole group. -/
theorem good_mul (c : Dev nD) (n : ℕ) (h0 : ¬n % 13 < 2) (b : Vec F S2048x2048 .bf16) (h : Good m c (n - 1) b) : b = hnG m c (n / 13) := by
  funext y
  have hy : (y 0).val < 2048 := (y 0).isLt
  have e : (n - 1) / 13 = n / 13 := by omega
  rw [h y (by omega), e]

theorem good_keep (c : Dev nD) (n : ℕ) (h0 : ¬n % 13 < 2) : Good m c n (hnG m c (n / 13)) := fun _ _ => rfl

/-- The gain's block is the gain. -/
theorem gainBlk (c : Dev nD) (t : Fin cfg0.N) : iblk m c 1 t = V m c main_arg1 := by
  funext z
  unfold iblk
  rw [View.read_apply]
  obtain ⟨e0, e1⟩ := gain_index t
  show V m c main_arg1 _ = _
  refine congrArg (V m c main_arg1) (funext fun a => Fin.ext ?_)
  match a with
  | ⟨0, _⟩ => show win0_1.index t (0 : Fin 2) * 1 + 1 * (z 0).val = (z 0).val; rw [e0]; omega
  | ⟨1, _⟩ => show win0_1.index t (1 : Fin 2) * 2048 + 1 * (z 1).val = (z 1).val; rw [e1]; omega

/-- A tile of the rows a normalising point reads is a tile of the whole array's rows. -/
theorem tile_group (c : Dev nD) (t : Fin cfg0.N) (h0 : t.val % 13 < 2) (y : S2048x2048.Idx)
    (hy : 1024 * (t.val % 13) ≤ (y 0).val ∧ (y 0).val < 1024 * (t.val % 13) + 1024) :
    tileRows (iblk m c 1 t) (iblk m c 0 t) (256 * (((y 0).val - 1024 * (t.val % 13)) / 256)) (ix2 ⟨((y 0).val - 1024 * (t.val % 13)) % 256, Nat.mod_lt _ (by decide)⟩ (y 1))
      = hnG m c (t.val / 13) y := by
  rw [gainBlk m c t]
  unfold hnG groupRows tileRows
  have e2 : ((y 0).val - 1024 * (t.val % 13)) % 256 = (y 0).val % 256 := by omega
  simp only [e2]
  have hN : t.val < 52 := lt_of_lt_of_eq t.isLt N_0
  refine congrFun (congrArg (k0_pay1 (V m c main_arg1)) (funext fun z => ?_)) _
  have hz : (z 0).val < 256 := (z 0).isLt
  obtain ⟨e0, e1⟩ := rows_norm t h0
  unfold iblk
  rw [View.read_apply]
  show V m c main_arg0 _ = _
  refine congrArg (V m c main_arg0) (funext fun a => Fin.ext ?_)
  match a with
  | ⟨0, _⟩ =>
    show win0_0.index t (0 : Fin 2) * 1024 + 1 * ((256 * (((y 0).val - 1024 * (t.val % 13)) / 256) + (z 0).val) % 1024) = (2048 * (t.val / 13) + 256 * ((y 0).val / 256) + (z 0).val) % 8192
    rw [e0]; omega
  | ⟨1, _⟩ => show win0_0.index t (1 : Fin 2) * 2048 + 1 * (z 1).val = (z 1).val; rw [e1]; omega

/-- A normalising point keeps the invariant. -/
theorem good_norm (c : Dev nD) (t : Fin cfg0.N) (h0 : t.val % 13 < 2) (xo : Vec F S2048x768 .bf16) (b : Vec F S2048x2048 .bf16)
    (hb : 0 < t.val → Good m c (t.val - 1) b) :
    Good m c t.val (scM0_0.view.read (Elt F) (scM0_0.view.writes (Elt F) ((Memref.isWhole_whole cc0_scratch0).unread b) (normAt m c t h0 xo b).1)) := by
  intro y hy
  have hoff : ∀ k : Fin k0_t1_loop.trips, k0_off3 (grid0.coords t) k = ![1024 * (t.val % 13) + 256 * k.val, 0] := fun k => by
    rw [dstOff_eq t k, show min (t.val % 13) 1 = t.val % 13 from by omega]
  rw [normRun_pieces, read_rowPieces _ _ _ _ (ms0_0 t) (hs0_0 t) (ms0_1 t) (hs0_1 t) (ms0_2 t) (hs0_2 t) (ms0_3 t) (hs0_3 t) scM0_0 (Memref.isWhole_whole _) _ _ _ _ (t.val % 13) hoff y _ le_rfl, rowTrips_eq]
  by_cases h : 1024 * (t.val % 13) ≤ (y 0).val
  · rw [if_pos ⟨h, by omega⟩]
    exact tile_group m c t h0 y ⟨h, by omega⟩
  · rw [if_neg (fun h' => h h'.1), (Memref.isWhole_whole cc0_scratch0).read_unread]
    have ht : t.val % 13 = 1 := by omega
    rw [hb (by omega) y (by omega), show (t.val - 1) / 13 = t.val / 13 from by omega]

/-- Between points: the scratch at something that satisfies the invariant. -/
def PhiS (c : Dev nD) : (n : ℕ) → n ≤ cfg0.N → sProp 𝕄
  | 0, _ => Pipeline.ΦA spec0 c
  | n + 1, _ => iprop((∃ b, ⌜Good m c n b⌝ ∗ owns (c : Thread nD τ) scM0_0 fullShare b) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = iprop((∃ b, ⌜Good m c n b⌝ ∗ owns (c : Thread nD τ) scM0_0 fullShare b) ∗ (∃ r, prngReg c r)) := rfl
theorem PhiS_pos (c : Dev nD) (n : ℕ) (h : n ≤ cfg0.N) (hz : n ≠ 0) : PhiS m c n h = iprop((∃ b, ⌜Good m c (n - 1) b⌝ ∗ owns (c : Thread nD τ) scM0_0 fullShare b) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (grid0.coords t) (hnG m c (t.val / 13)) (iblk m c 2 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (grid0.coords t) (hnG m c (t.val / 13)) (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (dats m 0 c).leavesExact 3 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2]
  rw [show (dats m 0 c).Φ t.succ = PhiS m c (t.val + 1) t.isLt from rfl, PhiS_succ]
  by_cases h0 : t.val % 13 < 2
  · rw [Dat.leavesExact_idle (dats m 0 c) 3 t (idle_norm t h0) (noFlush_norm t h0)]
    by_cases hz : t.val = 0
    · rw [PhiS_castSucc m c t, PhiS_zero m c _ _ hz, PhiA0_eq]
      iintro ⟨⟨⟨%b, HS0⟩, Hg⟩, Ho, ⟨%d0, H0⟩, ⟨%d1, H1⟩, ⟨%d2, H2⟩, ⟨%d3, H3⟩⟩
      have hb : 0 < t.val → Good m c (t.val - 1) b := fun h => absurd hz (by omega)
      iapply ((normAt m c t h0 ((dats m 0 c).before 3 t d3) b).2 Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hg]
      · isplitl [HS0]
        · iexists (scM0_0.view.read (Elt F) (scM0_0.view.writes (Elt F) ((Memref.isWhole_whole cc0_scratch0).unread b) (normAt m c t h0 ((dats m 0 c).before 3 t d3) b).1))
          isplitr
          · ipureintro; exact good_norm m c t h0 _ b hb
          unfold owns; iexists _; isplitr
          swap; · iexact HS0
          ipureintro; rfl
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨⟨%b, %hb', HS0⟩, Hg⟩, Ho, ⟨%d0, H0⟩, ⟨%d1, H1⟩, ⟨%d2, H2⟩, ⟨%d3, H3⟩⟩
      have hb : 0 < t.val → Good m c (t.val - 1) b := fun _ => hb'
      iapply ((normAt m c t h0 ((dats m 0 c).before 3 t d3) b).2 Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hg]
      · isplitl [HS0]
        · iexists (scM0_0.view.read (Elt F) (scM0_0.view.writes (Elt F) ((Memref.isWhole_whole cc0_scratch0).unread b) (normAt m c t h0 ((dats m 0 c).before 3 t d3) b).1))
          isplitr
          · ipureintro; exact good_norm m c t h0 _ b hb
          unfold owns; iexists _; isplitr
          swap; · iexact HS0
          ipureintro; rfl
        iexact Hg
      isplitl [Ho]; · iexact Ho
      isplitl [H0]; · iexact H0
      isplitl [H1]; · iexact H1
      isplitl [H2]; · iexact H2
      iexists _; iexact H3
  · have hz : t.val ≠ 0 := fun h => h0 (by rw [h]; decide)
    rw [show (dats m 0 c).leavesExact 3 t = owns (c : Thread nD τ) (ms0_3 t) fullShare ((dats m 0 c).after 3 t) from by
      unfold Dat.leavesExact; rw [live_mul t h0], after0_3]
    rw [PhiS_castSucc m c t, PhiS_pos m c _ _ hz]
    iintro ⟨⟨⟨%b, %hb, HS0⟩, Hg⟩, Ho, ⟨%d0, H0⟩, ⟨%d1, H1⟩, ⟨%d2, H2⟩, ⟨%d3, H3⟩⟩
    obtain rfl := good_mul m c t.val h0 b hb
    iapply ((mulAt m c t h0 (hnG m c (t.val / 13))).2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, HS0⟩
    isplitl [HS0 Hg]
    · isplitl [HS0]
      · iexists _; isplitr
        swap; · iexact HS0
        ipureintro; exact good_keep m c t.val h0
      iexact Hg
    isplitl [Ho]; · iexact Ho
    isplitl [H0]; · iexact H0
    isplitl [H1]; · iexact H1
    isplitl [H2]; · iexact H2
    unfold owns; iexists _; isplitr
    swap; · iexact H3
    ipureintro; exact mulRun_read c _ (ms0_0 t) (hs0_0 t) (ms0_1 t) (hs0_1 t) (ms0_2 t) (hs0_2 t) (ms0_3 t) (hs0_3 t) scM0_0 (Memref.isWhole_whole _) _ _ _ _ _ _ _

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem hout (c : Dev nD) : (dats m 0 c).Φ (Fin.last cfg0.N) ⊢ Pipeline.ΦA spec0 c := by
  have ht : (Fin.last cfg0.N).val ≠ 0 := by rw [Fin.val_last]; have : cfg0.N = 52 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨%b, %hb, HS0⟩, Hg⟩
  isplitl [HS0]
  · iexists _; iexact HS0
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :=
  frame_of m ρ (dats m) (A_eq m) ((θ_run defs _ _).mono (fun _ h => h.1) (run_main_quiescent m ρ))

/-- The input projection's call runs to its end, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.InprojIdeal.Gen

end
-- ==== Proof.InprojValue.lean ====
/- The values of the input projection: the normalised rows times the weights, zero past the weights' own columns. -/
module
public import proofs.«01_k».proof.Proof.InprojIdealFrame
public import Idealize.ShloMosaic.Lib.Pointwise
public import Idealize.ShloMosaic.Lib.WordCmp
public import Idealize.ShloMosaic.Lib.Pipeline.Value
@[expose] public section
noncomputable section
namespace Cert.InprojProof
open Cert.InprojIdeal Cert.InprojIdeal.Gen Idealize.ShloMosaic Idealize.ShloMosaic.TcCoe Idealize.SL.Sem
open Idealize.ShloMosaic.WordCmp (cmpi_slt_eq toInt_ofNat_of_lt ofBool_decide_eq_one_iff)
variable (m : (ℓ : Loc nD τ sig) → Buf (Elt Ideal) ℓ) (ρ : Dev nD → PrngReg)

/-- A row scaled by the reciprocal of its root mean square and by the gain. -/
def rmsAt (x g : Fin 2048 → EReal) (k : Fin 2048) : EReal :=
  x k * Ideal.rsqrt (Ideal.div (∑ q : Fin 2048, x q * x q) (Ideal.ofBits .f32 0x45000000#32) + Ideal.ofBits .f32 0x358637BD#32) * g k

theorem pay1_apply (g : Vec Ideal S1x2048 .f32) (x : Vec Ideal S256x2048 .f32) (r : Fin 256) (k : Fin 2048) :
    k0_pay1 (F := Ideal) g x (ix2 r k) = rmsAt (fun q => x (ix2 r q)) (fun q => g (ix2 0 q)) k := by
  unfold k0_pay1 rmsAt
  pointwise! [shapeCast_self]

abbrev aX (c : Dev nD) : Vec Ideal S8192x2048 .f32 := m ((c : Thread nD τ).loc main_arg0)
abbrev aG (c : Dev nD) : Vec Ideal S1x2048 .f32 := m ((c : Thread nD τ).loc main_arg1)
abbrev aW (c : Dev nD) : Vec Ideal S1x2048x8272 .f32 := m ((c : Thread nD τ).loc main_arg2)
/-- The weight rows the region finds: the transposed weights over zero rows. -/
def wRows (w : FVec Ideal S1x2048x8272 .f32) : FVec Ideal S8448x2048 .f32 :=
 pad S8448x2048 ![0, 0] ![176, 0] ![0, 0]
   (transpose S8272x2048 [1, 0] (shapeCast S2048x8272 w shapeCasts_S1x2048x8272_S2048x8272) transposes_S2048x8272_S8272x2048_1_0)
   (constant S_ .f32 0x00000000#32) pads_S8272x2048_S8448x2048_01760_000 h_S_
theorem V_main_v2 (c : Dev nD) : V m c main_v2 = wRows (aW m c) := by
  unfold wRows
  rfl

theorem wRows_apply (w : FVec Ideal S1x2048x8272 .f32) (q : Fin 8448) (k : Fin 2048) : wRows w (ix2 q k) = if h : q.val < 8272 then w (ix3 0 k ⟨q.val, h⟩) else 0 := by
  unfold wRows
  pointwise!

theorem dot_apply (v8 : FVec Ideal S2048x2048 .bf16) (v9 : FVec Ideal S768x2048 .f32) (r : Fin 2048) (q : Fin 768) :
    (matmul dot_S2048x2048_S768x2048_S2048x768_1_1_0_0_n_n none v8 (truncf .bf16 (shapeCast S768x2048 v9 shapeCasts_S768x2048_S768x2048 : FVec Ideal S768x2048 .f32) bitsLt_bf16_f32) (constant S2048x768 .f32 0x00000000#32) : FVec Ideal S2048x768 .f32) (ix2 r q) = ∑ k : Fin 2048, v8 (ix2 r k) * v9 (ix2 q k) := by
  pointwise! [shapeCast_self]

/-- The columns of a block that lie inside the array's own. -/
def maskB (w : BitVec 32) : IVec S2048x768 1 :=
  broadcastTo S2048x768 (shapeCast S1x768 (cmpi .slt (addi (broadcast S1x768 w) (iota .tc S1x768 32 [1] iota_S1x768_d1_w32)) (broadcast S1x768 8272#32)) shapeCasts_S1x768_S1x768) broadcasts_S1x768_S2048x768

theorem maskB_apply (w : BitVec 32) (r : Fin 2048) (q : Fin 768) : maskB w (ix2 r q) = Scalar.cmpi .slt (w + BitVec.ofNat 32 q.val) 8272#32 := by
  unfold maskB
  generalize hb : (iota .tc S1x768 32 [1] iota_S1x768_d1_w32 : IVec S1x768 32) = I
  have hI : I (ix2 0 q) = BitVec.ofNat 32 q.val := by
    rw [← hb]
    exact iota_single_apply .tc S1x768 32 (1 : Fin 2) iota_S1x768_d1_w32 (ix2 0 q)
  pointwise! [shapeCast_self]
  rw [hI]
  rfl

theorem select_apply' (M : IVec S2048x768 1) (A : FVec Ideal S2048x768 .f32) (r : Fin 2048) (q : Fin 768) :
    (truncf .bf16 (select M A (broadcast S2048x768 (Scalar.ofBits .f32 0x00000000#32 : Ideal .f32)) : FVec Ideal S2048x768 .f32) bitsLt_bf16_f32 : FVec Ideal S2048x768 .bf16) (ix2 r q)
      = if M (ix2 r q) = 1#1 then A (ix2 r q) else 0 := by
  pointwise!

theorem pay2_apply (i : grid0.Coords) (v8 : FVec Ideal S2048x2048 .bf16) (v9 : FVec Ideal S768x2048 .f32) (r : Fin 2048) (q : Fin 768) :
    k0_pay2 (F := Ideal) i v8 v9 (ix2 r q) = if maskB (Scalar.muli (Scalar.maxsi (Scalar.subi (Scalar.remsi (BitVec.ofNat 32 (i 0).val) 13#32) 2#32) 0#32) 768#32) (ix2 r q) = 1#1 then ∑ k : Fin 2048, v8 (ix2 r k) * v9 (ix2 q k) else 0 := by
  rw [← dot_apply]
  rw [← select_apply']
  unfold k0_pay2 maskB
  rfl

/-- The word a multiplying point adds to its block's column numbers: where the block begins. -/
theorem col_word : ∀ t : Fin grid0.N, ¬t.val % 13 < 2 →
    Scalar.muli (Scalar.maxsi (Scalar.subi (Scalar.remsi (BitVec.ofNat 32 (grid0.coords t 0).val) 13#32) 2#32) 0#32) 768#32 = BitVec.ofNat 32 (768 * (t.val % 13 - 2)) := by
  decide +kernel

theorem mask_iff (n : ℕ) (hn : n < 8448) (q : Fin 768) :
    (Scalar.cmpi .slt (BitVec.ofNat 32 n + BitVec.ofNat 32 q.val) 8272#32 = 1#1) ↔ n + q.val < 8272 := by
  have hq : q.val < 768 := q.isLt
  have e : BitVec.ofNat 32 n + BitVec.ofNat 32 q.val = BitVec.ofNat 32 (n + q.val) := (BitVec.ofNat_add _ _).symm
  rw [e]
  show IntOp.cmpi .slt (BitVec.ofNat 32 (n + q.val)) (BitVec.ofNat 32 8272) = 1#1 ↔ _
  rw [cmpi_slt_eq, toInt_ofNat_of_lt (by norm_num; omega), toInt_ofNat_of_lt (by norm_num), ofBool_decide_eq_one_iff]
  norm_cast

theorem weight_index : ∀ t : Fin grid0.N, win0_2.index t (0 : Fin 2) = t.val % 13 - 2 ∧ win0_2.index t (1 : Fin 2) = 0 := by
  decide +kernel
theorem out_index : ∀ t : Fin grid0.N, win0_3.index t (0 : Fin 2) = t.val / 13 ∧ win0_3.index t (1 : Fin 2) = t.val % 13 - 2 := by
  decide +kernel
theorem flush_mul : ∀ t : Fin grid0.N, win0_3.flush t = true → ¬t.val % 13 < 2 := by
  decide +kernel
theorem flush_of : ∀ (a : Fin 4) (b : Fin 11), ∃ t : Fin grid0.N, win0_3.flush t = true ∧ t.val / 13 = a.val ∧ t.val % 13 - 2 = b.val := by
  decide +kernel

/-- The normalised rows of a row group, at an index. -/
theorem hnG_apply (c : Dev nD) (G : ℕ) (hG : G < 4) (r : Fin 2048) (k : Fin 2048) :
    hnG m c G (ix2 r k) = rmsAt (fun q => aX m c (ix2 ⟨2048 * G + r.val, by have := r.isLt; omega⟩ q)) (fun q => aG m c (ix2 0 q)) k := by
  unfold hnG groupRows
  rw [V_main_arg0, V_main_arg1]
  refine (pay1_apply _ _ _ _).trans ?_
  have hr := r.isLt
  refine congrFun (congrArg (fun f => rmsAt f _) (funext fun q => ?_)) _
  refine congrArg (aX m c) (funext fun a => Fin.ext ?_)
  match a with
  | ⟨0, _⟩ => show (2048 * G + 256 * (r.val / 256) + r.val % 256) % 8192 = 2048 * G + r.val; omega
  | ⟨1, _⟩ => rfl

/-- The weight rows of a multiplying point's block. -/
theorem weights_apply (c : Dev nD) (t : Fin cfg0.N) (q : Fin 768) (k : Fin 2048) (hq : 768 * (t.val % 13 - 2) + q.val < 8272) :
    (iblk m c 2 t : Vec Ideal S768x2048 .f32) (ix2 q k) = aW m c (ix3 0 k ⟨768 * (t.val % 13 - 2) + q.val, hq⟩) := by
  obtain ⟨e0, e1⟩ := weight_index t
  have e : (iblk m c 2 t : Vec Ideal S768x2048 .f32) (ix2 q k) = wRows (aW m c) (ix2 ⟨768 * (t.val % 13 - 2) + q.val, by omega⟩ k) := by
    rw [← V_main_v2]
    unfold iblk
    rw [View.read_apply]
    show V m c main_v2 _ = V m c main_v2 _
    refine congrArg (V m c main_v2) (funext fun a => Fin.ext ?_)
    match a with
    | ⟨0, _⟩ => show win0_2.index t (0 : Fin 2) * 768 + 1 * q.val = 768 * (t.val % 13 - 2) + q.val; rw [e0]; omega
    | ⟨1, _⟩ => show win0_2.index t (1 : Fin 2) * 2048 + 1 * k.val = k.val; rw [e1]; omega
  rw [e, wRows_apply, dif_pos hq]

/-- An element of the projection: a normalised row times a column of the weights, zero past the last column. -/
def projAt (x : Vec Ideal S8192x2048 .f32) (g : Vec Ideal S1x2048 .f32) (w : Vec Ideal S1x2048x8272 .f32) (r : Fin 8192) (j : Fin 8448) : EReal :=
  if h : j.val < 8272 then ∑ k : Fin 2048, rmsAt (fun q => x (ix2 r q)) (fun q => g (ix2 0 q)) k * w (ix3 0 k ⟨j.val, h⟩) else 0

/-- The array the call leaves. -/
def proj (c : Dev nD) : Vec Ideal S8192x8448 .bf16 := fun i => projAt (aX m c) (aG m c) (aW m c) (i 0) (i 1)

/-- What a multiplying point leaves in its output block. -/
theorem block_apply (c : Dev nD) (t : Fin cfg0.N) (h0 : ¬t.val % 13 < 2) (r : Fin 2048) (q : Fin 768) (R : Fin 8192) (J : Fin 8448)
    (hR : R.val = 2048 * (t.val / 13) + r.val) (hJ : J.val = 768 * (t.val % 13 - 2) + q.val) :
    k0_pay2 (F := Ideal) (grid0.coords t) (hnG m c (t.val / 13)) (iblk m c 2 t) (ix2 r q) = projAt (aX m c) (aG m c) (aW m c) R J := by
  have hN : t.val < 52 := lt_of_lt_of_eq t.isLt N_0
  refine (pay2_apply _ _ _ r q).trans ?_
  rw [maskB_apply, col_word t h0]
  unfold projAt
  have hm := mask_iff (768 * (t.val % 13 - 2)) (by omega) q
  by_cases hj : J.val < 8272
  · rw [if_pos (hm.mpr (by omega)), dif_pos hj]
    refine Finset.sum_congr rfl fun k _ => ?_
    rw [hnG_apply m c _ (by omega), weights_apply m c t q k (by omega)]
    have eR : (⟨2048 * (t.val / 13) + r.val, by have := r.isLt; omega⟩ : Fin 8192) = R := Fin.ext hR.symm
    have eJ : (⟨768 * (t.val % 13 - 2) + q.val, by omega⟩ : Fin 8272) = ⟨J.val, hj⟩ := Fin.ext hJ.symm
    rw [eR, eJ]
  · rw [if_neg (fun h => hj (by have := hm.mp h; omega)), dif_neg hj]

/-- What a flushing point writes back is its block of the projection. -/
theorem flushed_eq (c : Dev nD) (t : Fin cfg0.N) (hf : (cfg0.win 3).flush t = true) :
    (dats m 0 c).flushed 3 t = ((cfg0.win 3).blk t).view.read (Elt Ideal) (proj m c) := by
  show (cfg0.win 3).cut (grid0.coords t) ((dats m 0 c).after 3 t) = _
  rw [after0_3]
  obtain ⟨e0, e1⟩ := out_index t
  funext y
  have hb0 : (((cfg0.win 3).blk t).view.emb y 0).val = win0_3.index t (0 : Fin 2) * 2048 + 1 * (y 0).val := rfl
  have hb1 : (((cfg0.win 3).blk t).view.emb y 1).val = win0_3.index t (1 : Fin 2) * 768 + 1 * (y 1).val := rfl
  show k0_pay2 (F := Ideal) (grid0.coords t) (hnG m c (t.val / 13)) (iblk m c 2 t) ((cfg0.win 3).xinj (grid0.coords t) y)
    = projAt (aX m c) (aG m c) (aW m c) (((cfg0.win 3).blk t).view.emb y 0) (((cfg0.win 3).blk t).view.emb y 1)
  rw [show (cfg0.win 3).xinj (grid0.coords t) y = ix2 ((cfg0.win 3).xinj (grid0.coords t) y 0 : Fin 2048) ((cfg0.win 3).xinj (grid0.coords t) y 1 : Fin 768) from eq_ix2 _]
  refine block_apply m c t (flush_mul t hf) _ _ _ _ ?_ ?_
  · rw [hb0, e0]
    show t.val / 13 * 2048 + 1 * (y 0).val = 2048 * (t.val / 13) + (y 0).val
    omega
  · rw [hb1, e1]
    show (t.val % 13 - 2) * 768 + 1 * (y 1).val = 768 * (t.val % 13 - 2) + (y 1).val
    omega

theorem mem_blk (t : Fin cfg0.N) (i : S8192x8448.Idx) :
    i ∈ ((cfg0.win 3).blk t).view.set ↔ ∀ a : Fin 2, win0_3.index t a * S2048x768.size a ≤ (i a).val ∧ (i a).val < win0_3.index t a * S2048x768.size a + S2048x768.size a := by
  show i ∈ ((View.whole main_v3).slice (win0_3.rect t)).set ↔ _
  rw [View.set_slice_whole, Rect.mem_set_unit]
  exact Iff.rfl

/-- Every index is in some flushing point's block. -/
theorem covered (i : S8192x8448.Idx) : ∃ t : Fin cfg0.N, (cfg0.win 3).flush t = true ∧ i ∈ ((cfg0.win 3).blk t).view.set := by
  have hi0 : (i 0).val < 8192 := (i 0).isLt
  have hi1 : (i 1).val < 8448 := (i 1).isLt
  obtain ⟨t, hft, ha, hb⟩ := flush_of ⟨(i 0).val / 2048, by omega⟩ ⟨(i 1).val / 768, by omega⟩
  obtain ⟨e0, e1⟩ := out_index t
  refine ⟨t, hft, (mem_blk t i).2 fun a => ?_⟩
  match a with
  | ⟨0, _⟩ => show win0_3.index t (0 : Fin 2) * 2048 ≤ (i 0).val ∧ (i 0).val < win0_3.index t (0 : Fin 2) * 2048 + 2048; rw [e0, ha]; dsimp only; omega
  | ⟨1, _⟩ => show win0_3.index t (1 : Fin 2) * 768 ≤ (i 1).val ∧ (i 1).val < win0_3.index t (1 : Fin 2) * 768 + 768; rw [e1, hb]; dsimp only; omega

theorem final (c : Dev nD) : (dats m 0 c).arrAt 3 cfg0.N = proj m c :=
  (dats m 0 c).arrAt_eq_of_cover 3 _ (fun t hf => flushed_eq m c t hf) covered

/-- The call's run: it leaves the projection in its result and its arguments as they were. -/
theorem run : θ_run defs (onTc (τ := τ) (main (F := Ideal))) ⟨m, fun _ => 0, ρ⟩ fun r => ∀ c : Dev nD,
      r.2.mem ((c : Thread nD τ).loc main_v3) = proj m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (by decide)).trans (V_main_arg2 m c)⟩)
    (run_main_quiescent m ρ)

end Cert.InprojProof

end
-- ==== Proof.InprojRef.lean ====
/- The input projection reference's result at an index. -/
module

public import proofs.«01_k».proof.Proof.InprojValue
public import proofs.«01_k».proof.Proof.Gen.InprojRefIdeal.Run

@[expose] public section

noncomputable section

namespace Cert.InprojProof

open Cert.InprojRefIdeal Cert.InprojRefIdeal.Gen Idealize.ShloMosaic Idealize.ShloMosaic.TcCoe Idealize.SL.Sem

theorem ref_apply (a0 : FVec Ideal S8192x2048 .f32) (a1 : FVec Ideal S1x2048 .f32) (a2 : FVec Ideal S1x2048x8272 .f32) (r : Fin 8192) (j : Fin 8448) :
    (truncf .bf16 (pad S8192x8448 ![0, 0] ![0, 176] ![0, 0] (Host.dotGeneral dot_S8192x2048_S2048x8272_S8192x8272_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 a1)) (shapeCast _ a2 shapeCasts_S1x2048x8272_S2048x8272)) (constant S_ .f32 0x00000000#32) pads_S8192x8272_S8192x8448_000_01760 h_S_) bitsLt_bf16_f32 : FVec Ideal S8192x8448 .bf16) (ix2 r j) = projAt a0 a1 a2 r j := by
  unfold projAt rmsAt
  pointwise!

end Cert.InprojProof

end
-- ==== Proof.OutprojValue.lean ====
/- The output projection's result at an index: the residual plus the two mixers' outputs, each times its half of the weights. -/
module

public import proofs.«01_k».proof.Proof.Gen.OutprojIdeal.Value
public import Idealize.ShloMosaic.Lib.Pointwise
public import Idealize.ShloMosaic.Lib.ValueIdx

@[expose] public section

noncomputable section

namespace Cert.OutProof

open Cert.OutprojIdeal Cert.OutprojIdeal.Gen Idealize.ShloMosaic Idealize.ShloMosaic.TcCoe Idealize.SL.Sem
open Cert.OutprojIdeal.Value

theorem pay1_apply (v : Vec Ideal S1x256x2048 .f32) (k : Fin 256) (d : Fin 2048) : k0_pay1 (F := Ideal) v (ix2 k d) = v (ix3 0 k d) := by
  unfold k0_pay1
  pointwise! [shapeCast_self]

theorem pay2_apply (x : Vec Ideal S512x2048 .f32) (yh : Vec Ideal S512x1024 .bf16) (w0 : Vec Ideal S1024x2048 .bf16) (ya : Vec Ideal S512x1024 .bf16) (w1 : Vec Ideal S1024x2048 .bf16)
    (r : Fin 512) (d : Fin 2048) :
    k0_pay2 (F := Ideal) x yh w0 ya w1 (ix2 r d) = x (ix2 r d) + (∑ k : Fin 1024, yh (ix2 r k) * w0 (ix2 k d)) + ∑ k : Fin 1024, ya (ix2 r k) * w1 (ix2 k d) := by
  unfold k0_pay2
  pointwise!

theorem hz2 : (![0, 0] : Fin 2 → Nat) = fun _ => 0 := funext fun a => by fin_cases a <;> rfl

/-- The weights as the scratch keeps them. -/
def wMat (w : Vec Ideal S1x2048x2048 .f32) : Vec Ideal S2048x2048 .bf16 := fun y => w (ix3 0 (y 0) (y 1))

section Loop
variable (𝒱 : Variants) (c : Dev nD) (bd : Option 𝒱.V) (i : grid0.Coords)
  (arg1 : Memref sig .tc .vmem S512x1024 .bf16) (harg1 : arg1.IsWhole) (arg2 : Memref sig .tc .vmem S512x1024 .bf16) (harg2 : arg2.IsWhole)
  (arg3 : Memref sig .tc .vmem S1x2048x2048 .f32) (harg3 : arg3.IsWhole) (arg4 : Memref sig .tc .vmem S512x2048 .f32) (harg4 : arg4.IsWhole)
  (arg5 : Memref sig .tc .vmem S512x2048 .f32) (harg5 : arg5.IsWhole) (arg6 : Memref sig .tc .vmem S2048x2048 .bf16) (harg6 : arg6.IsWhole)

theorem off1_eq : ∀ k : Fin k0_t1_loop.trips, k0_off1 k = ![0, 256 * k.val, 0] := by decide
theorem off2_eq : ∀ k : Fin k0_t1_loop.trips, k0_off2 k = ![256 * k.val, 0] := by decide

/-- One trip of the loop stores one piece: 256 rows of the weights, cast. -/
theorem tripL_eq (k0_h1 : k0_cond1 i = 1#1) (X : BufTy.Contents (Elt Ideal) arg3.view.ty) (k : Fin k0_t1_loop.trips) :
    tripL_k0_t1 (F := Ideal) 𝒱 c bd i arg1 harg1 arg2 harg2 arg3 harg3 arg4 harg4 arg5 harg5 arg6 harg6 k0_h1 X k
      = [⟨Rect.unit (s := S2048x2048) (k0_off2 k) S256x2048.size (k0_off2_inb i k k0_h1),
          k0_pay1 (arg3.view.readAt (Elt Ideal) (Rect.unit (s := S1x2048x2048) (k0_off1 k) S1x256x2048.size (k0_off1_inb i k k0_h1)).toLoadRect X)⟩] := by
  unfold tripL_k0_t1 trip_k0_t1
  rfl

theorem pay1_tile (x2 : Vec Ideal S1x2048x2048 .f32) (o : ℕ) (off1 : Fin 3 → ℕ) (ho1 : off1 = ![0, o, 0]) (off2 : Fin 2 → ℕ) (ho2 : off2 = ![o, 0])
    (inb1 : ∀ a, off1 a + S1x256x2048.size a ≤ S1x2048x2048.size a) (inb2 : ∀ a, off2 a + S256x2048.size a ≤ S2048x2048.size a) (x : S256x2048.Idx) :
    k0_pay1 (F := Ideal) (arg3.view.readAt (Elt Ideal) (Rect.unit (s := S1x2048x2048) off1 S1x256x2048.size inb1).toLoadRect (harg3.unread x2)) x
      = wMat x2 ((Rect.unit (s := S2048x2048) off2 S256x2048.size inb2).emb x) := by
  obtain ⟨r, k, rfl⟩ : ∃ (r : Fin 256) (k : Fin 2048), x = ix2 r k := ⟨x 0, x 1, eq_ix2 x⟩
  subst ho1
  subst ho2
  rw [pay1_apply, View.readAt_eq_ld, harg3.read_unread]
  refine congrArg x2 (funext fun a => Fin.ext ?_)
  match a with
  | ⟨0, _⟩ => rfl
  | ⟨1, _⟩ => rfl
  | ⟨2, _⟩ => rfl

theorem pb_pieces (k0_h1 : k0_cond1 i = 1#1) (x2 : Vec Ideal S1x2048x2048 .f32) :
    ∀ n : ℕ, n ≤ k0_t1_loop.trips → ∀ p ∈ pb_k0_t1 (F := Ideal) 𝒱 c bd i arg1 harg1 arg2 harg2 arg3 harg3 arg4 harg4 arg5 harg5 arg6 harg6 k0_h1 (harg3.unread x2) n,
      ∀ x : p.1.shape.Idx, p.2 x = wMat x2 (p.1.emb x)
  | 0, _, p, hp => by simp [pb_k0_t1] at hp
  | n + 1, hn, p, hp => by
    rw [show n + 1 = (⟨n, hn⟩ : Fin k0_t1_loop.trips).val + 1 from rfl, pb_k0_t1_succ, tripL_eq] at hp
    rcases List.mem_append.mp hp with h | h
    · obtain rfl := List.mem_singleton.mp h
      intro x
      exact pay1_tile arg3 harg3 x2 _ _ (off1_eq ⟨n, hn⟩) _ (off2_eq ⟨n, hn⟩) _ (k0_off2_inb i ⟨n, hn⟩ k0_h1) x
    · exact pb_pieces k0_h1 x2 n (Nat.le_of_lt hn) p h

end Loop

section Points
variable (c : Dev nD) (i : grid0.Coords)
  (arg1 : Memref sig .tc .vmem S512x1024 .bf16) (harg1 : arg1.IsWhole) (arg2 : Memref sig .tc .vmem S512x1024 .bf16) (harg2 : arg2.IsWhole)
  (arg3 : Memref sig .tc .vmem S1x2048x2048 .f32) (harg3 : arg3.IsWhole) (arg4 : Memref sig .tc .vmem S512x2048 .f32) (harg4 : arg4.IsWhole)
  (arg5 : Memref sig .tc .vmem S512x2048 .f32) (harg5 : arg5.IsWhole) (arg6 : Memref sig .tc .vmem S2048x2048 .bf16) (harg6 : arg6.IsWhole)
  (x0 x1 : Vec Ideal S512x1024 .bf16) (x2 : Vec Ideal S1x2048x2048 .f32) (x3 : Vec Ideal S512x2048 .f32)

/-- What a point computes: of the weights kept, the upper half for the first mixer and the lower half for the second. -/
def pointOut (x0 x1 : Vec Ideal S512x1024 .bf16) (s : Vec Ideal S2048x2048 .bf16) (x3 : Vec Ideal S512x2048 .f32) : Vec Ideal S512x2048 .f32 :=
  k0_pay2 (F := Ideal) x3 x0 (View.ld s (Rect.unit (s := S2048x2048) ![0, 0] S1024x2048.size inb_S2048x2048_S1024x2048_0_0))
    x1 (View.ld s (Rect.unit (s := S2048x2048) ![1024, 0] S1024x2048.size inb_S2048x2048_S1024x2048_1024_0))

theorem out_B (hc0 : ¬cond0_0 i) (xs0 : Vec Ideal S2048x2048 .bf16) :
    out0_B_4 (F := Ideal) c i arg1 harg1 arg2 harg2 arg3 harg3 arg4 harg4 arg5 harg5 arg6 harg6 hc0 x0 x1 x2 x3 xs0 = pointOut x0 x1 xs0 x3 := by
  unfold out0_B_4 pointOut
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero hz2]
  simp only [View.readAt_eq_ld, harg1.read_unread, harg2.read_unread, harg4.read_unread, harg6.read_unread, View.ld_unit_zero (S := S512x1024) hz2, View.ld_unit_zero (S := S512x2048) hz2]

theorem sout_A (hc0 : cond0_0 i) :
    sout0_A_0 (F := Ideal) c i arg1 harg1 arg2 harg2 arg3 harg3 arg4 harg4 arg5 harg5 arg6 harg6 hc0 x0 x1 x2 x3 = wMat x2 := by
  unfold sout0_A_0
  rw [View.read_writes_eq_canon _ _ _ (scover0_A_0 c i arg1 harg1 arg2 harg2 arg3 harg3 arg4 harg4 arg5 harg5 arg6 harg6 hc0 x0 x1 x2 x3)]
  funext y
  refine View.canon_apply_of_pieces (wMat x2) _ ?_ y (scover0_A_0 c i arg1 harg1 arg2 harg2 arg3 harg3 arg4 harg4 arg5 harg5 arg6 harg6 hc0 x0 x1 x2 x3 y)
  unfold kernelRun0_A
  dsimp only
  sl_unfold_words
  exact pb_pieces Variants.none c none i arg1 harg1 arg2 harg2 arg3 harg3 arg4 harg4 arg5 harg5 arg6 harg6 hc0 x2 _ le_rfl

include x0 x1 x3 in
theorem canon_pb (hc0 : cond0_0 i) :
    View.canon (pb_k0_t1 (F := Ideal) Variants.none c none i arg1 harg1 arg2 harg2 arg3 harg3 arg4 harg4 arg5 harg5 arg6 harg6 hc0 (harg3.unread x2) k0_t1_loop.trips) = wMat x2 := by
  have h := sout_A c i arg1 harg1 arg2 harg2 arg3 harg3 arg4 harg4 arg5 harg5 arg6 harg6 x0 x1 x2 x3 hc0
  unfold sout0_A_0 at h
  rw [View.read_writes_eq_canon _ _ _ (scover0_A_0 c i arg1 harg1 arg2 harg2 arg3 harg3 arg4 harg4 arg5 harg5 arg6 harg6 hc0 x0 x1 x2 x3)] at h
  unfold kernelRun0_A at h
  dsimp only at h
  exact h

theorem out_A (hc0 : cond0_0 i) :
    out0_A_4 (F := Ideal) c i arg1 harg1 arg2 harg2 arg3 harg3 arg4 harg4 arg5 harg5 arg6 harg6 hc0 x0 x1 x2 x3 = pointOut x0 x1 (wMat x2) x3 := by
  unfold out0_A_4 pointOut
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero hz2]
  simp only [View.readAt_eq_ld, harg1.read_unread, harg2.read_unread, harg4.read_unread, harg6.read_unread, View.ld_unit_zero (S := S512x1024) hz2, View.ld_unit_zero (S := S512x2048) hz2]
  rw [View.readCov_eq_canon', View.readCov_eq_canon', canon_pb c i arg1 harg1 arg2 harg2 arg3 harg3 arg4 harg4 arg5 harg5 arg6 harg6 x0 x1 x2 x3 hc0]

end Points

variable (m : (ℓ : Loc nD τ sig) → Buf (Elt Ideal) ℓ) (c : Dev nD)

abbrev aH : Vec Ideal S8192x1024 .bf16 := m ((c : Thread nD τ).loc main_arg0)
abbrev aA : Vec Ideal S8192x1024 .bf16 := m ((c : Thread nD τ).loc main_arg1)
abbrev aW : Vec Ideal S1x2048x2048 .f32 := m ((c : Thread nD τ).loc main_arg2)
abbrev aX : Vec Ideal S8192x2048 .f32 := m ((c : Thread nD τ).loc main_arg3)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem lt16 (t : Fin cfg0.N) : t.val < 16 := lt_of_lt_of_eq t.isLt N_0

theorem blk0 (t : Fin cfg0.N) (r : Fin 512) (q : Fin 1024) :
    (iblk m c 0 t : Vec Ideal S512x1024 .bf16) (ix2 r q) = aH m c (ix2 (Fin.ofNat 8192 (512 * t.val + r.val)) q) := by
  have ht := lt16 t
  obtain ⟨e0, e1⟩ := idx0 t
  unfold iblk
  rw [View.read_apply]
  show V m c main_arg0 _ = _
  unfold V
  refine congrArg (m _) (funext fun a => Fin.ext ?_)
  match a with
  | ⟨0, _⟩ => show win0_0.index t (0 : Fin 2) * 512 + 1 * r.val = (512 * t.val + r.val) % 8192; rw [e0]; omega
  | ⟨1, _⟩ => show win0_0.index t (1 : Fin 2) * 1024 + 1 * q.val = q.val; rw [e1]; omega

theorem blk1 (t : Fin cfg0.N) (r : Fin 512) (q : Fin 1024) :
    (iblk m c 1 t : Vec Ideal S512x1024 .bf16) (ix2 r q) = aA m c (ix2 (Fin.ofNat 8192 (512 * t.val + r.val)) q) := by
  have ht := lt16 t
  obtain ⟨e0, e1⟩ := idx1 t
  unfold iblk
  rw [View.read_apply]
  show V m c main_arg1 _ = _
  unfold V
  refine congrArg (m _) (funext fun a => Fin.ext ?_)
  match a with
  | ⟨0, _⟩ => show win0_1.index t (0 : Fin 2) * 512 + 1 * r.val = (512 * t.val + r.val) % 8192; rw [e0]; omega
  | ⟨1, _⟩ => show win0_1.index t (1 : Fin 2) * 1024 + 1 * q.val = q.val; rw [e1]; omega

theorem blk3 (t : Fin cfg0.N) (r : Fin 512) (q : Fin 2048) :
    (iblk m c 3 t : Vec Ideal S512x2048 .f32) (ix2 r q) = aX m c (ix2 (Fin.ofNat 8192 (512 * t.val + r.val)) q) := by
  have ht := lt16 t
  obtain ⟨e0, e1⟩ := idx3 t
  unfold iblk
  rw [View.read_apply]
  show V m c main_arg3 _ = _
  unfold V
  refine congrArg (m _) (funext fun a => Fin.ext ?_)
  match a with
  | ⟨0, _⟩ => show win0_3.index t (0 : Fin 2) * 512 + 1 * r.val = (512 * t.val + r.val) % 8192; rw [e0]; omega
  | ⟨1, _⟩ => show win0_3.index t (1 : Fin 2) * 2048 + 1 * q.val = q.val; rw [e1]; omega

theorem blk2 (t : Fin cfg0.N) : (iblk m c 2 t : Vec Ideal S1x2048x2048 .f32) = aW m c := by
  obtain ⟨e0, e1, e2⟩ := idx2 t
  funext y
  unfold iblk
  rw [View.read_apply]
  show V m c main_arg2 _ = _
  unfold V
  refine congrArg (m _) (funext fun a => Fin.ext ?_)
  match a with
  | ⟨0, _⟩ => show win0_2.index t (0 : Fin 3) * 1 + 1 * (y 0).val = (y 0).val; rw [e0]; omega
  | ⟨1, _⟩ => show win0_2.index t (1 : Fin 3) * 2048 + 1 * (y 1).val = (y 1).val; rw [e1]; omega
  | ⟨2, _⟩ => show win0_2.index t (2 : Fin 3) * 2048 + 1 * (y 2).val = (y 2).val; rw [e2]; omega

/-- After every point the output block holds the point's result and the scratch the weights. -/
theorem outs_eq : ∀ (n : ℕ) (hn : n < cfg0.N), (outsAt0 m c n hn).2 = wMat (aW m c)
    ∧ (outsAt0 m c n hn).1 = pointOut (iblk m c 0 ⟨n, hn⟩) (iblk m c 1 ⟨n, hn⟩) (wMat (aW m c)) (iblk m c 3 ⟨n, hn⟩) := by
  intro n
  induction n with
  | zero =>
    intro hn
    have h := outsAt0_A m c ⟨0, hn⟩ (Nat.zero_mod _)
    dsimp only at h
    rw [h]
    refine ⟨?_, ?_⟩
    · dsimp only
      rw [sout_A, blk2]
    · dsimp only
      rw [out_A, blk2]
  | succ n ih =>
    intro hn
    have h0 : ¬(n + 1) % 16 = 0 := by have := lt16 ⟨n + 1, hn⟩; dsimp only at this; omega
    have h := outsAt0_B m c ⟨n + 1, hn⟩ h0
    dsimp only [Nat.add_sub_cancel] at h
    obtain ⟨i1, -⟩ := ih (Nat.lt_of_succ_lt hn)
    rw [h]
    refine ⟨i1, ?_⟩
    dsimp only
    rw [out_B]
    exact congrArg (fun s => pointOut _ _ s _) i1

/-- An element of the result. -/
def outAt (yh ya : Vec Ideal S8192x1024 .bf16) (w : Vec Ideal S1x2048x2048 .f32) (x : Vec Ideal S8192x2048 .f32) (r : Fin 8192) (d : Fin 2048) : EReal :=
  x (ix2 r d) + (∑ k : Fin 1024, yh (ix2 r k) * w (ix3 0 (Fin.ofNat 2048 k.val) d)) + ∑ k : Fin 1024, ya (ix2 r k) * w (ix3 0 (Fin.ofNat 2048 (1024 + k.val)) d)

theorem point_apply (t : Fin cfg0.N) (r : Fin 512) (d : Fin 2048) :
    pointOut (iblk m c 0 t) (iblk m c 1 t) (wMat (aW m c)) (iblk m c 3 t) (ix2 r d)
      = outAt (aH m c) (aA m c) (aW m c) (aX m c) (Fin.ofNat 8192 (512 * t.val + r.val)) d := by
  unfold pointOut
  rw [pay2_apply, blk3]
  simp only [blk0, blk1]
  unfold outAt
  have e0 : ∀ k : Fin 1024, View.ld (wMat (aW m c)) (Rect.unit (s := S2048x2048) ![0, 0] S1024x2048.size inb_S2048x2048_S1024x2048_0_0) (ix2 k d)
      = aW m c (ix3 0 (Fin.ofNat 2048 k.val) d) := fun k => by
    refine congrArg (aW m c) (funext fun a => Fin.ext ?_)
    match a with
    | ⟨0, _⟩ => rfl
    | ⟨1, _⟩ => show 0 + 1 * k.val = k.val % 2048; have := k.isLt; omega
    | ⟨2, _⟩ => show 0 + 1 * d.val = d.val; omega
  have e1 : ∀ k : Fin 1024, View.ld (wMat (aW m c)) (Rect.unit (s := S2048x2048) ![1024, 0] S1024x2048.size inb_S2048x2048_S1024x2048_1024_0) (ix2 k d)
      = aW m c (ix3 0 (Fin.ofNat 2048 (1024 + k.val)) d) := fun k => by
    refine congrArg (aW m c) (funext fun a => Fin.ext ?_)
    match a with
    | ⟨0, _⟩ => rfl
    | ⟨1, _⟩ => show 1024 + 1 * k.val = (1024 + k.val) % 2048; have := k.isLt; omega
    | ⟨2, _⟩ => show 0 + 1 * d.val = d.val; omega
  simp only [e0, e1]

/-- The kernel's result at an index. -/
theorem G4_apply (r : Fin 8192) (d : Fin 2048) :
    (G4 m c : Vec Ideal S8192x2048 .f32) (ix2 r d) = outAt (aH m c) (aA m c) (aW m c) (aX m c) r d := by
  have hr := r.isLt
  have hd := d.isLt
  have hp : pt4Of (ix2 r d) = r.val / 512 := by
    show 1 * (r.val / 512 - 0) + 1 * (d.val / 2048 - 0) = _
    omega
  have hlt : pt4Of (ix2 r d) < cfg0.N := lt_of_lt_of_eq (by rw [hp]; omega) N_0.symm
  unfold G4
  rw [dif_pos hlt, ← outsAt0_sweep m c _ hlt]
  have hl : loc4Of (ix2 r d) = ix2 (⟨r.val % 512, Nat.mod_lt _ (by decide)⟩ : Fin 512) d := by
    funext a; apply Fin.ext
    match a with
    | ⟨0, _⟩ => rfl
    | ⟨1, _⟩ => show d.val % 2048 = d.val; omega
  rw [hl, (outs_eq m c _ hlt).2, point_apply]
  have e3 : Fin.ofNat 8192 (512 * pt4Of (ix2 r d) + r.val % 512) = r := Fin.ext (by rw [hp]; show (512 * (r.val / 512) + r.val % 512) % 8192 = r.val; omega)
  dsimp only at e3 ⊢
  rw [e3]

end Cert.OutProof

end
-- ==== Proof.OutprojRef.lean ====
/- The output projection reference's result at an index: one product over the two mixers' outputs side by side. -/
module

public import proofs.«01_k».proof.Proof.OutprojValue
public import proofs.«01_k».proof.Proof.Gen.OutprojRefIdeal.Run

@[expose] public section

noncomputable section

namespace Cert.OutProof

open Cert.OutprojRefIdeal Cert.OutprojRefIdeal.Gen Idealize.ShloMosaic Idealize.ShloMosaic.TcCoe Idealize.SL.Sem

/-- An element of the two mixers' outputs side by side. -/
def catAt (a0 a1 : FVec Ideal S8192x1024 .bf16) (r : Fin 8192) (k : Fin 2048) : EReal :=
  if h : k.val < 1024 then a0 (ix2 r ⟨k.val, h⟩) else a1 (ix2 r ⟨k.val - 1024, by have := k.isLt; omega⟩)

theorem ref_sum (a0 a1 : FVec Ideal S8192x1024 .bf16) (a2 : FVec Ideal S1x2048x2048 .f32) (a3 : FVec Ideal S8192x2048 .f32) (r : Fin 8192) (d : Fin 2048) :
    (addf a3 (Host.dotGeneral dot_S8192x2048_S2048x2048_S8192x2048_1_0_0_1_n_n none (concatenate S8192x2048 1 [⟨S8192x1024, (extf .f32 a0 bitsLt_bf16_f32)⟩, ⟨S8192x1024, (extf .f32 a1 bitsLt_bf16_f32)⟩] concatenates_S8192x1024_S8192x1024_S8192x2048_d1) (shapeCast _ a2 shapeCasts_S1x2048x2048_S2048x2048)) : FVec Ideal S8192x2048 .f32) (ix2 r d)
      = a3 (ix2 r d) + ∑ k : Fin 2048, catAt a0 a1 r k * a2 (ix3 0 k d) := by
  unfold catAt
  pointwise!

theorem ref_apply (a0 a1 : FVec Ideal S8192x1024 .bf16) (a2 : FVec Ideal S1x2048x2048 .f32) (a3 : FVec Ideal S8192x2048 .f32) (r : Fin 8192) (d : Fin 2048) :
    (addf a3 (Host.dotGeneral dot_S8192x2048_S2048x2048_S8192x2048_1_0_0_1_n_n none (concatenate S8192x2048 1 [⟨S8192x1024, (extf .f32 a0 bitsLt_bf16_f32)⟩, ⟨S8192x1024, (extf .f32 a1 bitsLt_bf16_f32)⟩] concatenates_S8192x1024_S8192x1024_S8192x2048_d1) (shapeCast _ a2 shapeCasts_S1x2048x2048_S2048x2048)) : FVec Ideal S8192x2048 .f32) (ix2 r d) = outAt a0 a1 a2 a3 r d := by
  rw [ref_sum]
  unfold outAt
  rw [add_assoc]
  refine congrArg (a3 (ix2 r d) + ·) ?_
  refine (Fin.sum_univ_add (a := 1024) (b := 1024) (fun k : Fin 2048 => catAt a0 a1 r k * a2 (ix3 0 k d))).trans ?_
  refine congrArg₂ (· + ·) (Finset.sum_congr rfl fun k _ => ?_) (Finset.sum_congr rfl fun k _ => ?_)
  · have hk := k.isLt
    have e : (Fin.ofNat 2048 k.val : Fin 2048) = Fin.castAdd 1024 k := Fin.ext (Nat.mod_eq_of_lt (by omega))
    rw [e]
    unfold catAt
    rw [dif_pos (show (Fin.castAdd 1024 k).val < 1024 from hk)]
    rfl
  · have hk := k.isLt
    have e : (Fin.ofNat 2048 (1024 + k.val) : Fin 2048) = Fin.natAdd 1024 k := Fin.ext (Nat.mod_eq_of_lt (by omega))
    rw [e]
    unfold catAt
    rw [dif_neg (show ¬(Fin.natAdd 1024 k).val < 1024 from by simp)]
    refine congrArg (fun q => a1 (ix2 r q) * _) (Fin.ext ?_)
    simp

end Cert.OutProof

end
-- ==== Proof.MemkvValue.lean ====
/- The memory's keys and values at an index: the normalised rows times the weights, the keys normalised again head by head. -/
module

public import proofs.«01_k».proof.Proof.Gen.MemkvIdeal.Value
public import Idealize.ShloMosaic.Lib.Pointwise
public import Idealize.ShloMosaic.Lib.ValueIdx

@[expose] public section

noncomputable section

namespace Cert.MemProof

open Cert.MemkvIdeal Cert.MemkvIdeal.Gen Idealize.ShloMosaic Idealize.ShloMosaic.TcCoe Idealize.SL.Sem
open Cert.MemkvIdeal.Value

/-- A row scaled by the reciprocal of its root mean square and by the gain. -/
def rmsAt (x g : Fin 2048 → EReal) (k : Fin 2048) : EReal :=
  x k * Ideal.rsqrt (Ideal.div (∑ q : Fin 2048, x q * x q) (Ideal.ofBits .f32 0x45000000#32) + Ideal.ofBits .f32 0x358637BD#32) * g k

/-- An element of the normalised memory times weights. -/
def projAt (x : FVec Ideal S2x256x2048 .f32) (g : FVec Ideal S1x2048 .f32) (w : FVec Ideal S1x2048x512 .f32) (b : Fin 2) (r : Fin 256) (d : Fin 512) : EReal :=
  ∑ k : Fin 2048, rmsAt (fun q => x (ix3 b r q)) (fun q => g (ix2 0 q)) k * w (ix3 0 k d)

/-- A row of keys normalised over the head its column is in. -/
def headAt (p : Fin 512 → EReal) (kg : FVec Ideal S1x128 .f32) (d : Fin 512) : EReal :=
  p d * Ideal.rsqrt (Ideal.div (∑ j : Fin 128, p ⟨d.val / 128 * 128 + j.val, by have := d.isLt; have := j.isLt; omega⟩ * p ⟨d.val / 128 * 128 + j.val, by have := d.isLt; have := j.isLt; omega⟩) (Ideal.ofBits .f32 0x43000000#32) + Ideal.ofBits .f32 0x358637BD#32)
    * kg (ix2 0 ⟨d.val % 128, Nat.mod_lt _ (by norm_num)⟩)

/-- An element of one batch entry's normalised memory times weights. -/
def blkAt (x : Vec Ideal S1x256x2048 .f32) (g : Vec Ideal S1x2048 .f32) (w : Vec Ideal S1x2048x512 .f32) (r : Fin 256) (d : Fin 512) : EReal :=
  ∑ k : Fin 2048, rmsAt (fun q => x (ix3 0 r q)) (fun q => g (ix2 0 q)) k * w (ix3 0 k d)

theorem pay3_apply (x : Vec Ideal S1x256x2048 .f32) (g : Vec Ideal S1x2048 .f32) (r : Fin 256) (k : Fin 2048) :
    k0_pay3 (F := Ideal) x g (ix2 r k) = rmsAt (fun q => x (ix3 0 r q)) (fun q => g (ix2 0 q)) k := by
  unfold k0_pay3 rmsAt
  pointwise!

theorem pay4_apply (x : Vec Ideal S1x256x2048 .f32) (g : Vec Ideal S1x2048 .f32) (w : Vec Ideal S1x2048x512 .f32) (r : Fin 256) (d : Fin 512) :
    k0_pay4 (F := Ideal) x g w (ix2 r d) = blkAt x g w r d := by
  unfold k0_pay4 blkAt
  simp only [← pay3_apply]
  pointwise!

theorem pay2_apply (x : Vec Ideal S1x256x2048 .f32) (g : Vec Ideal S1x2048 .f32) (w : Vec Ideal S1x2048x512 .f32) (z : Fin 1) (r : Fin 256) (d : Fin 512) :
    k0_pay2 (F := Ideal) (k0_pay3 (F := Ideal) x g) w (ix3 z r d) = blkAt x g w r d := by
  unfold k0_pay2 blkAt
  simp only [← pay3_apply]
  pointwise!

theorem sum0 (A : FVec Ideal S256x512 .f32) (r : Fin 256) :
    (multiReduction .add [1] S256 (mulf (extractStridedSlice S256x128 ![0, 0] A slices_S256x512_o0_0_S256x128) (extractStridedSlice S256x128 ![0, 0] A slices_S256x512_o0_0_S256x128)) 0x00000000#32 reduces_S256x128_S256 (.inl rfl) rfl : FVec Ideal S256 .f32) (ix1 r)
      = ∑ j : Fin 128, A (ix2 r ⟨0 * 128 + j.val, by have := j.isLt; omega⟩) * A (ix2 r ⟨0 * 128 + j.val, by have := j.isLt; omega⟩) := by
  pointwise!
theorem sum1 (A : FVec Ideal S256x512 .f32) (r : Fin 256) :
    (multiReduction .add [1] S256 (mulf (extractStridedSlice S256x128 ![0, 128] A slices_S256x512_o0_128_S256x128) (extractStridedSlice S256x128 ![0, 128] A slices_S256x512_o0_128_S256x128)) 0x00000000#32 reduces_S256x128_S256 (.inl rfl) rfl : FVec Ideal S256 .f32) (ix1 r)
      = ∑ j : Fin 128, A (ix2 r ⟨1 * 128 + j.val, by have := j.isLt; omega⟩) * A (ix2 r ⟨1 * 128 + j.val, by have := j.isLt; omega⟩) := by
  pointwise!
theorem sum2 (A : FVec Ideal S256x512 .f32) (r : Fin 256) :
    (multiReduction .add [1] S256 (mulf (extractStridedSlice S256x128 ![0, 256] A slices_S256x512_o0_256_S256x128) (extractStridedSlice S256x128 ![0, 256] A slices_S256x512_o0_256_S256x128)) 0x00000000#32 reduces_S256x128_S256 (.inl rfl) rfl : FVec Ideal S256 .f32) (ix1 r)
      = ∑ j : Fin 128, A (ix2 r ⟨2 * 128 + j.val, by have := j.isLt; omega⟩) * A (ix2 r ⟨2 * 128 + j.val, by have := j.isLt; omega⟩) := by
  pointwise!
theorem sum3 (A : FVec Ideal S256x512 .f32) (r : Fin 256) :
    (multiReduction .add [1] S256 (mulf (extractStridedSlice S256x128 ![0, 384] A slices_S256x512_o0_384_S256x128) (extractStridedSlice S256x128 ![0, 384] A slices_S256x512_o0_384_S256x128)) 0x00000000#32 reduces_S256x128_S256 (.inl rfl) rfl : FVec Ideal S256 .f32) (ix1 r)
      = ∑ j : Fin 128, A (ix2 r ⟨3 * 128 + j.val, by have := j.isLt; omega⟩) * A (ix2 r ⟨3 * 128 + j.val, by have := j.isLt; omega⟩) := by
  pointwise!

theorem fam_apply (P0 : Vec Ideal S1x256x2048 .f32) (P1 : Vec Ideal S1x2048 .f32) (P2 : Vec Ideal S1x2048x512 .f32) (P3 : Vec Ideal S1x128 .f32) (h : Fin 4) (r : Fin 256) :
    Fam5_1 (F := Ideal) P0 P1 P2 P3 h (ix1 r)
      = ∑ j : Fin 128, k0_pay4 (F := Ideal) P0 P1 P2 (ix2 r ⟨h.val * 128 + j.val, by have := h.isLt; have := j.isLt; omega⟩) * k0_pay4 (F := Ideal) P0 P1 P2 (ix2 r ⟨h.val * 128 + j.val, by have := h.isLt; have := j.isLt; omega⟩) := by
  match h with
  | ⟨0, _⟩ => exact sum0 _ r
  | ⟨1, _⟩ => exact sum1 _ r
  | ⟨2, _⟩ => exact sum2 _ r
  | ⟨3, _⟩ => exact sum3 _ r

theorem hz2 : (![0, 0] : Fin 2 → Nat) = fun _ => 0 := funext fun a => by fin_cases a <;> rfl
theorem hz3 : (![0, 0, 0] : Fin 3 → Nat) = fun _ => 0 := funext fun a => by fin_cases a <;> rfl

theorem E5_apply (P0 : Vec Ideal S1x256x2048 .f32) (P1 : Vec Ideal S1x2048 .f32) (P2 : Vec Ideal S1x2048x512 .f32) (P3 : Vec Ideal S1x128 .f32) (z : Fin 1) (r : Fin 256) (d : Fin 512) :
    E5 (F := Ideal) P0 P1 P2 P3 (ix3 z r d) = headAt (fun e => blkAt P0 P1 P2 r e) P3 d := by
  have e0 : ix5_0 (ix3 z r d) = ix2 r d := funext fun a => by fin_cases a <;> rfl
  have e1 : ix5_1 (ix3 z r d) = ix1 r := funext fun a => by fin_cases a; rfl
  have e2 : ix5_2 (ix3 z r d) = ix2 0 ⟨d.val % 128, Nat.mod_lt _ (by norm_num)⟩ := funext fun a => by fin_cases a <;> rfl
  show k0_pay4 (F := Ideal) P0 P1 P2 (ix5_0 (ix3 z r d)) * Ideal.rsqrt (Ideal.div (Fam5_1 (F := Ideal) P0 P1 P2 P3 (sel5 (ix3 z r d)) (ix5_1 (ix3 z r d))) (Ideal.ofBits .f32 0x43000000#32) + Ideal.ofBits .f32 0x358637BD#32) * P3 (ix5_2 (ix3 z r d)) = _
  rw [e0, e1, e2, fam_apply]
  simp only [pay4_apply]
  rfl

theorem out5_apply (x0 : Vec Ideal S1x256x2048 .f32) (x1 : Vec Ideal S1x2048 .f32) (x2 x3 : Vec Ideal S1x2048x512 .f32) (x4 : Vec Ideal S1x128 .f32) (z : Fin 1) (r : Fin 256) (d : Fin 512) :
    out0_5 (F := Ideal) x0 x1 x2 x3 x4 (ix3 z r d) = headAt (fun e => blkAt x0 x1 x2 r e) x4 d := by
  unfold out0_5 k0_pay10
  simp only [View.ld_unit_zero (S := S1x256x2048) hz3, View.ld_unit_zero (S := S1x2048) hz2, View.ld_unit_zero (S := S1x2048x512) hz3, View.ld_unit_zero (S := S1x128) hz2]
  exact (canon5_eq _ _ _ _ _).trans (E5_apply _ _ _ _ z r d)

theorem out6_apply (x0 : Vec Ideal S1x256x2048 .f32) (x1 : Vec Ideal S1x2048 .f32) (x2 x3 : Vec Ideal S1x2048x512 .f32) (x4 : Vec Ideal S1x128 .f32) (z : Fin 1) (r : Fin 256) (d : Fin 512) :
    out0_6 (F := Ideal) x0 x1 x2 x3 x4 (ix3 z r d) = blkAt x0 x1 x3 r d := by
  unfold out0_6
  rw [View.canon_unit_zero hz3]
  simp only [View.ld_unit_zero (S := S1x256x2048) hz3, View.ld_unit_zero (S := S1x2048) hz2, View.ld_unit_zero (S := S1x2048x512) hz3, View.ld_unit_zero (S := S1x128) hz2]
  exact pay2_apply _ _ _ z r d

variable (m : (ℓ : Loc nD τ sig) → Buf (Elt Ideal) ℓ) (ρ : Dev nD → PrngReg)

abbrev aX (c : Dev nD) : FVec Ideal S2x256x2048 .f32 := m ((c : Thread nD τ).loc main_arg0)
abbrev aG (c : Dev nD) : FVec Ideal S1x2048 .f32 := m ((c : Thread nD τ).loc main_arg1)
abbrev aK (c : Dev nD) : FVec Ideal S1x2048x512 .f32 := m ((c : Thread nD τ).loc main_arg2)
abbrev aV (c : Dev nD) : FVec Ideal S1x2048x512 .f32 := m ((c : Thread nD τ).loc main_arg3)
abbrev aH (c : Dev nD) : FVec Ideal S1x128 .f32 := m ((c : Thread nD τ).loc main_arg4)

/-- The keys the call leaves. -/
def keys (c : Dev nD) : Vec Ideal S2x256x512 .bf16 := fun i => headAt (fun e => projAt (aX m c) (aG m c) (aK m c) (i 0) (i 1) e) (aH m c) (i 2)
/-- The values the call leaves. -/
def vals (c : Dev nD) : Vec Ideal S2x256x512 .bf16 := fun i => projAt (aX m c) (aG m c) (aV m c) (i 0) (i 1) (i 2)

theorem index_in : ∀ t : Fin grid0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0 := by
  decide +kernel
theorem index_out : ∀ t : Fin grid0.N, win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 := by
  decide +kernel
theorem flush_at : ∀ a : Fin 2, ∃ t : Fin grid0.N, win0_5.flush t = true ∧ win0_6.flush t = true ∧ t.val = a.val := by
  decide +kernel

theorem blk0 (c : Dev nD) (t : Fin cfg0.N) (b : Fin 2) (hb : b.val = t.val) (r : Fin 256) (q : Fin 2048) :
    (iblk m c 0 t : Vec Ideal S1x256x2048 .f32) (ix3 0 r q) = aX m c (ix3 b r q) := by
  obtain ⟨e0, e1, e2, -⟩ := index_in t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = b.val; rw [e0]; omega
  | ⟨1, _⟩ => show win0_0.index t (1 : Fin 3) * 256 + 1 * r.val = r.val; rw [e1]; omega
  | ⟨2, _⟩ => show win0_0.index t (2 : Fin 3) * 2048 + 1 * q.val = q.val; rw [e2]; omega

theorem blk1 (c : Dev nD) (t : Fin cfg0.N) (q : Fin 2048) :
    (iblk m c 1 t : Vec Ideal S1x2048 .f32) (ix2 0 q) = aG m c (ix2 0 q) := by
  obtain ⟨-, -, -, e0, e1, -⟩ := index_in t
  unfold iblk
  rw [View.read_apply]
  show V m c main_arg1 _ = V m c main_arg1 _
  refine congrArg (V m c main_arg1) (funext fun a => Fin.ext ?_)
  match a with
  | ⟨0, _⟩ => show win0_1.index t (0 : Fin 2) * 1 + 1 * 0 = 0; rw [e0]
  | ⟨1, _⟩ => show win0_1.index t (1 : Fin 2) * 2048 + 1 * q.val = q.val; rw [e1]; omega

theorem blk2 (c : Dev nD) (t : Fin cfg0.N) (k : Fin 2048) (d : Fin 512) :
    (iblk m c 2 t : Vec Ideal S1x2048x512 .f32) (ix3 0 k d) = aK m c (ix3 0 k d) := by
  obtain ⟨-, -, -, -, -, e0, e1, e2, -⟩ := index_in t
  unfold iblk
  rw [View.read_apply]
  show V m c main_arg2 _ = V m c main_arg2 _
  refine congrArg (V m c main_arg2) (funext fun a => Fin.ext ?_)
  match a with
  | ⟨0, _⟩ => show win0_2.index t (0 : Fin 3) * 1 + 1 * 0 = 0; rw [e0]
  | ⟨1, _⟩ => show win0_2.index t (1 : Fin 3) * 2048 + 1 * k.val = k.val; rw [e1]; omega
  | ⟨2, _⟩ => show win0_2.index t (2 : Fin 3) * 512 + 1 * d.val = d.val; rw [e2]; omega

theorem blk3 (c : Dev nD) (t : Fin cfg0.N) (k : Fin 2048) (d : Fin 512) :
    (iblk m c 3 t : Vec Ideal S1x2048x512 .f32) (ix3 0 k d) = aV m c (ix3 0 k d) := by
  obtain ⟨-, -, -, -, -, -, -, -, e0, e1, e2, -⟩ := index_in t
  unfold iblk
  rw [View.read_apply]
  show V m c main_arg3 _ = V m c main_arg3 _
  refine congrArg (V m c main_arg3) (funext fun a => Fin.ext ?_)
  match a with
  | ⟨0, _⟩ => show win0_3.index t (0 : Fin 3) * 1 + 1 * 0 = 0; rw [e0]
  | ⟨1, _⟩ => show win0_3.index t (1 : Fin 3) * 2048 + 1 * k.val = k.val; rw [e1]; omega
  | ⟨2, _⟩ => show win0_3.index t (2 : Fin 3) * 512 + 1 * d.val = d.val; rw [e2]; omega

theorem blk4 (c : Dev nD) (t : Fin cfg0.N) (q : Fin 128) :
    (iblk m c 4 t : Vec Ideal S1x128 .f32) (ix2 0 q) = aH m c (ix2 0 q) := by
  obtain ⟨-, -, -, -, -, -, -, -, -, -, -, e0, e1⟩ := index_in t
  unfold iblk
  rw [View.read_apply]
  show V m c main_arg4 _ = V m c main_arg4 _
  refine congrArg (V m c main_arg4) (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

theorem blkK (c : Dev nD) (t : Fin cfg0.N) (b : Fin 2) (hb : b.val = t.val) (r : Fin 256) (d : Fin 512) :
    blkAt (iblk m c 0 t) (iblk m c 1 t) (iblk m c 2 t) r d = projAt (aX m c) (aG m c) (aK m c) b r d := by
  unfold blkAt projAt
  refine Finset.sum_congr rfl fun k _ => ?_
  rw [blk2 m c t k d, show (fun q => (iblk m c 0 t : Vec Ideal S1x256x2048 .f32) (ix3 0 r q)) = fun q => aX m c (ix3 b r q) from funext fun q => blk0 m c t b hb r q,
    show (fun q => (iblk m c 1 t : Vec Ideal S1x2048 .f32) (ix2 0 q)) = fun q => aG m c (ix2 0 q) from funext fun q => blk1 m c t q]

theorem blkV (c : Dev nD) (t : Fin cfg0.N) (b : Fin 2) (hb : b.val = t.val) (r : Fin 256) (d : Fin 512) :
    blkAt (iblk m c 0 t) (iblk m c 1 t) (iblk m c 3 t) r d = projAt (aX m c) (aG m c) (aV m c) b r d := by
  unfold blkAt projAt
  refine Finset.sum_congr rfl fun k _ => ?_
  rw [blk3 m c t k d, show (fun q => (iblk m c 0 t : Vec Ideal S1x256x2048 .f32) (ix3 0 r q)) = fun q => aX m c (ix3 b r q) from funext fun q => blk0 m c t b hb r q,
    show (fun q => (iblk m c 1 t : Vec Ideal S1x2048 .f32) (ix2 0 q)) = fun q => aG m c (ix2 0 q) from funext fun q => blk1 m c t q]

theorem emb_of (t : Fin cfg0.N) (f : Fin 3 → ℕ) (hf : f 0 = t.val ∧ f 1 = 0 ∧ f 2 = 0) (E : S2x256x512.Idx) (y : S1x256x512.Idx)
    (h : ∀ a : Fin 3, (E a).val = f a * S1x256x512.size a + 1 * (y a).val) :
    (E 0).val = t.val ∧ E 1 = (y 1 : Fin 256) ∧ E 2 = (y 2 : Fin 512) := by
  obtain ⟨f0, f1, f2⟩ := hf
  have y0 : (y 0).val < 1 := (y 0).isLt
  refine ⟨?_, Fin.ext ?_, Fin.ext ?_⟩
  · have := h 0; rw [f0] at this; refine this.trans ?_; show t.val * 1 + 1 * (y 0).val = t.val; omega
  · have := h 1; rw [f1] at this; refine this.trans ?_; show 0 * 256 + 1 * (y 1).val = (y 1).val; omega
  · have := h 2; rw [f2] at this; refine this.trans ?_; show 0 * 512 + 1 * (y 2).val = (y 2).val; omega

theorem flushed_keys (c : Dev nD) (t : Fin cfg0.N) (_hf : (cfg0.win 5).flush t = true) :
    (dats m 0 c).flushed 5 t = ((cfg0.win 5).blk t).view.read (Elt Ideal) (keys m c) := by
  obtain ⟨i0, i1, i2, -⟩ := index_out t
  rw [flushed5]
  funext y
  obtain ⟨e0, e1, e2⟩ := emb_of t (fun a => win0_5.index t a) ⟨i0, i1, i2⟩ (((cfg0.win 5).blk t).view.emb y) ((cfg0.win 5).xinj (grid0.coords t) y) (fun a => rfl)
  show out0_5 (F := Ideal) (iblk m c 0 t) (iblk m c 1 t) (iblk m c 2 t) (iblk m c 3 t) (iblk m c 4 t) ((cfg0.win 5).xinj (grid0.coords t) y)
    = headAt (fun e => projAt (aX m c) (aG m c) (aK m c) (((cfg0.win 5).blk t).view.emb y 0) (((cfg0.win 5).blk t).view.emb y 1) e) (aH m c) (((cfg0.win 5).blk t).view.emb y 2)
  rw [show (cfg0.win 5).xinj (grid0.coords t) y = ix3 ((cfg0.win 5).xinj (grid0.coords t) y 0 : Fin 1) ((cfg0.win 5).xinj (grid0.coords t) y 1 : Fin 256) ((cfg0.win 5).xinj (grid0.coords t) y 2 : Fin 512) from eq_ix3 _]
  refine (out5_apply _ _ _ _ _ _ _ _).trans ?_
  rw [e1, e2, show (fun e => blkAt (iblk m c 0 t) (iblk m c 1 t) (iblk m c 2 t) ((cfg0.win 5).xinj (grid0.coords t) y 1 : Fin 256) e)
    = fun e => projAt (aX m c) (aG m c) (aK m c) (((cfg0.win 5).blk t).view.emb y 0) ((cfg0.win 5).xinj (grid0.coords t) y 1 : Fin 256) e from funext fun e => blkK m c t _ e0 _ e]
  unfold headAt
  rw [blk4]

theorem flushed_vals (c : Dev nD) (t : Fin cfg0.N) (_hf : (cfg0.win 6).flush t = true) :
    (dats m 0 c).flushed 6 t = ((cfg0.win 6).blk t).view.read (Elt Ideal) (vals m c) := by
  obtain ⟨-, -, -, i0, i1, i2⟩ := index_out t
  rw [flushed6]
  funext y
  obtain ⟨e0, e1, e2⟩ := emb_of t (fun a => win0_6.index t a) ⟨i0, i1, i2⟩ (((cfg0.win 6).blk t).view.emb y) ((cfg0.win 6).xinj (grid0.coords t) y) (fun a => rfl)
  show out0_6 (F := Ideal) (iblk m c 0 t) (iblk m c 1 t) (iblk m c 2 t) (iblk m c 3 t) (iblk m c 4 t) ((cfg0.win 6).xinj (grid0.coords t) y)
    = projAt (aX m c) (aG m c) (aV m c) (((cfg0.win 6).blk t).view.emb y 0) (((cfg0.win 6).blk t).view.emb y 1) (((cfg0.win 6).blk t).view.emb y 2)
  rw [show (cfg0.win 6).xinj (grid0.coords t) y = ix3 ((cfg0.win 6).xinj (grid0.coords t) y 0 : Fin 1) ((cfg0.win 6).xinj (grid0.coords t) y 1 : Fin 256) ((cfg0.win 6).xinj (grid0.coords t) y 2 : Fin 512) from eq_ix3 _]
  refine (out6_apply _ _ _ _ _ _ _ _).trans ?_
  rw [e1, e2]
  exact blkV m c t _ e0 _ _

theorem mem5 (t : Fin cfg0.N) (i : S2x256x512.Idx) :
    i ∈ ((cfg0.win 5).blk t).view.set ↔ ∀ a : Fin 3, win0_5.index t a * S1x256x512.size a ≤ (i a).val ∧ (i a).val < win0_5.index t a * S1x256x512.size a + S1x256x512.size a := by
  show i ∈ ((View.whole main_v0_0).slice (win0_5.rect t)).set ↔ _
  rw [View.set_slice_whole, Rect.mem_set_unit]
  exact Iff.rfl
theorem mem6 (t : Fin cfg0.N) (i : S2x256x512.Idx) :
    i ∈ ((cfg0.win 6).blk t).view.set ↔ ∀ a : Fin 3, win0_6.index t a * S1x256x512.size a ≤ (i a).val ∧ (i a).val < win0_6.index t a * S1x256x512.size a + S1x256x512.size a := by
  show i ∈ ((View.whole main_v0_1).slice (win0_6.rect t)).set ↔ _
  rw [View.set_slice_whole, Rect.mem_set_unit]
  exact Iff.rfl

theorem covered5 (i : S2x256x512.Idx) : ∃ t : Fin cfg0.N, (cfg0.win 5).flush t = true ∧ i ∈ ((cfg0.win 5).blk t).view.set := by
  have hi1 : (i 1).val < 256 := (i 1).isLt
  have hi2 : (i 2).val < 512 := (i 2).isLt
  obtain ⟨t, hf, -, ht⟩ := flush_at (i 0)
  obtain ⟨e0, e1, e2, -⟩ := index_out t
  refine ⟨t, hf, (mem5 t i).2 fun a => ?_⟩
  match a with
  | ⟨0, _⟩ => show win0_5.index t (0 : Fin 3) * 1 ≤ (i 0).val ∧ (i 0).val < win0_5.index t (0 : Fin 3) * 1 + 1; rw [e0, ht]; omega
  | ⟨1, _⟩ => show win0_5.index t (1 : Fin 3) * 256 ≤ (i 1).val ∧ (i 1).val < win0_5.index t (1 : Fin 3) * 256 + 256; rw [e1]; omega
  | ⟨2, _⟩ => show win0_5.index t (2 : Fin 3) * 512 ≤ (i 2).val ∧ (i 2).val < win0_5.index t (2 : Fin 3) * 512 + 512; rw [e2]; omega
theorem covered6 (i : S2x256x512.Idx) : ∃ t : Fin cfg0.N, (cfg0.win 6).flush t = true ∧ i ∈ ((cfg0.win 6).blk t).view.set := by
  have hi1 : (i 1).val < 256 := (i 1).isLt
  have hi2 : (i 2).val < 512 := (i 2).isLt
  obtain ⟨t, -, hf, ht⟩ := flush_at (i 0)
  obtain ⟨-, -, -, e0, e1, e2⟩ := index_out t
  refine ⟨t, hf, (mem6 t i).2 fun a => ?_⟩
  match a with
  | ⟨0, _⟩ => show win0_6.index t (0 : Fin 3) * 1 ≤ (i 0).val ∧ (i 0).val < win0_6.index t (0 : Fin 3) * 1 + 1; rw [e0, ht]; omega
  | ⟨1, _⟩ => show win0_6.index t (1 : Fin 3) * 256 ≤ (i 1).val ∧ (i 1).val < win0_6.index t (1 : Fin 3) * 256 + 256; rw [e1]; omega
  | ⟨2, _⟩ => show win0_6.index t (2 : Fin 3) * 512 ≤ (i 2).val ∧ (i 2).val < win0_6.index t (2 : Fin 3) * 512 + 512; rw [e2]; omega

/-- The call's run: it leaves the keys and the values in its results and its arguments as they were. -/
theorem run : θ_run defs (onTc (τ := τ) (main (F := Ideal))) ⟨m, fun _ => 0, ρ⟩ fun r => ∀ c : Dev nD,
      r.2.mem ((c : Thread nD τ).loc main_v0_0) = keys m c
      ∧ r.2.mem ((c : Thread nD τ).loc main_v0_1) = vals m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 5 _ (fun t hf => flushed_keys m c t hf) covered5),
      (h c).2.1.trans ((dats m 0 c).arrAt_eq_of_cover 6 _ (fun t hf => flushed_vals m c t hf) covered6), (h c).2.2⟩)
    (run_blocks m ρ)

end Cert.MemProof

end
-- ==== Proof.MemkvRef.lean ====
/- The memory keys and values reference's results at an index. -/
module

public import proofs.«01_k».proof.Proof.MemkvValue
public import proofs.«01_k».proof.Proof.Gen.MemkvRefIdeal.Run
public import Idealize.ShloMosaic.Lib.Pointwise
public import Idealize.ShloMosaic.Lib.ValueIdx

@[expose] public section

noncomputable section

namespace Cert.MemProof

open Cert.MemkvRefIdeal Cert.MemkvRefIdeal.Gen Idealize.ShloMosaic Idealize.ShloMosaic.TcCoe Idealize.SL.Sem

theorem refProj_apply (a0 : FVec Ideal S2x256x2048 .f32) (a1 : FVec Ideal S1x2048 .f32) (a2 : FVec Ideal S1x2048x512 .f32) (b : Fin 2) (r : Fin 256) (d : Fin 512) :
    (Host.dotGeneral dot_S2x256x2048_S2048x512_S2x256x512_2_0_01_1_n_n none (mulf (mulf a0 (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf a0 a0) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 (shapeCast _ a1 shapeCasts_S1x2048_S2048)))) (shapeCast _ a2 shapeCasts_S1x2048x512_S2048x512) : FVec Ideal S2x256x512 .f32) (ix3 b r d)
      = projAt a0 a1 a2 b r d := by
  unfold projAt rmsAt
  pointwise!

theorem refHead_apply (Q : FVec Ideal S2x256x512 .f32) (a4 : FVec Ideal S1x128 .f32) (b : Fin 2) (r : Fin 256) (d : Fin 512) :
    (truncf .bf16 (shapeCast _ (mulf (mulf (shapeCast _ Q shapeCasts_S2x256x512_S2x256x4x128) (broadcastInDim S2x256x4x128 ![0, 1, 2, 3] bcast_S2x256x4x1_S2x256x4x128_0_1_2_3 (Host.rsqrt (addf (Host.divf (broadcastInDim S2x256x4x1 ![0, 1, 2] bcast_S2x256x4_S2x256x4x1_0_1_2 (Host.reduceAdd (mulf (shapeCast _ Q shapeCasts_S2x256x512_S2x256x4x128) (shapeCast _ Q shapeCasts_S2x256x512_S2x256x4x128)) (constant S_ .f32 0x00000000#32) reducesTo_S2x256x4x128_S2x256x4_d3 h_S_)) (broadcastInDim S2x256x4x1 ![] bcast_S_S2x256x4x1 (constant S_ .f32 0x43000000#32))) (broadcastInDim S2x256x4x1 ![] bcast_S_S2x256x4x1 (constant S_ .f32 0x358637BD#32)))))) (broadcastInDim S2x256x4x128 ![0, 1, 2, 3] bcast_S1x1x1x128_S2x256x4x128_0_1_2_3 (broadcastInDim S1x1x1x128 ![3] bcast_S128_S1x1x1x128_3 (shapeCast _ a4 shapeCasts_S1x128_S128)))) shapeCasts_S2x256x4x128_S2x256x512) bitsLt_bf16_f32 : FVec Ideal S2x256x512 .bf16) (ix3 b r d)
      = headAt (fun e => Q (ix3 b r e)) a4 d := by
  unfold headAt
  pointwise!

theorem refKeys_apply (a0 : FVec Ideal S2x256x2048 .f32) (a1 : FVec Ideal S1x2048 .f32) (a2 : FVec Ideal S1x2048x512 .f32) (a4 : FVec Ideal S1x128 .f32) (b : Fin 2) (r : Fin 256) (d : Fin 512) :
    (truncf .bf16 (shapeCast _ (mulf (mulf (shapeCast _ (Host.dotGeneral dot_S2x256x2048_S2048x512_S2x256x512_2_0_01_1_n_n none (mulf (mulf a0 (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf a0 a0) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 (shapeCast _ a1 shapeCasts_S1x2048_S2048)))) (shapeCast _ a2 shapeCasts_S1x2048x512_S2048x512)) shapeCasts_S2x256x512_S2x256x4x128) (broadcastInDim S2x256x4x128 ![0, 1, 2, 3] bcast_S2x256x4x1_S2x256x4x128_0_1_2_3 (Host.rsqrt (addf (Host.divf (broadcastInDim S2x256x4x1 ![0, 1, 2] bcast_S2x256x4_S2x256x4x1_0_1_2 (Host.reduceAdd (mulf (shapeCast _ (Host.dotGeneral dot_S2x256x2048_S2048x512_S2x256x512_2_0_01_1_n_n none (mulf (mulf a0 (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf a0 a0) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 (shapeCast _ a1 shapeCasts_S1x2048_S2048)))) (shapeCast _ a2 shapeCasts_S1x2048x512_S2048x512)) shapeCasts_S2x256x512_S2x256x4x128) (shapeCast _ (Host.dotGeneral dot_S2x256x2048_S2048x512_S2x256x512_2_0_01_1_n_n none (mulf (mulf a0 (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf a0 a0) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 (shapeCast _ a1 shapeCasts_S1x2048_S2048)))) (shapeCast _ a2 shapeCasts_S1x2048x512_S2048x512)) shapeCasts_S2x256x512_S2x256x4x128)) (constant S_ .f32 0x00000000#32) reducesTo_S2x256x4x128_S2x256x4_d3 h_S_)) (broadcastInDim S2x256x4x1 ![] bcast_S_S2x256x4x1 (constant S_ .f32 0x43000000#32))) (broadcastInDim S2x256x4x1 ![] bcast_S_S2x256x4x1 (constant S_ .f32 0x358637BD#32)))))) (broadcastInDim S2x256x4x128 ![0, 1, 2, 3] bcast_S1x1x1x128_S2x256x4x128_0_1_2_3 (broadcastInDim S1x1x1x128 ![3] bcast_S128_S1x1x1x128_3 (shapeCast _ a4 shapeCasts_S1x128_S128)))) shapeCasts_S2x256x4x128_S2x256x512) bitsLt_bf16_f32 : FVec Ideal S2x256x512 .bf16) (ix3 b r d)
      = headAt (fun e => projAt a0 a1 a2 b r e) a4 d :=
  (refHead_apply _ a4 b r d).trans (congrArg (fun p => headAt p a4 d) (funext fun e => refProj_apply a0 a1 a2 b r e))

end Cert.MemProof

end
-- ==== Proof.CrossMath.lean ====
/- Facts of extended reals for the cross-attention: finite sums and scales, and a quotient moved into a sum. -/
module

public import Idealize.ShloMosaic.Lib.Pointwise
public import Idealize.ShloMosaic.Lib.ValueIdx

@[expose] public section

noncomputable section

namespace Cert.CrossProof

open Idealize.ShloMosaic

/-- A value that is a real number. -/
def Fin' (x : EReal) : Prop := ∃ r : ℝ, x = (r : EReal)

theorem Fin'.mul {x y : EReal} : Fin' x → Fin' y → Fin' (x * y) := by
  rintro ⟨a, rfl⟩ ⟨b, rfl⟩
  exact ⟨a * b, (EReal.coe_mul a b).symm⟩

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem Fin'.sum {n : ℕ} {f : Fin n → EReal} (h : ∀ i, Fin' (f i)) : Fin' (∑ i, f i) := by
  choose g hg using h
  exact ⟨∑ i, g i, by rw [← sum_coe]; exact Finset.sum_congr rfl fun i _ => hg i⟩

theorem bits2048 : Ideal.ofBits .f32 0x45000000#32 = ((2048 : ℝ) : EReal) := by
  simp [Ideal.ofBits, Ideal.ieee, -EReal.coe_mul]; norm_num

theorem bits128 : Ideal.ofBits .f32 0x43000000#32 = ((128 : ℝ) : EReal) := by
  simp [Ideal.ofBits, Ideal.ieee, -EReal.coe_mul]; norm_num

theorem bitsEps : Ideal.ofBits .f32 0x358637BD#32 = (((8796093 : ℝ) * 2 ^ (-43 : Int) : ℝ) : EReal) := by
  simp [Ideal.ofBits, Ideal.ieee, -EReal.coe_mul]

theorem bitsScale : Ideal.ofBits .f32 0x3DB504F3#32 = (((11863283 : ℝ) * 2 ^ (-27 : Int) : ℝ) : EReal) := by
  simp [Ideal.ofBits, Ideal.ieee, -EReal.coe_mul]

theorem bitsNegInf : Ideal.ofBits .f32 0xFF800000#32 = ⊥ := by
  simp [Ideal.ofBits, Ideal.ieee]

/-- The reciprocal of the root mean square of real numbers is a real number. -/
theorem Fin'.rms {n : ℕ} {x : Fin n → EReal} (h : ∀ i, Fin' (x i)) {b : BitVec 32} {N : ℝ} (hN : 0 < N) (hb : Ideal.ofBits .f32 b = (N : EReal)) :
    Fin' (Ideal.rsqrt (Ideal.div (∑ i, x i * x i) (Ideal.ofBits .f32 b) + Ideal.ofBits .f32 0x358637BD#32)) := by
  choose g hg using h
  have e : ∑ i, x i * x i = ((∑ i, g i * g i : ℝ) : EReal) := by
    rw [← sum_coe]
    exact Finset.sum_congr rfl fun i _ => by rw [hg i, EReal.coe_mul]
  have h0 : (0 : ℝ) ≤ ∑ i, g i * g i := Finset.sum_nonneg fun i _ => mul_self_nonneg _
  rw [e, hb, Ideal.div_coe hN.ne', bitsEps, ← EReal.coe_mul, ← EReal.coe_add]
  have hp : (0 : ℝ) < (∑ i, g i * g i) * (1 / N) + 8796093 * 2 ^ (-43 : Int) := by positivity
  generalize (∑ i, g i * g i) * (1 / N) + 8796093 * 2 ^ (-43 : Int) = y at hp ⊢
  refine ⟨(Real.sqrt y)⁻¹, ?_⟩
  show (if y < (0 : ℝ) then (⊥ : EReal) else if y = (0 : ℝ) then ⊤ else (((Real.sqrt y)⁻¹ : ℝ) : EReal)) = _
  rw [if_neg (not_lt.mpr hp.le), if_neg hp.ne']

/-- A real factor that is not negative moves out of a sum. -/
theorem mul_sum_real {n : ℕ} (c : EReal) (h0 : 0 ≤ c) (ht : c ≠ ⊤) (f : Fin n → EReal) : c * ∑ i, f i = ∑ i, c * f i := by
  classical
  have : ∀ s : Finset (Fin n), c * ∑ i ∈ s, f i = ∑ i ∈ s, c * f i := fun s => by
    induction s using Finset.induction_on with
    | empty => simp
    | insert a s ha ih => rw [Finset.sum_insert ha, Finset.sum_insert ha, EReal.left_distrib_of_nonneg_of_ne_top h0 ht, ih]
  exact this _

/-- The scale of the scores, taken into the gain. -/
theorem scale_sum {n : ℕ} (a g k : Fin n → EReal) :
    ∑ i, a i * (g i * Ideal.ofBits .f32 0x3DB504F3#32) * k i = (∑ i, a i * g i * k i) * Ideal.ofBits .f32 0x3DB504F3#32 := by
  have h0 : (0 : EReal) ≤ Ideal.ofBits .f32 0x3DB504F3#32 := by rw [bitsScale]; exact EReal.coe_nonneg.mpr (by positivity)
  have ht : Ideal.ofBits .f32 0x3DB504F3#32 ≠ (⊤ : EReal) := by rw [bitsScale]; exact EReal.coe_ne_top _
  rw [mul_comm, mul_sum_real _ h0 ht]
  refine Finset.sum_congr rfl fun i _ => ?_
  rw [mul_comm (g i), ← mul_assoc, mul_comm (a i), mul_assoc, mul_assoc, mul_assoc]

/-- The weights' sum divides before or after the sum over the values, where the scores and the number taken off them are real. -/
theorem softmax_sum {n : ℕ} (s v : Fin (n + 1) → EReal) (M : EReal) (hs : ∀ i, Fin' (s i)) (hM : Fin' M) :
    Ideal.div (∑ i, Ideal.exp (s i - M) * v i) (∑ i, Ideal.exp (s i - M)) = ∑ i, v i * Ideal.div (Ideal.exp (s i - M)) (∑ j, Ideal.exp (s j - M)) := by
  choose g hg using hs
  obtain ⟨r, rfl⟩ := hM
  have e : ∀ i, Ideal.exp (s i - (r : EReal)) = ((Real.exp (g i - r) : ℝ) : EReal) := fun i => by
    rw [hg i, ← EReal.coe_sub]; rfl
  have el : ∑ i, Ideal.exp (s i - (r : EReal)) = ((∑ i, Real.exp (g i - r) : ℝ) : EReal) := by
    rw [← sum_coe]; exact Finset.sum_congr rfl fun i _ => e i
  have hp : (0 : ℝ) < ∑ i, Real.exp (g i - r) := Finset.sum_pos (fun i _ => Real.exp_pos _) Finset.univ_nonempty
  rw [el]
  simp only [Ideal.div_coe hp.ne']
  rw [mul_comm, mul_sum_real _ (EReal.coe_nonneg.mpr (by positivity)) (EReal.coe_ne_top _)]
  refine Finset.sum_congr rfl fun i _ => ?_
  rw [← mul_assoc, mul_comm, mul_comm (Ideal.exp _)]

/-! The cross-attention of one query row, as the kernel computes it and as the reference states it. -/

/-- A row scaled by the reciprocal of its root mean square and by the gain. -/
def rmsAt (x g : Fin 2048 → EReal) (k : Fin 2048) : EReal :=
  x k * Ideal.rsqrt (Ideal.div (∑ q : Fin 2048, x q * x q) (Ideal.ofBits .f32 0x45000000#32) + Ideal.ofBits .f32 0x358637BD#32) * g k

/-- Column `i` of head `h`. -/
def col (h : Fin 4) (i : Fin 128) : Fin 512 := ⟨h.val * 128 + i.val, by have := h.isLt; have := i.isLt; omega⟩

/-- The head a column is in. -/
def hd (e : Fin 512) : Fin 4 := ⟨e.val / 128, by have := e.isLt; omega⟩

/-- The reciprocal of a head's root mean square. -/
def headR (p : Fin 512 → EReal) (h : Fin 4) : EReal :=
  Ideal.rsqrt (Ideal.div (∑ i : Fin 128, p (col h i) * p (col h i)) (Ideal.ofBits .f32 0x43000000#32) + Ideal.ofBits .f32 0x358637BD#32)

/-- The score of one memory slot, the scale taken into the gain. -/
def scoreAt (p : Fin 512 → EReal) (g : Fin 128 → EReal) (kh : Fin 256 → Fin 128 → EReal) (h : Fin 4) (j : Fin 256) : EReal :=
  ∑ i : Fin 128, p (col h i) * headR p h * (g i * Ideal.ofBits .f32 0x3DB504F3#32) * kh j i

/-- The greatest of the scores. -/
def topAt (s : Fin 256 → EReal) : EReal := Finset.fold max (Ideal.ofBits .f32 0xFF800000#32) s Finset.univ

/-- The weighted values, divided by the weights' sum at the end. -/
def attAt (s v : Fin 256 → EReal) : EReal :=
  Ideal.div (∑ j : Fin 256, Ideal.exp (s j - topAt s) * v j) (∑ j : Fin 256, Ideal.exp (s j - topAt s))

/-- The score of one memory slot, scaled at the end. -/
def refScoreAt (p : Fin 512 → EReal) (g : Fin 128 → EReal) (kh : Fin 256 → Fin 128 → EReal) (h : Fin 4) (j : Fin 256) : EReal :=
  (∑ i : Fin 128, p (col h i) * headR p h * g i * kh j i) * Ideal.ofBits .f32 0x3DB504F3#32

/-- The values under the weights, each divided by their sum. -/
def refAttAt (s v : Fin 256 → EReal) : EReal :=
  ∑ j : Fin 256, v j * Ideal.div (Ideal.exp (s j - max (Ideal.ofBits .f32 0xFF800000#32) (topAt s))) (∑ x : Fin 256, Ideal.exp (s x - max (Ideal.ofBits .f32 0xFF800000#32) (topAt s)))

theorem score_eq (p : Fin 512 → EReal) (g : Fin 128 → EReal) (kh : Fin 256 → Fin 128 → EReal) (h : Fin 4) : scoreAt p g kh h = refScoreAt p g kh h :=
  funext fun j => scale_sum (fun i => p (col h i) * headR p h) g (kh j)

theorem topAt_real (s : Fin 256 → EReal) (hs : ∀ j, Fin' (s j)) : Fin' (topAt s) := by
  classical
  have key : ∀ t : Finset (Fin 256), (Finset.fold max (⊥ : EReal) s t = ⊥ ∧ t = ∅) ∨ Fin' (Finset.fold max (⊥ : EReal) s t) := fun t => by
    induction t using Finset.induction_on with
    | empty => exact .inl ⟨rfl, rfl⟩
    | insert a t ha ih =>
      refine .inr ?_
      rw [Finset.fold_insert ha]
      rcases ih with ⟨e, -⟩ | e
      · rw [e, max_eq_left bot_le]; exact hs a
      · rcases max_choice (s a) (Finset.fold max (⊥ : EReal) s t) with h | h
        · rw [h]; exact hs a
        · rw [h]; exact e
  unfold topAt
  rw [bitsNegInf]
  rcases key Finset.univ with ⟨-, h⟩ | h
  · exact absurd h Finset.univ_nonempty.ne_empty
  · exact h

theorem att_eq (s v : Fin 256 → EReal) (hs : ∀ j, Fin' (s j)) : attAt s v = refAttAt s v := by
  unfold attAt refAttAt
  rw [bitsNegInf, max_eq_right bot_le]
  exact softmax_sum s v (topAt s) hs (topAt_real s hs)

theorem sq_nonneg' (x : EReal) : 0 ≤ x * x := by
  induction x with
  | bot => simp
  | top => simp
  | coe r => rw [← EReal.coe_mul]; exact_mod_cast mul_self_nonneg r

theorem sq_top {x : EReal} (h : ¬Fin' x) : x * x = ⊤ := by
  induction x with
  | bot => simp
  | top => simp
  | coe r => exact absurd ⟨r, rfl⟩ h

/-- A normalized head is real, whatever the queries are: where one of them is infinite its reciprocal root mean square is zero. -/
theorem head_real (p : Fin 512 → EReal) (h : Fin 4) (i : Fin 128) : Fin' (p (col h i) * headR p h) := by
  by_cases hp : ∀ i, Fin' (p (col h i))
  · exact (hp i).mul (Fin'.rms hp (by norm_num) bits128)
  · push Not at hp
    obtain ⟨i0, h0⟩ := hp
    have e : ∑ i : Fin 128, p (col h i) * p (col h i) = ⊤ :=
      le_antisymm le_top ((sq_top h0).symm.le.trans (Finset.single_le_sum (f := fun i => p (col h i) * p (col h i)) (fun i _ => sq_nonneg' _) (Finset.mem_univ i0)))
    have z : headR p h = 0 := by
      unfold headR
      rw [e, bits128, Ideal.div_coe (by norm_num), EReal.top_mul_coe_of_pos (by norm_num), bitsEps, EReal.top_add_coe]
      rfl
    exact ⟨0, by rw [z, mul_zero, EReal.coe_zero]⟩

theorem refScore_real (p : Fin 512 → EReal) (g : Fin 128 → EReal) (kh : Fin 256 → Fin 128 → EReal) (h : Fin 4) (hg : ∀ i, Fin' (g i))
    (hk : ∀ j i, Fin' (kh j i)) (j : Fin 256) : Fin' (refScoreAt p g kh h j) := by
  unfold refScoreAt
  exact Fin'.mul (Fin'.sum fun i => ((head_real p h i).mul (hg i)).mul (hk j i)) ⟨_, bitsScale⟩

end Cert.CrossProof

end
-- ==== Proof.CrossRef.lean ====
/- The cross-attention reference's result at an index. -/
module

public import proofs.«01_k».proof.Proof.CrossMath
public import proofs.«01_k».proof.Proof.Gen.CrossRefIdeal.Run

@[expose] public section

noncomputable section

namespace Cert.CrossProof

open Cert.CrossRefIdeal Cert.CrossRefIdeal.Gen Idealize.ShloMosaic Idealize.ShloMosaic.TcCoe Idealize.SL.Sem

theorem refMax_apply {n0 n1 n2 n3 : ℕ} (S : FVec Ideal ⟨4, ![n0, n1, n2, n3]⟩ .f32) (h : (⟨4, ![n0, n1, n2, n3]⟩ : Shape).ReducesTo [3] ⟨3, ![n0, n1, n2]⟩) (hu : 0 < S_.numel) (b : Fin n0) (q : Fin n1) (t : Fin n2) :
    (Host.reduce FloatOps.maximumf S (constant S_ .f32 0xFF800000#32) h hu : FVec Ideal ⟨3, ![n0, n1, n2]⟩ .f32) (ix3 b q t)
      = Finset.fold max (Ideal.ofBits .f32 0xFF800000#32) (fun j : Fin n3 => S (ix4 b q t j)) Finset.univ := by
  pointwise!

theorem refP_apply (S : FVec Ideal S2x4x4096x256 .f32) (M : FVec Ideal S2x4x4096 .f32) (b : Fin 2) (h : Fin 4) (t : Fin 4096) (j : Fin 256) :
    (Host.exp (subf S (broadcastInDim S2x4x4096x256 ![0, 1, 2, 3] bcast_S2x4x4096x1_S2x4x4096x256_0_1_2_3 (broadcastInDim S2x4x4096x1 ![0, 1, 2] bcast_S2x4x4096_S2x4x4096x1_0_1_2 (maximumf (broadcastInDim S2x4x4096 ![] bcast_S_S2x4x4096 (constant S_ .f32 0xFF800000#32)) M)))) : FVec Ideal S2x4x4096x256 .f32) (ix4 b h t j)
      = Ideal.exp (S (ix4 b h t j) - max (Ideal.ofBits .f32 0xFF800000#32) (M (ix3 b h t))) := by
  pointwise!

theorem refDiv_apply (P : FVec Ideal S2x4x4096x256 .f32) (b : Fin 2) (h : Fin 4) (t : Fin 4096) (j : Fin 256) :
    (Host.divf P (broadcastInDim S2x4x4096x256 ![0, 1, 2, 3] bcast_S2x4x4096x1_S2x4x4096x256_0_1_2_3 (broadcastInDim S2x4x4096x1 ![0, 1, 2] bcast_S2x4x4096_S2x4x4096x1_0_1_2 (Host.reduceAdd P (constant S_ .f32 0x00000000#32) reducesTo_S2x4x4096x256_S2x4x4096_d3 h_S_))) : FVec Ideal S2x4x4096x256 .f32) (ix4 b h t j)
      = Ideal.div (P (ix4 b h t j)) (∑ x, P (ix4 b h t x)) := by
  pointwise!

theorem refScore_apply (q : FVec Ideal S2x4096x4x128 .f32) (k : FVec Ideal S2x256x512 .bf16) (b : Fin 2) (h : Fin 4) (t : Fin 4096) (j : Fin 256) :
    (mulf (Host.dotGeneral dot_S2x4096x4x128_S2x256x4x128_S2x4x4096x256_3_3_1_1_02_02 none q (shapeCast _ (extf .f32 k bitsLt_bf16_f32) shapeCasts_S2x256x512_S2x256x4x128)) (broadcastInDim S2x4x4096x256 ![] bcast_S_S2x4x4096x256 (constant S_ .f32 0x3DB504F3#32)) : FVec Ideal S2x4x4096x256 .f32) (ix4 b h t j)
      = (∑ i : Fin 128, q (ix4 b t h i) * k (ix3 b j (col h i))) * Ideal.ofBits .f32 0x3DB504F3#32 := by
  unfold col
  pointwise!

theorem refO_apply (P : FVec Ideal S2x4x4096x256 .f32) (V : FVec Ideal S2x256x512 .bf16) (b : Fin 2) (t : Fin 4096) (d : Fin 512) :
    (shapeCast _ (transpose S2x4096x4x128 [0, 3, 1, 2] (Host.dotGeneral dot_S2x256x4x128_S2x4x4096x256_S2x4x128x4096_1_3_3_2_02_01 none (shapeCast _ (extf .f32 V bitsLt_bf16_f32) shapeCasts_S2x256x512_S2x256x4x128) P) transposes_S2x4x128x4096_S2x4096x4x128_0_3_1_2) shapeCasts_S2x4096x4x128_S2x4096x512 : FVec Ideal S2x4096x512 .f32) (ix3 b t d)
      = ∑ j : Fin 256, V (ix3 b j d) * P (ix4 b (hd d) t j) := by
  unfold hd
  pointwise!

theorem refOut_apply (a0 : FVec Ideal S2x4096x2048 .f32) (O : FVec Ideal S2x4096x512 .f32) (a6 : FVec Ideal S1x512x2048 .f32) (b : Fin 2) (t : Fin 4096) (d : Fin 2048) :
    (addf a0 (Host.dotGeneral dot_S2x4096x512_S512x2048_S2x4096x2048_2_0_01_1_n_n none O (shapeCast _ a6 shapeCasts_S1x512x2048_S512x2048)) : FVec Ideal S2x4096x2048 .f32) (ix3 b t d)
      = a0 (ix3 b t d) + ∑ k : Fin 512, O (ix3 b t k) * a6 (ix3 0 k d) := by
  pointwise!

theorem refHead_apply (Q : FVec Ideal S2x4096x512 .f32) (a3 : FVec Ideal S1x128 .f32) (b : Fin 2) (t : Fin 4096) (h : Fin 4) (i : Fin 128) :
    (mulf (mulf (shapeCast _ Q shapeCasts_S2x4096x512_S2x4096x4x128) (broadcastInDim S2x4096x4x128 ![0, 1, 2, 3] bcast_S2x4096x4x1_S2x4096x4x128_0_1_2_3 (Host.rsqrt (addf (Host.divf (broadcastInDim S2x4096x4x1 ![0, 1, 2] bcast_S2x4096x4_S2x4096x4x1_0_1_2 (Host.reduceAdd (mulf (shapeCast _ Q shapeCasts_S2x4096x512_S2x4096x4x128) (shapeCast _ Q shapeCasts_S2x4096x512_S2x4096x4x128)) (constant S_ .f32 0x00000000#32) reducesTo_S2x4096x4x128_S2x4096x4_d3 h_S_)) (broadcastInDim S2x4096x4x1 ![] bcast_S_S2x4096x4x1 (constant S_ .f32 0x43000000#32))) (broadcastInDim S2x4096x4x1 ![] bcast_S_S2x4096x4x1 (constant S_ .f32 0x358637BD#32)))))) (broadcastInDim S2x4096x4x128 ![0, 1, 2, 3] bcast_S1x1x1x128_S2x4096x4x128_0_1_2_3 (broadcastInDim S1x1x1x128 ![3] bcast_S128_S1x1x1x128_3 (shapeCast _ a3 shapeCasts_S1x128_S128))) : FVec Ideal S2x4096x4x128 .f32) (ix4 b t h i)
      = Q (ix3 b t (col h i)) * headR (fun e => Q (ix3 b t e)) h * a3 (ix2 0 i) := by
  unfold headR col
  pointwise!

theorem refProj_apply (a0 : FVec Ideal S2x4096x2048 .f32) (a1 : FVec Ideal S1x2048 .f32) (a2 : FVec Ideal S1x2048x512 .f32) (b : Fin 2) (t : Fin 4096) (d : Fin 512) :
    (Host.dotGeneral dot_S2x4096x2048_S2048x512_S2x4096x512_2_0_01_1_n_n none (mulf (mulf a0 (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf a0 a0) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ a1 shapeCasts_S1x2048_S2048)))) (shapeCast _ a2 shapeCasts_S1x2048x512_S2048x512) : FVec Ideal S2x4096x512 .f32) (ix3 b t d)
      = ∑ k : Fin 2048, rmsAt (fun q => a0 (ix3 b t q)) (fun q => a1 (ix2 0 q)) k * a2 (ix3 0 k d) := by
  unfold rmsAt
  pointwise!

/-- The queries. -/
def refQ (a0 : FVec Ideal S2x4096x2048 .f32) (a1 : FVec Ideal S1x2048 .f32) (a2 : FVec Ideal S1x2048x512 .f32) : FVec Ideal S2x4096x512 .f32 :=
  Host.dotGeneral dot_S2x4096x2048_S2048x512_S2x4096x512_2_0_01_1_n_n none (mulf (mulf a0 (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf a0 a0) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ a1 shapeCasts_S1x2048_S2048)))) (shapeCast _ a2 shapeCasts_S1x2048x512_S2048x512)

/-- The scores of queries. -/
def refS (Q : FVec Ideal S2x4096x512 .f32) (a3 : FVec Ideal S1x128 .f32) (k : FVec Ideal S2x256x512 .bf16) : FVec Ideal S2x4x4096x256 .f32 :=
  mulf (Host.dotGeneral dot_S2x4096x4x128_S2x256x4x128_S2x4x4096x256_3_3_1_1_02_02 none (mulf (mulf (shapeCast _ Q shapeCasts_S2x4096x512_S2x4096x4x128) (broadcastInDim S2x4096x4x128 ![0, 1, 2, 3] bcast_S2x4096x4x1_S2x4096x4x128_0_1_2_3 (Host.rsqrt (addf (Host.divf (broadcastInDim S2x4096x4x1 ![0, 1, 2] bcast_S2x4096x4_S2x4096x4x1_0_1_2 (Host.reduceAdd (mulf (shapeCast _ Q shapeCasts_S2x4096x512_S2x4096x4x128) (shapeCast _ Q shapeCasts_S2x4096x512_S2x4096x4x128)) (constant S_ .f32 0x00000000#32) reducesTo_S2x4096x4x128_S2x4096x4_d3 h_S_)) (broadcastInDim S2x4096x4x1 ![] bcast_S_S2x4096x4x1 (constant S_ .f32 0x43000000#32))) (broadcastInDim S2x4096x4x1 ![] bcast_S_S2x4096x4x1 (constant S_ .f32 0x358637BD#32)))))) (broadcastInDim S2x4096x4x128 ![0, 1, 2, 3] bcast_S1x1x1x128_S2x4096x4x128_0_1_2_3 (broadcastInDim S1x1x1x128 ![3] bcast_S128_S1x1x1x128_3 (shapeCast _ a3 shapeCasts_S1x128_S128)))) (shapeCast _ (extf .f32 k bitsLt_bf16_f32) shapeCasts_S2x256x512_S2x256x4x128)) (broadcastInDim S2x4x4096x256 ![] bcast_S_S2x4x4096x256 (constant S_ .f32 0x3DB504F3#32))

/-- The greatest scores. -/
def refM (S : FVec Ideal S2x4x4096x256 .f32) : FVec Ideal S2x4x4096 .f32 :=
  Host.reduce FloatOps.maximumf S (constant S_ .f32 0xFF800000#32) reducesTo_S2x4x4096x256_S2x4x4096_d3 h_S_

/-- The weights before their sum divides them. -/
def refE (S : FVec Ideal S2x4x4096x256 .f32) : FVec Ideal S2x4x4096x256 .f32 :=
  Host.exp (subf S (broadcastInDim S2x4x4096x256 ![0, 1, 2, 3] bcast_S2x4x4096x1_S2x4x4096x256_0_1_2_3 (broadcastInDim S2x4x4096x1 ![0, 1, 2] bcast_S2x4x4096_S2x4x4096x1_0_1_2 (maximumf (broadcastInDim S2x4x4096 ![] bcast_S_S2x4x4096 (constant S_ .f32 0xFF800000#32)) (refM S)))))

/-- The weighted values. -/
def refO (E : FVec Ideal S2x4x4096x256 .f32) (V : FVec Ideal S2x256x512 .bf16) : FVec Ideal S2x4096x512 .f32 :=
  shapeCast _ (transpose S2x4096x4x128 [0, 3, 1, 2] (Host.dotGeneral dot_S2x256x4x128_S2x4x4096x256_S2x4x128x4096_1_3_3_2_02_01 none (shapeCast _ (extf .f32 V bitsLt_bf16_f32) shapeCasts_S2x256x512_S2x256x4x128) (Host.divf E (broadcastInDim S2x4x4096x256 ![0, 1, 2, 3] bcast_S2x4x4096x1_S2x4x4096x256_0_1_2_3 (broadcastInDim S2x4x4096x1 ![0, 1, 2] bcast_S2x4x4096_S2x4x4096x1_0_1_2 (Host.reduceAdd E (constant S_ .f32 0x00000000#32) reducesTo_S2x4x4096x256_S2x4x4096_d3 h_S_))))) transposes_S2x4x128x4096_S2x4096x4x128_0_3_1_2) shapeCasts_S2x4096x4x128_S2x4096x512

/-- The result. -/
def refT (a0 : FVec Ideal S2x4096x2048 .f32) (O : FVec Ideal S2x4096x512 .f32) (a6 : FVec Ideal S1x512x2048 .f32) : FVec Ideal S2x4096x2048 .f32 :=
  addf a0 (Host.dotGeneral dot_S2x4096x512_S512x2048_S2x4096x2048_2_0_01_1_n_n none O (shapeCast _ a6 shapeCasts_S1x512x2048_S512x2048))

theorem refM_apply (S : FVec Ideal S2x4x4096x256 .f32) (b : Fin 2) (h : Fin 4) (t : Fin 4096) : refM S (ix3 b h t) = topAt (fun j => S (ix4 b h t j)) :=
  refMax_apply S reducesTo_S2x4x4096x256_S2x4x4096_d3 h_S_ b h t

theorem refE_apply (S : FVec Ideal S2x4x4096x256 .f32) (b : Fin 2) (h : Fin 4) (t : Fin 4096) (j : Fin 256) :
    refE S (ix4 b h t j) = Ideal.exp (S (ix4 b h t j) - max (Ideal.ofBits .f32 0xFF800000#32) (topAt (fun j => S (ix4 b h t j)))) :=
  (refP_apply S (refM S) b h t j).trans (by rw [refM_apply])

theorem refAtt_apply (S : FVec Ideal S2x4x4096x256 .f32) (V : FVec Ideal S2x256x512 .bf16) (b : Fin 2) (t : Fin 4096) (d : Fin 512) :
    refO (refE S) V (ix3 b t d) = refAttAt (fun j => S (ix4 b (hd d) t j)) (fun j => V (ix3 b j d)) := by
  refine (refO_apply _ V b t d).trans ?_
  unfold refAttAt
  refine Finset.sum_congr rfl fun j _ => congrArg (V (ix3 b j d) * ·) ?_
  refine (refDiv_apply (refE S) b (hd d) t j).trans ?_
  simp only [refE_apply]

theorem refS_apply (Q : FVec Ideal S2x4096x512 .f32) (a3 : FVec Ideal S1x128 .f32) (k : FVec Ideal S2x256x512 .bf16) (b : Fin 2) (h : Fin 4) (t : Fin 4096) (j : Fin 256) :
    refS Q a3 k (ix4 b h t j) = refScoreAt (fun e => Q (ix3 b t e)) (fun i => a3 (ix2 0 i)) (fun j i => k (ix3 b j (col h i))) h j := by
  refine (refScore_apply _ k b h t j).trans ?_
  unfold refScoreAt
  refine congrArg (· * Ideal.ofBits .f32 0x3DB504F3#32) (Finset.sum_congr rfl fun i _ => congrArg (· * k (ix3 b j (col h i))) ?_)
  exact refHead_apply Q a3 b t h i

/-- A query row. -/
def qRow (a0 : FVec Ideal S2x4096x2048 .f32) (a1 : FVec Ideal S1x2048 .f32) (a2 : FVec Ideal S1x2048x512 .f32) (b : Fin 2) (t : Fin 4096) (d : Fin 512) : EReal :=
  ∑ k : Fin 2048, rmsAt (fun q => a0 (ix3 b t q)) (fun q => a1 (ix2 0 q)) k * a2 (ix3 0 k d)

/-- The reference's result at an index. -/
theorem ref_apply (a0 : FVec Ideal S2x4096x2048 .f32) (a1 : FVec Ideal S1x2048 .f32) (a2 : FVec Ideal S1x2048x512 .f32) (a3 : FVec Ideal S1x128 .f32) (a4 a5 : FVec Ideal S2x256x512 .bf16)
    (a6 : FVec Ideal S1x512x2048 .f32) (b : Fin 2) (t : Fin 4096) (d : Fin 2048) :
    refT a0 (refO (refE (refS (refQ a0 a1 a2) a3 a4)) a5) a6 (ix3 b t d)
      = a0 (ix3 b t d) + ∑ k : Fin 512, refAttAt (refScoreAt (qRow a0 a1 a2 b t) (fun i => a3 (ix2 0 i)) (fun j i => a4 (ix3 b j (col (hd k) i))) (hd k)) (fun j => a5 (ix3 b j k)) * a6 (ix3 0 k d) := by
  refine (refOut_apply a0 _ a6 b t d).trans ?_
  refine congrArg (a0 (ix3 b t d) + ·) (Finset.sum_congr rfl fun k _ => congrArg (· * a6 (ix3 0 k d)) ?_)
  refine (refAtt_apply _ a5 b t k).trans ?_
  refine congrArg (fun s => refAttAt s _) (funext fun j => ?_)
  refine (refS_apply _ a3 a4 b (hd k) t j).trans ?_
  exact congrArg (fun p => refScoreAt p _ _ _ _) (funext fun e => refProj_apply a0 a1 a2 b t e)

theorem res_eq (m : (ℓ : Loc nD τ sig) → Buf (Elt Ideal) ℓ) (c : Dev nD) :
    Value.res_main_v54 (F := Ideal) m c
      = refT (m ((c.tc : Thread nD τ).loc main_arg0)) (refO (refE (refS (refQ (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)))) (m ((c.tc : Thread nD τ).loc main_arg5))) (m ((c.tc : Thread nD τ).loc main_arg6)) := rfl

/-- The reference's result at an index, as the kernel computes it, where what the scores are of is real. -/
theorem ref_eq (a0 : FVec Ideal S2x4096x2048 .f32) (a1 : FVec Ideal S1x2048 .f32) (a2 : FVec Ideal S1x2048x512 .f32) (a3 : FVec Ideal S1x128 .f32) (a4 a5 : FVec Ideal S2x256x512 .bf16)
    (a6 : FVec Ideal S1x512x2048 .f32) (h3 : ∀ y, Fin' (a3 y)) (h4 : ∀ y, Fin' (a4 y))
    (b : Fin 2) (t : Fin 4096) (d : Fin 2048) :
    refT a0 (refO (refE (refS (refQ a0 a1 a2) a3 a4)) a5) a6 (ix3 b t d)
      = a0 (ix3 b t d) + ∑ k : Fin 512, attAt (scoreAt (qRow a0 a1 a2 b t) (fun i => a3 (ix2 0 i)) (fun j i => a4 (ix3 b j (col (hd k) i))) (hd k)) (fun j => a5 (ix3 b j k)) * a6 (ix3 0 k d) := by
  rw [ref_apply]
  refine congrArg (a0 (ix3 b t d) + ·) (Finset.sum_congr rfl fun k _ => congrArg (· * a6 (ix3 0 k d)) ?_)
  rw [score_eq]
  exact (att_eq _ _ (refScore_real _ _ _ _ (fun i => h3 _) (fun j i => h4 _))).symm

end Cert.CrossProof

end
-- ==== Proof.CrossPay.lean ====
/- The cross-attention kernel's stored values at an index. -/
module

public import proofs.«01_k».proof.Proof.CrossMath
public import proofs.«01_k».proof.Proof.Gen.CrossIdeal.Value

@[expose] public section

noncomputable section

namespace Cert.CrossProof

open Cert.CrossIdeal Cert.CrossIdeal.Gen Idealize.ShloMosaic Idealize.ShloMosaic.TcCoe Idealize.SL.Sem

theorem pay1_apply (v : FVec Ideal S1024x2048 .f32) (o : Vec Ideal S1024x512 .bf16) (w : Vec Ideal S512x2048 .bf16) (z : Fin 1) (r : Fin 1024) (d : Fin 2048) :
    k0_pay1 (F := Ideal) v o w (ix3 z r d) = v (ix2 r d) + ∑ k : Fin 512, o (ix2 r k) * w (ix2 k d) := by
  unfold k0_pay1
  pointwise!

theorem pay2_apply (v : Vec Ideal S1x256x512 .f32) (k : Fin 256) (d : Fin 512) : k0_pay2 (F := Ideal) v (ix2 k d) = v (ix3 0 k d) := by
  unfold k0_pay2
  pointwise! [shapeCast_self]

theorem pay3_apply (v : Vec Ideal S1x256x2048 .f32) (k : Fin 256) (d : Fin 2048) : k0_pay3 (F := Ideal) v (ix2 k d) = v (ix3 0 k d) := by
  unfold k0_pay3
  pointwise! [shapeCast_self]

theorem pay4_apply (g : Vec Ideal S1x2048 .f32) (x : Vec Ideal S1x256x2048 .f32) (r : Fin 256) (k : Fin 2048) :
    k0_pay4 (F := Ideal) g x (ix2 r k) = rmsAt (fun q => x (ix3 0 r q)) (fun q => g (ix2 0 q)) k := by
  unfold k0_pay4 rmsAt
  pointwise! [shapeCast_self]

theorem pay5_apply (a : Vec Ideal S1024x2048 .bf16) (w : Vec Ideal S2048x512 .bf16) (r : Fin 1024) (d : Fin 512) :
    k0_pay5 (F := Ideal) a w (ix2 r d) = ∑ k : Fin 2048, a (ix2 r k) * w (ix2 k d) := by
  unfold k0_pay5
  pointwise!

theorem pay17_apply (v : Vec Ideal S1x1024x2048 .f32) (r : Fin 1024) (d : Fin 2048) : k0_pay17 (F := Ideal) v (ix2 r d) = v (ix3 0 r d) := by
  unfold k0_pay17
  pointwise!

theorem head0_apply (a : Vec Ideal S1024x2048 .bf16) (w : Vec Ideal S2048x512 .bf16) (g : Vec Ideal S1x128 .f32) (K V : Vec Ideal S1x256x128 .bf16) (r : Fin 1024) (d : Fin 128) :
    k0_pay9 (F := Ideal) (k0_pay7 a w g K) (k0_pay8 a w g K) V (ix2 r d)
      = attAt (scoreAt (fun e => k0_pay5 (F := Ideal) a w (ix2 r e)) (fun i => g (ix2 0 i)) (fun j i => K (ix3 0 j i)) 0) (fun j => V (ix3 0 j d)) := by
  unfold k0_pay8 k0_pay7 k0_pay6 k0_pay9 attAt topAt scoreAt headR col
  generalize k0_pay5 (F := Ideal) a w = A
  pointwise! [shapeCast_self]

theorem head1_apply (A : FVec Ideal S1024x512 .f32) (g : Vec Ideal S1x128 .f32) (K V : Vec Ideal S1x256x128 .bf16) (r : Fin 1024) (d : Fin 128) :
    k0_pay13 (F := Ideal) (k0_pay11 A (k0_pay6 g) K) (k0_pay12 A (k0_pay6 g) K) V (ix2 r d)
      = attAt (scoreAt (fun e => A (ix2 r e)) (fun i => g (ix2 0 i)) (fun j i => K (ix3 0 j i)) 1) (fun j => V (ix3 0 j d)) := by
  unfold k0_pay13 k0_pay11 k0_pay12 k0_pay10 k0_pay6 attAt topAt scoreAt headR col
  pointwise! [shapeCast_self]

theorem head2_apply (A : FVec Ideal S1024x512 .f32) (g : Vec Ideal S1x128 .f32) (K V : Vec Ideal S1x256x128 .bf16) (r : Fin 1024) (d : Fin 128) :
    k0_pay15 (F := Ideal) (k0_pay14 A (k0_pay6 g) K V) (ix2 r d)
      = attAt (scoreAt (fun e => A (ix2 r e)) (fun i => g (ix2 0 i)) (fun j i => K (ix3 0 j i)) 2) (fun j => V (ix3 0 j d)) := by
  unfold k0_pay15 k0_pay14 k0_pay6 attAt topAt scoreAt headR col
  pointwise! [shapeCast_self]

theorem head3_apply (A : FVec Ideal S1024x512 .f32) (g : Vec Ideal S1x128 .f32) (K V : Vec Ideal S1x256x128 .bf16) (r : Fin 1024) (d : Fin 128) :
    k0_pay16 (F := Ideal) A (k0_pay6 g) K V (ix2 r d)
      = attAt (scoreAt (fun e => A (ix2 r e)) (fun i => g (ix2 0 i)) (fun j i => K (ix3 0 j i)) 3) (fun j => V (ix3 0 j d)) := by
  unfold k0_pay16 k0_pay6 attAt topAt scoreAt headR col
  pointwise! [shapeCast_self]

end Cert.CrossProof

end
-- ==== Proof.CrossLoop.lean ====
/- The cross-attention kernel's three loops: what the pieces they store hold. -/
module

public import proofs.«01_k».proof.Proof.CrossPay
public import Idealize.ShloMosaic.Lib.Pointwise
public import Idealize.ShloMosaic.Lib.ValueIdx

@[expose] public section

noncomputable section

namespace Cert.CrossProof

open Cert.CrossIdeal Cert.CrossIdeal.Gen Idealize.ShloMosaic Idealize.ShloMosaic.TcCoe Idealize.SL.Sem

/-- The query weights as the scratch keeps them. -/
def wqMat (w : Vec Ideal S1x2048x512 .f32) : Vec Ideal S2048x512 .bf16 := fun y => w (ix3 0 (y 0) (y 1))

/-- The output weights as the scratch keeps them. -/
def woMat (w : Vec Ideal S1x512x2048 .f32) : Vec Ideal S512x2048 .bf16 := fun y => w (ix3 0 (y 0) (y 1))

/-- The normalized rows as the scratch keeps them. -/
def hnMat (x : Vec Ideal S1x1024x2048 .f32) (g : Vec Ideal S1x2048 .f32) : Vec Ideal S1024x2048 .bf16 :=
  fun y => rmsAt (fun q => x (ix3 0 (y 0) q)) (fun q => g (ix2 0 q)) (y 1)

section Loop
variable (𝒱 : Variants) (c : Dev nD) (bd : Option 𝒱.V) (i : grid0.Coords)
  (arg2 : Memref sig .tc .vmem S1x1024x2048 .f32) (harg2 : arg2.IsWhole)
  (arg3 : Memref sig .tc .vmem S1x2048 .f32) (harg3 : arg3.IsWhole)
  (arg4 : Memref sig .tc .vmem S1x2048x512 .f32) (harg4 : arg4.IsWhole)
  (arg5 : Memref sig .tc .vmem S1x128 .f32) (harg5 : arg5.IsWhole)
  (arg6 : Memref sig .tc .vmem S1x256x512 .bf16) (harg6 : arg6.IsWhole)
  (arg7 : Memref sig .tc .vmem S1x256x512 .bf16) (harg7 : arg7.IsWhole)
  (arg8 : Memref sig .tc .vmem S1x512x2048 .f32) (harg8 : arg8.IsWhole)
  (arg9 : Memref sig .tc .vmem S1x1024x2048 .f32) (harg9 : arg9.IsWhole)
  (arg10 : Memref sig .tc .vmem S1024x2048 .bf16) (harg10 : arg10.IsWhole)
  (arg11 : Memref sig .tc .vmem S1024x512 .bf16) (harg11 : arg11.IsWhole)
  (arg12 : Memref sig .tc .vmem S2048x512 .bf16) (harg12 : arg12.IsWhole)
  (arg13 : Memref sig .tc .vmem S512x2048 .bf16) (harg13 : arg13.IsWhole)

/-- One trip stores one piece. -/
theorem tripL1_eq (k0_h1 : k0_cond1 i = 1#1) (X : BufTy.Contents (Elt Ideal) arg4.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h1 X k
      = [⟨Rect.unit (s := S2048x512) (k0_off2 k) S256x512.size (k0_off2_inb i k k0_h1),
          k0_pay2 (F := Ideal) (arg4.view.readAt (Elt Ideal) (Rect.unit (s := S1x2048x512) (k0_off1 k) S1x256x512.size (k0_off1_inb i k k0_h1)).toLoadRect X)⟩] := by
  unfold tripL_k0_t1 trip_k0_t1
  rfl

theorem tile1 (x : Vec Ideal S1x2048x512 .f32) (o : ℕ) (off1 : Fin 3 → ℕ) (ho1 : off1 = ![0, o, 0]) (off2 : Fin 2 → ℕ) (ho2 : off2 = ![o, 0])
    (inb1 : ∀ a, off1 a + S1x256x512.size a ≤ S1x2048x512.size a) (inb2 : ∀ a, off2 a + S256x512.size a ≤ S2048x512.size a) (y : S256x512.Idx) :
    k0_pay2 (F := Ideal) (arg4.view.readAt (Elt Ideal) (Rect.unit (s := S1x2048x512) off1 S1x256x512.size inb1).toLoadRect (harg4.unread x)) y
      = (wqMat x) ((Rect.unit (s := S2048x512) off2 S256x512.size inb2).emb y) := by
  obtain ⟨r, k, rfl⟩ : ∃ (r : Fin 256) (k : Fin 512), y = ix2 r k := ⟨y 0, y 1, eq_ix2 y⟩
  subst ho1
  subst ho2
  rw [pay2_apply, View.readAt_eq_ld, harg4.read_unread]
  refine congrArg x (funext fun a => Fin.ext ?_)
  match a with
  | ⟨0, _⟩ => rfl
  | ⟨1, _⟩ => rfl
  | ⟨2, _⟩ => rfl

theorem pieces1 (k0_h1 : k0_cond1 i = 1#1) (x : Vec Ideal S1x2048x512 .f32) :
    ∀ n : ℕ, n ≤ k0_t1_loop.trips → ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h1 (harg4.unread x) n,
      ∀ y : p.1.shape.Idx, p.2 y = (wqMat x) (p.1.emb y)
  | 0, _, p, hp => by simp [pb_k0_t1] at hp
  | n + 1, hn, p, hp => by
    rw [show n + 1 = (⟨n, hn⟩ : Fin k0_t1_loop.trips).val + 1 from rfl, pb_k0_t1_succ, tripL1_eq] at hp
    rcases List.mem_append.mp hp with h | h
    · obtain rfl := List.mem_singleton.mp h
      intro y
      exact tile1 arg4 harg4 x _ _ (k0_off1_eq ⟨n, hn⟩) _ (k0_off2_eq ⟨n, hn⟩) _ (k0_off2_inb i ⟨n, hn⟩ k0_h1) y
    · exact pieces1 k0_h1 x n (Nat.le_of_lt hn) p h

/-- One trip stores one piece. -/
theorem tripL2_eq (k0_h1 : k0_cond1 i = 1#1) (X : BufTy.Contents (Elt Ideal) arg8.view.ty) (k : Fin k0_t2_loop.trips) :
    tripL_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h1 X k
      = [⟨Rect.unit (s := S512x2048) (k0_off4 k) S256x2048.size (k0_off4_inb i k k0_h1),
          k0_pay3 (F := Ideal) (arg8.view.readAt (Elt Ideal) (Rect.unit (s := S1x512x2048) (k0_off3 k) S1x256x2048.size (k0_off3_inb i k k0_h1)).toLoadRect X)⟩] := by
  unfold tripL_k0_t2 trip_k0_t2
  rfl

theorem tile2 (x : Vec Ideal S1x512x2048 .f32) (o : ℕ) (off1 : Fin 3 → ℕ) (ho1 : off1 = ![0, o, 0]) (off2 : Fin 2 → ℕ) (ho2 : off2 = ![o, 0])
    (inb1 : ∀ a, off1 a + S1x256x2048.size a ≤ S1x512x2048.size a) (inb2 : ∀ a, off2 a + S256x2048.size a ≤ S512x2048.size a) (y : S256x2048.Idx) :
    k0_pay3 (F := Ideal) (arg8.view.readAt (Elt Ideal) (Rect.unit (s := S1x512x2048) off1 S1x256x2048.size inb1).toLoadRect (harg8.unread x)) y
      = (woMat x) ((Rect.unit (s := S512x2048) off2 S256x2048.size inb2).emb y) := by
  obtain ⟨r, k, rfl⟩ : ∃ (r : Fin 256) (k : Fin 2048), y = ix2 r k := ⟨y 0, y 1, eq_ix2 y⟩
  subst ho1
  subst ho2
  rw [pay3_apply, View.readAt_eq_ld, harg8.read_unread]
  refine congrArg x (funext fun a => Fin.ext ?_)
  match a with
  | ⟨0, _⟩ => rfl
  | ⟨1, _⟩ => rfl
  | ⟨2, _⟩ => rfl

theorem pieces2 (k0_h1 : k0_cond1 i = 1#1) (x : Vec Ideal S1x512x2048 .f32) :
    ∀ n : ℕ, n ≤ k0_t2_loop.trips → ∀ p ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h1 (harg8.unread x) n,
      ∀ y : p.1.shape.Idx, p.2 y = (woMat x) (p.1.emb y)
  | 0, _, p, hp => by simp [pb_k0_t2] at hp
  | n + 1, hn, p, hp => by
    rw [show n + 1 = (⟨n, hn⟩ : Fin k0_t2_loop.trips).val + 1 from rfl, pb_k0_t2_succ, tripL2_eq] at hp
    rcases List.mem_append.mp hp with h | h
    · obtain rfl := List.mem_singleton.mp h
      intro y
      exact tile2 arg8 harg8 x _ _ (k0_off3_eq ⟨n, hn⟩) _ (k0_off4_eq ⟨n, hn⟩) _ (k0_off4_inb i ⟨n, hn⟩ k0_h1) y
    · exact pieces2 k0_h1 x n (Nat.le_of_lt hn) p h

/-- One trip stores one piece. -/
theorem tripL3_eq (v5 : Vec Ideal S1x2048 .f32) (X : BufTy.Contents (Elt Ideal) arg2.view.ty) (k : Fin k0_t3_loop.trips) :
    tripL_k0_t3 (F := Ideal) 𝒱 c bd i arg2 harg2 arg3 harg3 arg4 harg4 arg5 harg5 arg6 harg6 arg7 harg7 arg8 harg8 arg9 harg9 arg10 harg10 arg11 harg11 arg12 harg12 arg13 harg13 v5 X k
      = [⟨Rect.unit (s := S1024x2048) (k0_off6 k) S256x2048.size (k0_off6_inb k),
          k0_pay4 (F := Ideal) v5 (arg2.view.readAt (Elt Ideal) (Rect.unit (s := S1x1024x2048) (k0_off5 k) S1x256x2048.size (k0_off5_inb k)).toLoadRect X)⟩] := by
  unfold tripL_k0_t3 trip_k0_t3
  rfl

theorem tile3 (v5 : Vec Ideal S1x2048 .f32) (x : Vec Ideal S1x1024x2048 .f32) (o : ℕ) (off1 : Fin 3 → ℕ) (ho1 : off1 = ![0, o, 0]) (off2 : Fin 2 → ℕ) (ho2 : off2 = ![o, 0])
    (inb1 : ∀ a, off1 a + S1x256x2048.size a ≤ S1x1024x2048.size a) (inb2 : ∀ a, off2 a + S256x2048.size a ≤ S1024x2048.size a) (y : S256x2048.Idx) :
    k0_pay4 (F := Ideal) v5 (arg2.view.readAt (Elt Ideal) (Rect.unit (s := S1x1024x2048) off1 S1x256x2048.size inb1).toLoadRect (harg2.unread x)) y
      = (hnMat x v5) ((Rect.unit (s := S1024x2048) off2 S256x2048.size inb2).emb y) := by
  obtain ⟨r, k, rfl⟩ : ∃ (r : Fin 256) (k : Fin 2048), y = ix2 r k := ⟨y 0, y 1, eq_ix2 y⟩
  subst ho1
  subst ho2
  rw [pay4_apply, View.readAt_eq_ld, harg2.read_unread]
  unfold hnMat
  have hk : (Rect.unit (s := S1024x2048) ![o, 0] S256x2048.size inb2).emb (ix2 r k) 1 = k := Fin.ext (by show 0 + 1 * k.val = k.val; omega)
  rw [hk]
  refine congrArg (fun f => rmsAt f _ k) (funext fun q => congrArg x (funext fun a => Fin.ext ?_))
  match a with
  | ⟨0, _⟩ => rfl
  | ⟨1, _⟩ => rfl
  | ⟨2, _⟩ => show 0 + 1 * q.val = q.val; omega

theorem pieces3 (v5 : Vec Ideal S1x2048 .f32) (x : Vec Ideal S1x1024x2048 .f32) :
    ∀ n : ℕ, n ≤ k0_t3_loop.trips → ∀ p ∈ pb_k0_t3 (F := Ideal) 𝒱 c bd i arg2 harg2 arg3 harg3 arg4 harg4 arg5 harg5 arg6 harg6 arg7 harg7 arg8 harg8 arg9 harg9 arg10 harg10 arg11 harg11 arg12 harg12 arg13 harg13 v5 (harg2.unread x) n,
      ∀ y : p.1.shape.Idx, p.2 y = (hnMat x v5) (p.1.emb y)
  | 0, _, p, hp => by simp [pb_k0_t3] at hp
  | n + 1, hn, p, hp => by
    rw [show n + 1 = (⟨n, hn⟩ : Fin k0_t3_loop.trips).val + 1 from rfl, pb_k0_t3_succ, tripL3_eq] at hp
    rcases List.mem_append.mp hp with h | h
    · obtain rfl := List.mem_singleton.mp h
      intro y
      exact tile3 arg2 harg2 v5 x _ _ (k0_off5_eq ⟨n, hn⟩) _ (k0_off6_eq ⟨n, hn⟩) _ (k0_off6_inb ⟨n, hn⟩) y
    · exact pieces3 v5 x n (Nat.le_of_lt hn) p h

/-- The third loop's pieces cover its scratch. -/
theorem cover3 (v5 : Vec Ideal S1x2048 .f32) (X : BufTy.Contents (Elt Ideal) arg2.view.ty) :
    ∀ y : S1024x2048.Idx, ∃ p ∈ pb_k0_t3 (F := Ideal) 𝒱 c bd i arg2 harg2 arg3 harg3 arg4 harg4 arg5 harg5 arg6 harg6 arg7 harg7 arg8 harg8 arg9 harg9 arg10 harg10 arg11 harg11 arg12 harg12 arg13 harg13 v5 X k0_t3_loop.trips, y ∈ p.1.set :=
  View.cover_of_tiledL _ S256x2048.size (by sl_kernel_rfl)

/-- What the third loop leaves in its scratch. -/
theorem canon3 (v5 : Vec Ideal S1x2048 .f32) (x : Vec Ideal S1x1024x2048 .f32) :
    View.canon (pb_k0_t3 (F := Ideal) 𝒱 c bd i arg2 harg2 arg3 harg3 arg4 harg4 arg5 harg5 arg6 harg6 arg7 harg7 arg8 harg8 arg9 harg9 arg10 harg10 arg11 harg11 arg12 harg12 arg13 harg13 v5 (harg2.unread x) k0_t3_loop.trips) = hnMat x v5 := by
  funext y
  exact View.canon_apply_of_pieces (hnMat x v5) _ (pieces3 𝒱 c bd i arg2 harg2 arg3 harg3 arg4 harg4 arg5 harg5 arg6 harg6 arg7 harg7 arg8 harg8 arg9 harg9 arg10 harg10 arg11 harg11 arg12 harg12 arg13 harg13 v5 x _ le_rfl) y
    (cover3 𝒱 c bd i arg2 harg2 arg3 harg3 arg4 harg4 arg5 harg5 arg6 harg6 arg7 harg7 arg8 harg8 arg9 harg9 arg10 harg10 arg11 harg11 arg12 harg12 arg13 harg13 v5 (harg2.unread x) y)

end Loop

end Cert.CrossProof

end
-- ==== Proof.CrossValue.lean ====
/- The cross-attention kernel's result at an index. -/
module

public import proofs.«01_k».proof.Proof.CrossLoop

@[expose] public section

noncomputable section

namespace Cert.CrossProof

open Cert.CrossIdeal Cert.CrossIdeal.Gen Idealize.ShloMosaic Idealize.ShloMosaic.TcCoe Idealize.SL.Sem
open Cert.CrossIdeal.Value

theorem hz2 : (![0, 0] : Fin 2 → Nat) = fun _ => 0 := funext fun a => by fin_cases a <;> rfl
theorem hz3 : (![0, 0, 0] : Fin 3 → Nat) = fun _ => 0 := funext fun a => by fin_cases a <;> rfl

/-- The heads' outputs side by side. -/
def ocMat (hn : Vec Ideal S1024x2048 .bf16) (wq : Vec Ideal S2048x512 .bf16) (g : Vec Ideal S1x128 .f32) (K V : Vec Ideal S1x256x512 .bf16) : Vec Ideal S1024x512 .bf16 := fun y =>
  attAt (scoreAt (fun e => k0_pay5 (F := Ideal) hn wq (ix2 (y 0) e)) (fun i => g (ix2 0 i)) (fun j i => K (ix3 0 j (col (hd (y 1)) i))) (hd (y 1))) (fun j => V (ix3 0 j (y 1)))

/-- The four stores of the heads' outputs, the last one first. -/
def ocPieces (hn : Vec Ideal S1024x2048 .bf16) (wq : Vec Ideal S2048x512 .bf16) (g : Vec Ideal S1x128 .f32) (K V : Vec Ideal S1x256x512 .bf16) : List (View.Piece (Elt Ideal) S1024x512 .bf16) :=
  [⟨Rect.unit (s := S1024x512) ![0, 384] S1024x128.size inb_S1024x512_S1024x128_0_384,
      k0_pay16 (F := Ideal) (k0_pay5 hn wq) (k0_pay6 g) (View.ld K (Rect.unit (s := S1x256x512) ![0, 0, 384] S1x256x128.size inb_S1x256x512_S1x256x128_0_0_384)) (View.ld V (Rect.unit (s := S1x256x512) ![0, 0, 384] S1x256x128.size inb_S1x256x512_S1x256x128_0_0_384))⟩,
    ⟨Rect.unit (s := S1024x512) ![0, 256] S1024x128.size inb_S1024x512_S1024x128_0_256,
      k0_pay15 (F := Ideal) (k0_pay14 (k0_pay5 hn wq) (k0_pay6 g) (View.ld K (Rect.unit (s := S1x256x512) ![0, 0, 256] S1x256x128.size inb_S1x256x512_S1x256x128_0_0_256)) (View.ld V (Rect.unit (s := S1x256x512) ![0, 0, 256] S1x256x128.size inb_S1x256x512_S1x256x128_0_0_256)))⟩,
    ⟨Rect.unit (s := S1024x512) ![0, 128] S1024x128.size inb_S1024x512_S1024x128_0_128,
      k0_pay13 (F := Ideal) (k0_pay11 (k0_pay5 hn wq) (k0_pay6 g) (View.ld K (Rect.unit (s := S1x256x512) ![0, 0, 128] S1x256x128.size inb_S1x256x512_S1x256x128_0_0_128)))
        (k0_pay12 (k0_pay5 hn wq) (k0_pay6 g) (View.ld K (Rect.unit (s := S1x256x512) ![0, 0, 128] S1x256x128.size inb_S1x256x512_S1x256x128_0_0_128))) (View.ld V (Rect.unit (s := S1x256x512) ![0, 0, 128] S1x256x128.size inb_S1x256x512_S1x256x128_0_0_128))⟩,
    ⟨Rect.unit (s := S1024x512) ![0, 0] S1024x128.size inb_S1024x512_S1024x128_0_0,
      k0_pay9 (F := Ideal) (k0_pay7 hn wq g (View.ld K (Rect.unit (s := S1x256x512) ![0, 0, 0] S1x256x128.size inb_S1x256x512_S1x256x128_0_0_0)))
        (k0_pay8 hn wq g (View.ld K (Rect.unit (s := S1x256x512) ![0, 0, 0] S1x256x128.size inb_S1x256x512_S1x256x128_0_0_0))) (View.ld V (Rect.unit (s := S1x256x512) ![0, 0, 0] S1x256x128.size inb_S1x256x512_S1x256x128_0_0_0))⟩]

section Heads
variable (hn : Vec Ideal S1024x2048 .bf16) (wq : Vec Ideal S2048x512 .bf16) (g : Vec Ideal S1x128 .f32) (K V : Vec Ideal S1x256x512 .bf16)

/-- A head's store holds that head's columns. -/
theorem oc_piece (h : Fin 4) (o : ℕ) (ho : o = h.val * 128) (inb1 : ∀ a, (![0, 0, o] : Fin 3 → ℕ) a + S1x256x128.size a ≤ S1x256x512.size a)
    (inb2 : ∀ a, (![0, o] : Fin 2 → ℕ) a + S1024x128.size a ≤ S1024x512.size a) (P : Vec Ideal S1024x128 .bf16)
    (hP : ∀ (r : Fin 1024) (d : Fin 128), P (ix2 r d) = attAt (scoreAt (fun e => k0_pay5 (F := Ideal) hn wq (ix2 r e)) (fun i => g (ix2 0 i))
      (fun j i => View.ld K (Rect.unit (s := S1x256x512) ![0, 0, o] S1x256x128.size inb1) (ix3 0 j i)) h) (fun j => View.ld V (Rect.unit (s := S1x256x512) ![0, 0, o] S1x256x128.size inb1) (ix3 0 j d)))
    (y : S1024x128.Idx) : P y = ocMat hn wq g K V ((Rect.unit (s := S1024x512) ![0, o] S1024x128.size inb2).emb y) := by
  obtain ⟨r, d, rfl⟩ : ∃ (r : Fin 1024) (d : Fin 128), y = ix2 r d := ⟨y 0, y 1, eq_ix2 y⟩
  subst ho
  have hy0 : (Rect.unit (s := S1024x512) ![0, h.val * 128] S1024x128.size inb2).emb (ix2 r d) 0 = r := Fin.ext (by show 0 + 1 * r.val = r.val; omega)
  have hy1 : (Rect.unit (s := S1024x512) ![0, h.val * 128] S1024x128.size inb2).emb (ix2 r d) 1 = col h d := Fin.ext (by show h.val * 128 + 1 * d.val = h.val * 128 + d.val; omega)
  have hh : hd (col h d) = h := Fin.ext (by show (h.val * 128 + d.val) / 128 = h.val; have := d.isLt; omega)
  have hld : ∀ (W : Vec Ideal S1x256x512 .bf16) (j : Fin 256) (i : Fin 128), View.ld W (Rect.unit (s := S1x256x512) ![0, 0, h.val * 128] S1x256x128.size inb1) (ix3 0 j i) = W (ix3 0 j (col h i)) := fun W j i => by
    refine congrArg W (funext fun a => Fin.ext ?_)
    match a with
    | ⟨0, _⟩ => rfl
    | ⟨1, _⟩ => show 0 + 1 * j.val = j.val; omega
    | ⟨2, _⟩ => show h.val * 128 + 1 * i.val = h.val * 128 + i.val; omega
  rw [hP]
  unfold ocMat
  rw [hy0, hy1, hh]
  exact congrArg₂ (fun k v => attAt (scoreAt _ _ k h) v) (funext fun j => funext fun i => hld K j i) (funext fun j => hld V j d)

theorem oc_canon : View.canon (ocPieces hn wq g K V) = ocMat hn wq g K V := by
  funext y
  refine View.canon_apply_of_pieces (ocMat hn wq g K V) _ ?_ y (View.cover_of_tiledL (ocPieces hn wq g K V) S1024x128.size (by sl_kernel_rfl) y)
  intro p hp
  unfold ocPieces at hp
  rcases List.mem_cons.mp hp with rfl | hp
  · intro y
    exact oc_piece hn wq g K V 3 384 rfl inb_S1x256x512_S1x256x128_0_0_384 inb_S1024x512_S1024x128_0_384 _ (fun r d => head3_apply _ g _ _ r d) y
  rcases List.mem_cons.mp hp with rfl | hp
  · intro y
    exact oc_piece hn wq g K V 2 256 rfl inb_S1x256x512_S1x256x128_0_0_256 inb_S1024x512_S1024x128_0_256 _ (fun r d => head2_apply _ g _ _ r d) y
  rcases List.mem_cons.mp hp with rfl | hp
  · intro y
    exact oc_piece hn wq g K V 1 128 rfl inb_S1x256x512_S1x256x128_0_0_128 inb_S1024x512_S1024x128_0_128 _ (fun r d => head1_apply _ g _ _ r d) y
  obtain rfl := List.mem_singleton.mp hp
  intro y
  exact oc_piece hn wq g K V 0 0 rfl inb_S1x256x512_S1x256x128_0_0_0 inb_S1024x512_S1024x128_0_0 _ (fun r d => head0_apply hn wq g _ _ r d) y

end Heads

section Points
variable (c : Dev nD) (i : grid0.Coords)
  (arg2 : Memref sig .tc .vmem S1x1024x2048 .f32) (harg2 : arg2.IsWhole)
  (arg3 : Memref sig .tc .vmem S1x2048 .f32) (harg3 : arg3.IsWhole)
  (arg4 : Memref sig .tc .vmem S1x2048x512 .f32) (harg4 : arg4.IsWhole)
  (arg5 : Memref sig .tc .vmem S1x128 .f32) (harg5 : arg5.IsWhole)
  (arg6 : Memref sig .tc .vmem S1x256x512 .bf16) (harg6 : arg6.IsWhole)
  (arg7 : Memref sig .tc .vmem S1x256x512 .bf16) (harg7 : arg7.IsWhole)
  (arg8 : Memref sig .tc .vmem S1x512x2048 .f32) (harg8 : arg8.IsWhole)
  (arg9 : Memref sig .tc .vmem S1x1024x2048 .f32) (harg9 : arg9.IsWhole)
  (arg10 : Memref sig .tc .vmem S1024x2048 .bf16) (harg10 : arg10.IsWhole)
  (arg11 : Memref sig .tc .vmem S1024x512 .bf16) (harg11 : arg11.IsWhole)
  (arg12 : Memref sig .tc .vmem S2048x512 .bf16) (harg12 : arg12.IsWhole)
  (arg13 : Memref sig .tc .vmem S512x2048 .bf16) (harg13 : arg13.IsWhole)
  (x0 : Vec Ideal S1x1024x2048 .f32) (x1 : Vec Ideal S1x2048 .f32) (x2 : Vec Ideal S1x2048x512 .f32) (x3 : Vec Ideal S1x128 .f32) (x4 : Vec Ideal S1x256x512 .bf16) (x5 : Vec Ideal S1x256x512 .bf16) (x6 : Vec Ideal S1x512x2048 .f32)

/-- What a point computes of the weights kept. -/
def pointOut (x0 : Vec Ideal S1x1024x2048 .f32) (x1 : Vec Ideal S1x2048 .f32) (wq : Vec Ideal S2048x512 .bf16) (x3 : Vec Ideal S1x128 .f32) (x4 x5 : Vec Ideal S1x256x512 .bf16) (wo : Vec Ideal S512x2048 .bf16) : Vec Ideal S1x1024x2048 .f32 :=
  k0_pay1 (F := Ideal) (k0_pay17 x0) (ocMat (hnMat x0 x1) wq x3 x4 x5) wo

include x1 in
/-- The normalized rows read back. -/
theorem read3 : arg10.view.readCov (pb_k0_t3 (F := Ideal) Variants.none c none i arg2 harg2 arg3 harg3 arg4 harg4 arg5 harg5 arg6 harg6 arg7 harg7 arg8 harg8 arg9 harg9 arg10 harg10 arg11 harg11 arg12 harg12 arg13 harg13 x1 (harg2.unread x0) (Scf.trips (0#32) (Scalar.addi 0#32 4#32) 1#32))
    (Rect.unit (s := S1024x2048) ![0, 0] S1024x2048.size inb_S1024x2048_S1024x2048_0_0).toLoadRect = hnMat x0 x1 := by
  rw [View.readCov_eq_canon']
  refine (View.ld_unit_zero (S := S1024x2048) hz2 _ _).trans ?_
  exact canon3 Variants.none c none i arg2 harg2 arg3 harg3 arg4 harg4 arg5 harg5 arg6 harg6 arg7 harg7 arg8 harg8 arg9 harg9 arg10 harg10 arg11 harg11 arg12 harg12 arg13 harg13 x1 x0

/-- The heads' outputs read back. -/
theorem readO (hn : Vec Ideal S1024x2048 .bf16) (wq : Vec Ideal S2048x512 .bf16) (g : Vec Ideal S1x128 .f32) (K V : Vec Ideal S1x256x512 .bf16) :
    arg11.view.readCov (ocPieces hn wq g K V) (Rect.unit (s := S1024x512) ![0, 0] S1024x512.size inb_S1024x512_S1024x512_0_0).toLoadRect = ocMat hn wq g K V := by
  rw [View.readCov_eq_canon', oc_canon]
  exact View.ld_unit_zero (S := S1024x512) hz2 _ _

theorem out_B (hc0 : ¬cond0_0 i) (xs2 : Vec Ideal S2048x512 .bf16) (xs3 : Vec Ideal S512x2048 .bf16) :
    out0_B_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs2 xs3 = pointOut x0 x1 xs2 x3 x4 x5 xs3 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs2 xs3)]
  unfold kernelRun0_B
  dsimp only
  sl_unfold_words
  rw [View.canon_unit_zero hz3]
  simp only [View.readAt_eq_ld, harg2.read_unread, harg3.read_unread, harg5.read_unread, harg6.read_unread, harg7.read_unread, harg12.read_unread, harg13.read_unread,
    View.ld_unit_zero (S := S1x1024x2048) hz3, View.ld_unit_zero (S := S1x2048) hz2, View.ld_unit_zero (S := S1x128) hz2, View.ld_unit_zero (S := S2048x512) hz2, View.ld_unit_zero (S := S512x2048) hz2]
  refine Eq.trans ?_ (congrArg (fun o => k0_pay1 (F := Ideal) (k0_pay17 x0) o xs3) (readO arg11 (hnMat x0 x1) xs2 x3 x4 x5))
  rw [read3 c i arg2 harg2 arg3 harg3 arg4 harg4 arg5 harg5 arg6 harg6 arg7 harg7 arg8 harg8 arg9 harg9 arg10 harg10 arg11 harg11 arg12 harg12 arg13 harg13 x0 x1]
  rfl

theorem sout_A2 (hc0 : cond0_0 i) :
    sout0_A_2 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 = wqMat x2 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  funext y
  refine View.canon_apply_of_pieces (wqMat x2) _ ?_ y (scover0_A_2 c i arg2 harg2 arg3 harg3 arg4 harg4 arg5 harg5 arg6 harg6 arg7 harg7 arg8 harg8 arg9 harg9 arg10 harg10 arg11 harg11 arg12 harg12 arg13 harg13 hc0 x0 x1 x2 x3 x4 x5 x6 y)
  unfold kernelRun0_A
  dsimp only
  sl_unfold_words
  exact pieces1 Variants.none c none i arg2 harg2 arg3 harg3 arg4 harg4 arg5 harg5 arg6 harg6 arg7 harg7 arg8 harg8 arg9 harg9 arg10 harg10 arg11 harg11 arg12 harg12 arg13 harg13 hc0 x2 _ le_rfl

theorem sout_A3 (hc0 : cond0_0 i) :
    sout0_A_3 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 = woMat x6 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  funext y
  refine View.canon_apply_of_pieces (woMat x6) _ ?_ y (scover0_A_3 c i arg2 harg2 arg3 harg3 arg4 harg4 arg5 harg5 arg6 harg6 arg7 harg7 arg8 harg8 arg9 harg9 arg10 harg10 arg11 harg11 arg12 harg12 arg13 harg13 hc0 x0 x1 x2 x3 x4 x5 x6 y)
  unfold kernelRun0_A
  dsimp only
  sl_unfold_words
  exact pieces2 Variants.none c none i arg2 harg2 arg3 harg3 arg4 harg4 arg5 harg5 arg6 harg6 arg7 harg7 arg8 harg8 arg9 harg9 arg10 harg10 arg11 harg11 arg12 harg12 arg13 harg13 hc0 x6 _ le_rfl

include x0 x1 x3 x4 x5 x6 in
/-- The query weights read back. -/
theorem read1 (hc0 : cond0_0 i) : arg12.view.readCov (pb_k0_t1 (F := Ideal) Variants.none c none i arg2 harg2 arg3 harg3 arg4 harg4 arg5 harg5 arg6 harg6 arg7 harg7 arg8 harg8 arg9 harg9 arg10 harg10 arg11 harg11 arg12 harg12 arg13 harg13 hc0 (harg4.unread x2) k0_t1_loop.trips)
    (Rect.unit (s := S2048x512) ![0, 0] S2048x512.size inb_S2048x512_S2048x512_0_0).toLoadRect = wqMat x2 := by
  have h := sout_A2 c i arg2 harg2 arg3 harg3 arg4 harg4 arg5 harg5 arg6 harg6 arg7 harg7 arg8 harg8 arg9 harg9 arg10 harg10 arg11 harg11 arg12 harg12 arg13 harg13 x0 x1 x2 x3 x4 x5 x6 hc0
  unfold sout0_A_2 at h
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 x0 x1 x2 x3 x4 x5 x6)] at h
  unfold kernelRun0_A at h
  dsimp only at h
  rw [View.readCov_eq_canon']
  exact (View.ld_unit_zero (S := S2048x512) hz2 _ _).trans h

include x0 x1 x2 x3 x4 x5 in
/-- The output weights read back. -/
theorem read2 (hc0 : cond0_0 i) : arg13.view.readCov (pb_k0_t2 (F := Ideal) Variants.none c none i arg2 harg2 arg3 harg3 arg4 harg4 arg5 harg5 arg6 harg6 arg7 harg7 arg8 harg8 arg9 harg9 arg10 harg10 arg11 harg11 arg12 harg12 arg13 harg13 hc0 (harg8.unread x6) k0_t2_loop.trips)
    (Rect.unit (s := S512x2048) ![0, 0] S512x2048.size inb_S512x2048_S512x2048_0_0).toLoadRect = woMat x6 := by
  have h := sout_A3 c i arg2 harg2 arg3 harg3 arg4 harg4 arg5 harg5 arg6 harg6 arg7 harg7 arg8 harg8 arg9 harg9 arg10 harg10 arg11 harg11 arg12 harg12 arg13 harg13 x0 x1 x2 x3 x4 x5 x6 hc0
  unfold sout0_A_3 at h
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 x0 x1 x2 x3 x4 x5 x6)] at h
  unfold kernelRun0_A at h
  dsimp only at h
  rw [View.readCov_eq_canon']
  exact (View.ld_unit_zero (S := S512x2048) hz2 _ _).trans h

theorem out_A (hc0 : cond0_0 i) :
    out0_A_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 = pointOut x0 x1 (wqMat x2) x3 x4 x5 (woMat x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  rw [View.canon_unit_zero hz3]
  simp only [View.readAt_eq_ld, harg2.read_unread, harg3.read_unread, harg5.read_unread, harg6.read_unread, harg7.read_unread, harg12.read_unread, harg13.read_unread,
    View.ld_unit_zero (S := S1x1024x2048) hz3, View.ld_unit_zero (S := S1x2048) hz2, View.ld_unit_zero (S := S1x128) hz2, View.ld_unit_zero (S := S2048x512) hz2, View.ld_unit_zero (S := S512x2048) hz2]
  refine Eq.trans ?_ (congrArg (fun o => k0_pay1 (F := Ideal) (k0_pay17 x0) o (woMat x6)) (readO arg11 (hnMat x0 x1) (wqMat x2) x3 x4 x5))
  rw [read3 c i arg2 harg2 arg3 harg3 arg4 harg4 arg5 harg5 arg6 harg6 arg7 harg7 arg8 harg8 arg9 harg9 arg10 harg10 arg11 harg11 arg12 harg12 arg13 harg13 x0 x1]
  rw [← read1 c i arg2 harg2 arg3 harg3 arg4 harg4 arg5 harg5 arg6 harg6 arg7 harg7 arg8 harg8 arg9 harg9 arg10 harg10 arg11 harg11 arg12 harg12 arg13 harg13 x0 x1 x2 x3 x4 x5 x6 hc0]
  rw [← read2 c i arg2 harg2 arg3 harg3 arg4 harg4 arg5 harg5 arg6 harg6 arg7 harg7 arg8 harg8 arg9 harg9 arg10 harg10 arg11 harg11 arg12 harg12 arg13 harg13 x0 x1 x2 x3 x4 x5 x6 hc0]
  rfl

end Points

variable (m : (ℓ : Loc nD τ sig) → Buf (Elt Ideal) ℓ) (c : Dev nD)

abbrev aH : Vec Ideal S2x4096x2048 .f32 := m ((c : Thread nD τ).loc main_arg0)
abbrev aNg : Vec Ideal S1x2048 .f32 := m ((c : Thread nD τ).loc main_arg1)
abbrev aWq : Vec Ideal S1x2048x512 .f32 := m ((c : Thread nD τ).loc main_arg2)
abbrev aQg : Vec Ideal S1x128 .f32 := m ((c : Thread nD τ).loc main_arg3)
abbrev aK : Vec Ideal S2x256x512 .bf16 := m ((c : Thread nD τ).loc main_arg4)
abbrev aV : Vec Ideal S2x256x512 .bf16 := m ((c : Thread nD τ).loc main_arg5)
abbrev aWo : Vec Ideal S1x512x2048 .f32 := m ((c : Thread nD τ).loc main_arg6)

theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = t.val / 4 ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val / 4 ∧ win0_5.index t (1 : Fin 3) = 0 ∧ win0_5.index t (2 : Fin 3) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
theorem lt8 (t : Fin cfg0.N) : t.val < 8 := lt_of_lt_of_eq t.isLt N_0

theorem blk0 (t : Fin cfg0.N) (z : Fin 1) (r : Fin 1024) (q : Fin 2048) :
    (iblk m c 0 t : Vec Ideal S1x1024x2048 .f32) (ix3 z r q) = aH m c (ix3 (Fin.ofNat 2 (t.val / 4)) (Fin.ofNat 4096 (1024 * (t.val % 4) + r.val)) q) := by
  have ht := lt8 t
  have hz := z.isLt
  obtain ⟨e0, e1, e2⟩ := idx0 t
  unfold iblk
  rw [View.read_apply]
  show V m c main_arg0 _ = _
  unfold V
  refine congrArg (m _) (funext fun a => Fin.ext ?_)
  match a with
  | ⟨0, _⟩ => show win0_0.index t (0 : Fin 3) * 1 + 1 * z.val = (t.val / 4) % 2; rw [e0]; omega
  | ⟨1, _⟩ => show win0_0.index t (1 : Fin 3) * 1024 + 1 * r.val = (1024 * (t.val % 4) + r.val) % 4096; rw [e1]; omega
  | ⟨2, _⟩ => show win0_0.index t (2 : Fin 3) * 2048 + 1 * q.val = q.val; rw [e2]; omega

theorem blk4 (t : Fin cfg0.N) (z : Fin 1) (r : Fin 256) (q : Fin 512) :
    (iblk m c 4 t : Vec Ideal S1x256x512 .bf16) (ix3 z r q) = aK m c (ix3 (Fin.ofNat 2 (t.val / 4)) r q) := by
  have ht := lt8 t
  have hz := z.isLt
  obtain ⟨e0, e1, e2⟩ := idx4 t
  unfold iblk
  rw [View.read_apply]
  show V m c main_arg4 _ = _
  unfold V
  refine congrArg (m _) (funext fun a => Fin.ext ?_)
  match a with
  | ⟨0, _⟩ => show win0_4.index t (0 : Fin 3) * 1 + 1 * z.val = (t.val / 4) % 2; rw [e0]; omega
  | ⟨1, _⟩ => show win0_4.index t (1 : Fin 3) * 256 + 1 * r.val = r.val; rw [e1]; omega
  | ⟨2, _⟩ => show win0_4.index t (2 : Fin 3) * 512 + 1 * q.val = q.val; rw [e2]; omega

theorem blk5 (t : Fin cfg0.N) (z : Fin 1) (r : Fin 256) (q : Fin 512) :
    (iblk m c 5 t : Vec Ideal S1x256x512 .bf16) (ix3 z r q) = aV m c (ix3 (Fin.ofNat 2 (t.val / 4)) r q) := by
  have ht := lt8 t
  have hz := z.isLt
  obtain ⟨e0, e1, e2⟩ := idx5 t
  unfold iblk
  rw [View.read_apply]
  show V m c main_arg5 _ = _
  unfold V
  refine congrArg (m _) (funext fun a => Fin.ext ?_)
  match a with
  | ⟨0, _⟩ => show win0_5.index t (0 : Fin 3) * 1 + 1 * z.val = (t.val / 4) % 2; rw [e0]; omega
  | ⟨1, _⟩ => show win0_5.index t (1 : Fin 3) * 256 + 1 * r.val = r.val; rw [e1]; omega
  | ⟨2, _⟩ => show win0_5.index t (2 : Fin 3) * 512 + 1 * q.val = q.val; rw [e2]; omega

theorem blk1 (t : Fin cfg0.N) : (iblk m c 1 t : Vec Ideal S1x2048 .f32) = aNg m c := by
  obtain ⟨e0, e1⟩ := idx1 t
  funext y
  unfold iblk
  rw [View.read_apply]
  show V m c main_arg1 _ = _
  unfold V
  refine congrArg (m _) (funext fun a => Fin.ext ?_)
  match a with
  | ⟨0, _⟩ => show win0_1.index t (0 : Fin 2) * 1 + 1 * (y 0).val = (y 0).val; rw [e0]; omega
  | ⟨1, _⟩ => show win0_1.index t (1 : Fin 2) * 2048 + 1 * (y 1).val = (y 1).val; rw [e1]; omega

theorem blk2 (t : Fin cfg0.N) : (iblk m c 2 t : Vec Ideal S1x2048x512 .f32) = aWq m c := by
  obtain ⟨e0, e1, e2⟩ := idx2 t
  funext y
  unfold iblk
  rw [View.read_apply]
  show V m c main_arg2 _ = _
  unfold V
  refine congrArg (m _) (funext fun a => Fin.ext ?_)
  match a with
  | ⟨0, _⟩ => show win0_2.index t (0 : Fin 3) * 1 + 1 * (y 0).val = (y 0).val; rw [e0]; omega
  | ⟨1, _⟩ => show win0_2.index t (1 : Fin 3) * 2048 + 1 * (y 1).val = (y 1).val; rw [e1]; omega
  | ⟨2, _⟩ => show win0_2.index t (2 : Fin 3) * 512 + 1 * (y 2).val = (y 2).val; rw [e2]; omega

theorem blk3 (t : Fin cfg0.N) : (iblk m c 3 t : Vec Ideal S1x128 .f32) = aQg m c := by
  obtain ⟨e0, e1⟩ := idx3 t
  funext y
  unfold iblk
  rw [View.read_apply]
  show V m c main_arg3 _ = _
  unfold V
  refine congrArg (m _) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem blk6 (t : Fin cfg0.N) : (iblk m c 6 t : Vec Ideal S1x512x2048 .f32) = aWo m c := by
  obtain ⟨e0, e1, e2⟩ := idx6 t
  funext y
  unfold iblk
  rw [View.read_apply]
  show V m c main_arg6 _ = _
  unfold V
  refine congrArg (m _) (funext fun a => Fin.ext ?_)
  match a with
  | ⟨0, _⟩ => show win0_6.index t (0 : Fin 3) * 1 + 1 * (y 0).val = (y 0).val; rw [e0]; omega
  | ⟨1, _⟩ => show win0_6.index t (1 : Fin 3) * 512 + 1 * (y 1).val = (y 1).val; rw [e1]; omega
  | ⟨2, _⟩ => show win0_6.index t (2 : Fin 3) * 2048 + 1 * (y 2).val = (y 2).val; rw [e2]; omega

/-- After every point the output block holds the point's result and the scratches the weights. -/
theorem outs_eq : ∀ (n : ℕ) (hn : n < cfg0.N), (outsAt0 m c n hn).2.1 = wqMat (aWq m c) ∧ (outsAt0 m c n hn).2.2 = woMat (aWo m c)
    ∧ (outsAt0 m c n hn).1 = pointOut (iblk m c 0 ⟨n, hn⟩) (iblk m c 1 ⟨n, hn⟩) (wqMat (aWq m c)) (iblk m c 3 ⟨n, hn⟩) (iblk m c 4 ⟨n, hn⟩) (iblk m c 5 ⟨n, hn⟩) (woMat (aWo m c)) := by
  intro n
  induction n with
  | zero =>
    intro hn
    have h := outsAt0_A m c ⟨0, hn⟩ (Nat.zero_mod _)
    dsimp only at h
    rw [h]
    refine ⟨?_, ?_, ?_⟩
    · dsimp only
      rw [sout_A2, blk2]
    · dsimp only
      rw [sout_A3, blk6]
    · dsimp only
      rw [out_A, blk2, blk6]
  | succ n ih =>
    intro hn
    have h0 : ¬(n + 1) % 8 = 0 := by have := lt8 ⟨n + 1, hn⟩; dsimp only at this; omega
    have h := outsAt0_B m c ⟨n + 1, hn⟩ h0
    dsimp only [Nat.add_sub_cancel] at h
    obtain ⟨i1, i2, -⟩ := ih (Nat.lt_of_succ_lt hn)
    rw [h]
    refine ⟨i1, i2, ?_⟩
    dsimp only
    rw [out_B]
    exact congrArg₂ (fun s u => pointOut _ _ s _ _ _ u) i1 i2

theorem point_apply (t : Fin cfg0.N) (z : Fin 1) (r : Fin 1024) (d : Fin 2048) :
    pointOut (iblk m c 0 t) (iblk m c 1 t) (wqMat (aWq m c)) (iblk m c 3 t) (iblk m c 4 t) (iblk m c 5 t) (woMat (aWo m c)) (ix3 z r d)
      = aH m c (ix3 (Fin.ofNat 2 (t.val / 4)) (Fin.ofNat 4096 (1024 * (t.val % 4) + r.val)) d)
        + ∑ k : Fin 512, attAt (scoreAt (fun e => ∑ q : Fin 2048, rmsAt (fun q => aH m c (ix3 (Fin.ofNat 2 (t.val / 4)) (Fin.ofNat 4096 (1024 * (t.val % 4) + r.val)) q)) (fun q => aNg m c (ix2 0 q)) q * aWq m c (ix3 0 q e))
            (fun i => aQg m c (ix2 0 i)) (fun j i => aK m c (ix3 (Fin.ofNat 2 (t.val / 4)) j (col (hd k) i))) (hd k)) (fun j => aV m c (ix3 (Fin.ofNat 2 (t.val / 4)) j k)) * aWo m c (ix3 0 k d) := by
  unfold pointOut
  rw [pay1_apply, pay17_apply, blk0]
  refine congrArg (_ + ·) (Finset.sum_congr rfl fun k _ => congrArg (· * aWo m c (ix3 0 k d)) ?_)
  show attAt (scoreAt (fun e => k0_pay5 (F := Ideal) (hnMat (iblk m c 0 t) (iblk m c 1 t)) (wqMat (aWq m c)) (ix2 r e)) (fun i => (iblk m c 3 t : Vec Ideal S1x128 .f32) (ix2 0 i))
    (fun j i => (iblk m c 4 t : Vec Ideal S1x256x512 .bf16) (ix3 0 j (col (hd k) i))) (hd k)) (fun j => (iblk m c 5 t : Vec Ideal S1x256x512 .bf16) (ix3 0 j k)) = _
  simp only [pay5_apply, blk4, blk5]
  rw [blk1, blk3]
  have e : ∀ q : Fin 2048, hnMat (iblk m c 0 t) (aNg m c) (ix2 r q)
      = rmsAt (fun q => aH m c (ix3 (Fin.ofNat 2 (t.val / 4)) (Fin.ofNat 4096 (1024 * (t.val % 4) + r.val)) q)) (fun q => aNg m c (ix2 0 q)) q := fun q =>
    congrArg (fun f => rmsAt f _ q) (funext fun q => blk0 m c t 0 r q)
  simp only [e]
  rfl

/-- The kernel's result at an index. -/
theorem G7_apply (b : Fin 2) (r : Fin 4096) (d : Fin 2048) :
    (G7 m c : Vec Ideal S2x4096x2048 .f32) (ix3 b r d)
      = aH m c (ix3 b r d) + ∑ k : Fin 512, attAt (scoreAt (fun e => ∑ q : Fin 2048, rmsAt (fun q => aH m c (ix3 b r q)) (fun q => aNg m c (ix2 0 q)) q * aWq m c (ix3 0 q e))
            (fun i => aQg m c (ix2 0 i)) (fun j i => aK m c (ix3 b j (col (hd k) i))) (hd k)) (fun j => aV m c (ix3 b j k)) * aWo m c (ix3 0 k d) := by
  have hb := b.isLt
  have hr := r.isLt
  have hd := d.isLt
  have hp : pt7Of (ix3 b r d) = 4 * b.val + r.val / 1024 := by
    show 4 * (b.val / 1 - 0) + 1 * (r.val / 1024 - 0) + 1 * (d.val / 2048 - 0) = _
    omega
  have hlt : pt7Of (ix3 b r d) < cfg0.N := lt_of_lt_of_eq (by rw [hp]; omega) N_0.symm
  unfold G7
  rw [dif_pos hlt, ← outsAt0_sweep m c _ hlt]
  have hl : loc7Of (ix3 b r d) = ix3 (0 : Fin 1) (⟨r.val % 1024, Nat.mod_lt _ (by decide)⟩ : Fin 1024) d := by
    funext a; apply Fin.ext
    match a with
    | ⟨0, _⟩ => show b.val % 1 = 0; omega
    | ⟨1, _⟩ => rfl
    | ⟨2, _⟩ => show d.val % 2048 = d.val; omega
  rw [hl, (outs_eq m c _ hlt).2.2, point_apply]
  have e2 : Fin.ofNat 2 (pt7Of (ix3 b r d) / 4) = b := Fin.ext (by rw [hp]; show ((4 * b.val + r.val / 1024) / 4) % 2 = b.val; omega)
  have e3 : Fin.ofNat 4096 (1024 * (pt7Of (ix3 b r d) % 4) + r.val % 1024) = r := Fin.ext (by rw [hp]; show (1024 * ((4 * b.val + r.val / 1024) % 4) + r.val % 1024) % 4096 = r.val; omega)
  dsimp only at e2 e3 ⊢
  rw [e2, e3]

end Cert.CrossProof

end
-- ==== Proof.CrossPre.lean ====
/- What the precondition says: the entries are real numbers. -/
module

public import proofs.«01_k».proof.Proof.CrossMath
public import proofs.«01_k».proof.Pre_finite_scores_inputs

@[expose] public section

noncomputable section

namespace Cert.CrossProof

open Idealize.ShloMosaic

instance preFacts : Cert.Pre_finite_scores_inputs.Facts where
  bcast_S_S1x128 := by decide
  bcast_S_S2x256x512 := by decide

/-- What is less than infinity in magnitude is real. -/
theorem Fin'.of_abs {x : EReal} (h : Ideal.cmp .olt (max x (-x)) ⊤ = 1#1) : Fin' x := by
  induction x with
  | bot => simp [Ideal.cmp] at h
  | top => simp [Ideal.cmp] at h
  | coe r => exact ⟨r, rfl⟩

theorem bitsInf32 : Ideal.ofBits .f32 0x7F800000#32 = ⊤ := by simp [Ideal.ofBits, Ideal.ieee]
theorem bitsInf16 : Ideal.ofBits .bf16 0x7F80#16 = ⊤ := by simp [Ideal.ofBits, Ideal.ieee]

theorem real32 {S₀ S : Shape} (x : FVec Ideal S .f32) {f : Fin S₀.rank → Fin S.rank} (hb : S₀.BroadcastsInDim S f)
    (h : cmpf .olt (Host.absf x) (broadcastInDim S f hb (constant (F := Ideal) S₀ .f32 0x7F800000#32)) = fun _ => 1#1) (y : S.Idx) : Fin' (x y) := by
  have h' : Ideal.cmp .olt (max (x y) (-(x y))) (Ideal.ofBits .f32 0x7F800000#32) = 1#1 := congrFun h y
  rw [bitsInf32] at h'
  exact Fin'.of_abs h'

theorem real16 {S₀ S : Shape} (x : FVec Ideal S .bf16) {f : Fin S₀.rank → Fin S.rank} (hb : S₀.BroadcastsInDim S f)
    (h : cmpf .olt (Host.absf x) (broadcastInDim S f hb (constant (F := Ideal) S₀ .bf16 0x7F80#16)) = fun _ => 1#1) (y : S.Idx) : Fin' (x y) := by
  have h' : Ideal.cmp .olt (max (x y) (-(x y))) (Ideal.ofBits .bf16 0x7F80#16) = 1#1 := congrFun h y
  rw [bitsInf16] at h'
  exact Fin'.of_abs h'

end Cert.CrossProof

end
-- ==== Proof.lean ====
/- The proof of the claim: each call's runs, its frames, and the equation of its idealized program with its reference's. -/
module

public import proofs.«01_k».proof.Defs
public import proofs.«01_k».proof.Proof.Gen.Mlp.Frame
public import proofs.«01_k».proof.Proof.Gen.MlpIdeal.Value
public import proofs.«01_k».proof.Proof.Gen.MlpRefIdeal.Run
public import proofs.«01_k».proof.Proof.MlpRef
public import proofs.«01_k».proof.Proof.Gen.Hgrn
public import proofs.«01_k».proof.Proof.Gen.Hgrn.Skeleton
public import proofs.«01_k».proof.Proof.Gen.Hgrn.Loops
public import proofs.«01_k».proof.Proof.Gen.Hgrn.Launch
public import proofs.«01_k».proof.Proof.HgrnFrame
public import proofs.«01_k».proof.Proof.Gen.HgrnIdeal
public import proofs.«01_k».proof.Proof.Gen.HgrnIdeal.Skeleton
public import proofs.«01_k».proof.Proof.Gen.HgrnIdeal.Loops
public import proofs.«01_k».proof.Proof.Gen.HgrnIdeal.Launch
public import proofs.«01_k».proof.Proof.HgrnIdealFrame
public import proofs.«01_k».proof.Proof.Gen.Inproj
public import proofs.«01_k».proof.Proof.Gen.Inproj.Skeleton
public import proofs.«01_k».proof.Proof.Gen.Inproj.Loops
public import proofs.«01_k».proof.Proof.Gen.Inproj.Launch
public import proofs.«01_k».proof.Proof.InprojFrame
public import proofs.«01_k».proof.Proof.Gen.InprojIdeal
public import proofs.«01_k».proof.Proof.Gen.InprojIdeal.Skeleton
public import proofs.«01_k».proof.Proof.Gen.InprojIdeal.Loops
public import proofs.«01_k».proof.Proof.Gen.InprojIdeal.Launch
public import proofs.«01_k».proof.Proof.InprojIdealFrame
public import proofs.«01_k».proof.Proof.Gen.InprojRefIdeal.Run
public import proofs.«01_k».proof.Proof.InprojRef
public import proofs.«01_k».proof.Proof.Gen.Outproj.Frame
public import proofs.«01_k».proof.Proof.Gen.OutprojIdeal.Value
public import proofs.«01_k».proof.Proof.Gen.OutprojRefIdeal.Run
public import proofs.«01_k».proof.Proof.OutprojRef
public import proofs.«01_k».proof.Proof.Gen.Memkv.Frame
public import proofs.«01_k».proof.Proof.Gen.MemkvIdeal.Value
public import proofs.«01_k».proof.Proof.Gen.MemkvRefIdeal.Run
public import proofs.«01_k».proof.Proof.MemkvRef
public import proofs.«01_k».proof.Proof.Gen.Cross.Frame
public import proofs.«01_k».proof.Proof.Gen.CrossIdeal.Value
public import proofs.«01_k».proof.Proof.Gen.CrossRefIdeal.Run
public import proofs.«01_k».proof.Proof.CrossRef
public import proofs.«01_k».proof.Proof.CrossValue
public import proofs.«01_k».proof.Proof.CrossPre
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_MlpRefIdeal : quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

theorem quiescent_InprojRefIdeal : quiescent_InprojRefIdeal := fun m ρ _ =>
  (θ_run Cert.InprojRefIdeal.defs _ _).mono (fun r h => ⟨fun c => (h c).2, sem_eq_zero_of_no_sems (by decide) r.2⟩)
    (Cert.InprojRefIdeal.Value.run (F := Ideal) m ρ)

theorem quiescent_OutprojRefIdeal : quiescent_OutprojRefIdeal := fun m ρ _ =>
  (θ_run Cert.OutprojRefIdeal.defs _ _).mono (fun r h => ⟨fun c => (h c).2, sem_eq_zero_of_no_sems (by decide) r.2⟩)
    (Cert.OutprojRefIdeal.Value.run (F := Ideal) m ρ)

theorem quiescent_MemkvRefIdeal : quiescent_MemkvRefIdeal := fun m ρ _ =>
  (θ_run Cert.MemkvRefIdeal.defs _ _).mono (fun r h => ⟨fun c => (h c).2.2, sem_eq_zero_of_no_sems (by decide) r.2⟩)
    (Cert.MemkvRefIdeal.Value.run (F := Ideal) m ρ)

theorem quiescent_CrossRefIdeal : quiescent_CrossRefIdeal := fun m ρ _ =>
  (θ_run Cert.CrossRefIdeal.defs _ _).mono (fun r h => ⟨fun c => (h c).2, sem_eq_zero_of_no_sems (by decide) r.2⟩)
    (Cert.CrossRefIdeal.Value.run (F := Ideal) m ρ)

theorem algebraic_MlpIdeal_MlpRefIdeal : algebraic_MlpIdeal_MlpRefIdeal := by
  intro m ρ m' ρ' _ hagree
  refine ⟨_, Cert.MlpIdeal.Value.run (F := Ideal) m ρ, ?_⟩
  refine (θ_run Cert.MlpRefIdeal.defs _ _).mono (fun _ h c => ⟨?_, (h c).2⟩) (Cert.MlpRefIdeal.Value.run (F := Ideal) m' ρ')
  rw [(h c).1]
  funext y
  obtain ⟨r, d, rfl⟩ : ∃ (r : Fin 8192) (d : Fin 2048), y = ix2 r d := ⟨y 0, y 1, eq_ix2 y⟩
  refine Eq.trans ?_ (Cert.MlpProof.G4_apply m c r d).symm
  obtain ⟨e0, e1, e2, e3⟩ := hagree c
  rw [e0, e1, e2, e3]
  exact Cert.MlpProof.ref_apply _ _ _ _ r d

theorem algebraic_InprojIdeal_InprojRefIdeal : algebraic_InprojIdeal_InprojRefIdeal := by
  intro m ρ m' ρ' _ hagree
  refine ⟨_, Cert.InprojProof.run m ρ, ?_⟩
  refine (θ_run Cert.InprojRefIdeal.defs _ _).mono (fun _ h c => ⟨?_, (h c).2⟩) (Cert.InprojRefIdeal.Value.run (F := Ideal) m' ρ')
  rw [(h c).1]
  funext y
  obtain ⟨r, d, rfl⟩ : ∃ (r : Fin 8192) (d : Fin 8448), y = ix2 r d := ⟨y 0, y 1, eq_ix2 y⟩
  show _ = Cert.InprojProof.projAt _ _ _ r d
  obtain ⟨e0, e1, e2⟩ := hagree c
  rw [e0, e1, e2]
  exact Cert.InprojProof.ref_apply _ _ _ r d

theorem algebraic_OutprojIdeal_OutprojRefIdeal : algebraic_OutprojIdeal_OutprojRefIdeal := by
  intro m ρ m' ρ' _ hagree
  refine ⟨_, Cert.OutprojIdeal.Value.run (F := Ideal) m ρ, ?_⟩
  refine (θ_run Cert.OutprojRefIdeal.defs _ _).mono (fun _ h c => ⟨?_, (h c).2⟩) (Cert.OutprojRefIdeal.Value.run (F := Ideal) m' ρ')
  rw [(h c).1]
  funext y
  obtain ⟨r, d, rfl⟩ : ∃ (r : Fin 8192) (d : Fin 2048), y = ix2 r d := ⟨y 0, y 1, eq_ix2 y⟩
  refine Eq.trans ?_ (Cert.OutProof.G4_apply m c r d).symm
  obtain ⟨e0, e1, e2, e3⟩ := hagree c
  rw [e0, e1, e2, e3]
  exact Cert.OutProof.ref_apply _ _ _ _ r d

theorem algebraic_MemkvIdeal_MemkvRefIdeal : algebraic_MemkvIdeal_MemkvRefIdeal := by
  intro m ρ m' ρ' _ hagree
  refine ⟨_, _, Cert.MemProof.run m ρ, ?_⟩
  refine (θ_run Cert.MemkvRefIdeal.defs _ _).mono (fun _ h c => ⟨?_, ?_, (h c).2.2⟩) (Cert.MemkvRefIdeal.Value.run (F := Ideal) m' ρ')
  · rw [(h c).1]
    funext y
    obtain ⟨b, r, d, rfl⟩ : ∃ (b : Fin 2) (r : Fin 256) (d : Fin 512), y = ix3 b r d := ⟨y 0, y 1, y 2, eq_ix3 y⟩
    obtain ⟨e0, e1, e2, e3, e4⟩ := hagree c
    rw [e0, e1, e2, e4]
    exact Cert.MemProof.refKeys_apply _ _ _ _ b r d
  · rw [(h c).2.1]
    funext y
    obtain ⟨b, r, d, rfl⟩ : ∃ (b : Fin 2) (r : Fin 256) (d : Fin 512), y = ix3 b r d := ⟨y 0, y 1, y 2, eq_ix3 y⟩
    obtain ⟨e0, e1, e2, e3, e4⟩ := hagree c
    rw [e0, e1, e3]
    exact Cert.MemProof.refProj_apply _ _ _ b r d

theorem algebraic_CrossIdeal_CrossRefIdeal_pre_finite_scores_inputs : algebraic_CrossIdeal_CrossRefIdeal_pre_finite_scores_inputs := by
  intro m ρ m' ρ' hpre hagree
  refine ⟨_, Cert.CrossIdeal.Value.run (F := Ideal) m ρ, ?_⟩
  refine (θ_run Cert.CrossRefIdeal.defs _ _).mono (fun _ h c => ⟨?_, (h c).2⟩) (Cert.CrossRefIdeal.Value.run (F := Ideal) m' ρ')
  rw [(h c).1, Cert.CrossProof.res_eq]
  funext y
  obtain ⟨b, r, d, rfl⟩ : ∃ (b : Fin 2) (r : Fin 4096) (d : Fin 2048), y = ix3 b r d := ⟨y 0, y 1, y 2, eq_ix3 y⟩
  refine Eq.trans ?_ (Cert.CrossProof.G7_apply m c b r d).symm
  obtain ⟨e0, e1, e2, e3, e4, e5, e6⟩ := hagree c
  obtain ⟨p3, p4⟩ := hpre c
  rw [e0, e1, e2, e3, e4, e5, e6]
  exact Cert.CrossProof.ref_eq _ _ _ _ _ _ _ (Cert.CrossProof.real32 _ _ p3) (Cert.CrossProof.real16 _ _ p4) b r d

theorem claim : Cert.Claim := ⟨Cert.Mlp.Gen.facts,
  Cert.MlpIdeal.Gen.facts,
  Cert.MlpRefIdeal.Gen.facts,
  Cert.Hgrn.Gen.facts,
  Cert.HgrnIdeal.Gen.facts,
  Cert.Inproj.Gen.facts,
  Cert.InprojIdeal.Gen.facts,
  Cert.InprojRefIdeal.Gen.facts,
  Cert.Outproj.Gen.facts,
  Cert.OutprojIdeal.Gen.facts,
  Cert.OutprojRefIdeal.Gen.facts,
  Cert.Memkv.Gen.facts,
  Cert.MemkvIdeal.Gen.facts,
  Cert.MemkvRefIdeal.Gen.facts,
  Cert.Cross.Gen.facts,
  Cert.CrossIdeal.Gen.facts,
  Cert.CrossRefIdeal.Gen.facts,
  Cert.CrossProof.preFacts,
  fun m ρ _ => Cert.Mlp.Gen.frame m ρ,
  fun m ρ _ => Cert.MlpIdeal.Gen.frame m ρ,
  quiescent_MlpRefIdeal,
  fun m ρ _ => Cert.Hgrn.Gen.frame m ρ,
  fun m ρ _ => Cert.HgrnIdeal.Gen.frame m ρ,
  fun m ρ _ => Cert.Inproj.Gen.frame m ρ,
  fun m ρ _ => Cert.InprojIdeal.Gen.frame m ρ,
  quiescent_InprojRefIdeal,
  fun m ρ _ => Cert.Outproj.Gen.frame m ρ,
  fun m ρ _ => Cert.OutprojIdeal.Gen.frame m ρ,
  quiescent_OutprojRefIdeal,
  fun m ρ _ => Cert.Memkv.Gen.frame m ρ,
  fun m ρ _ => Cert.MemkvIdeal.Gen.frame m ρ,
  quiescent_MemkvRefIdeal,
  fun m ρ _ => Cert.Cross.Gen.frame m ρ,
  fun m ρ _ => Cert.CrossIdeal.Gen.frame m ρ,
  fun m ρ _ => Cert.CrossIdeal.Gen.frame m ρ,
  quiescent_CrossRefIdeal,
  fun m ρ _ => quiescent_CrossRefIdeal m ρ trivial,
  (trivial : preserves_Mlp_MlpIdeal),
  algebraic_MlpIdeal_MlpRefIdeal,
  (IdealRules.named_const.statement Cert.HgrnIdeal.κ "log2e" .f32 0x3FB8AA3B#32 (((Real.log 2)⁻¹ : ℝ) : EReal) rfl : preserves_Hgrn_HgrnIdeal),
  (trivial : preserves_Inproj_InprojIdeal),
  algebraic_InprojIdeal_InprojRefIdeal,
  (trivial : preserves_Outproj_OutprojIdeal),
  algebraic_OutprojIdeal_OutprojRefIdeal,
  (trivial : preserves_Memkv_MemkvIdeal),
  algebraic_MemkvIdeal_MemkvRefIdeal,
  (trivial : preserves_Cross_CrossIdeal),
  algebraic_CrossIdeal_CrossRefIdeal_pre_finite_scores_inputs⟩

end Cert.Proof

end
